-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_experts_exist : Cert.Pre_experts_exist.Facts] (m : (ℓ : Loc Cert.Kernel7.nD Cert.Kernel7.τ Cert.Kernel7.sig) → Buf (Elt Bits) ℓ) : Prop :=
  ∀ c : Dev Cert.Kernel7.nD,
    (Cert.Pre_experts_exist.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6))) = (fun _ => 1#1)

def Pre_Kernel7Ideal [hPre_experts_exist : Cert.Pre_experts_exist.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_experts_exist.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_experts_exist [hPre_experts_exist : Cert.Pre_experts_exist.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_experts_exist.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] [hPre_experts_exist : Cert.Pre_experts_exist.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] [hPre_experts_exist : Cert.Pre_experts_exist.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_experts_exist [hReference7Ideal : Cert.Reference7Ideal.Facts] [hPre_experts_exist : Cert.Pre_experts_exist.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_experts_exist m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v7)) (v3 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_v11) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v10)) (v2 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_v9) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] [hPre_experts_exist : Cert.Pre_experts_exist.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v15)) (v3 : (c : Dev Cert.Kernel9Ideal.nD) → Buf (Elt Ideal) ((c.tc : Thread Cert.Kernel9Ideal.nD Cert.Kernel9Ideal.τ).loc Cert.Kernel9Ideal.main_v19)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v15) = v2 c
          ∧ r.2.mem ((c.tc : Thread Cert.Kernel9Ideal.nD Cert.Kernel9Ideal.τ).loc Cert.Kernel9Ideal.main_v19) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v12) = v1 c
          ∧ r.2.mem ((c.tc : Thread Cert.Reference9Ideal.nD Cert.Reference9Ideal.τ).loc Cert.Reference9Ideal.main_v13) = v2 c
          ∧ r.2.mem ((c.tc : Thread Cert.Reference9Ideal.nD Cert.Reference9Ideal.τ).loc Cert.Reference9Ideal.main_v14) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v11)) (v2 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v11) = v1 c
          ∧ r.2.mem ((c.tc : Thread Cert.Kernel10Ideal.nD Cert.Kernel10Ideal.τ).loc Cert.Kernel10Ideal.main_v10) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_experts_exist := hPre_experts_exist)
    ∧ quiescent_Kernel7Ideal (hKernel7Ideal := hKernel7Ideal) (hPre_experts_exist := hPre_experts_exist)
    ∧ quiescent_Reference7Ideal (hReference7Ideal := hReference7Ideal)
    ∧ quiescent_Reference7Ideal_pre_experts_exist (hReference7Ideal := hReference7Ideal) (hPre_experts_exist := hPre_experts_exist)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_experts_exist := hPre_experts_exist)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_experts_exist.lean ====
abbrev S368 : Shape := ⟨1, ![368]⟩
abbrev S1 : Shape := ⟨1, ![1]⟩
abbrev S94208x1024 : Shape := ⟨2, ![94208, 1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S368 : S_.BroadcastsInDim S368 (![] : Fin 0 → Fin S368.rank)

variable [Facts]

def fn {F : FTy → Type} [FloatOps F] (main_arg0 : IVec S368 32) (main_arg1 : IVec S368 32) (main_arg2 : IVec S1 32) (main_arg3 : FVec F S94208x1024 .f32) (main_arg4 : FVec F S32x1024x256 .f32) (main_arg5 : FVec F S32x1024x256 .f32) (main_arg6 : FVec F S32x256x1024 .f32) : IVec S368 1 :=
  let main_c : IVec S_ 32 := constantI S_ 32 0#32
  let main_v0 : IVec S368 32 := broadcastInDim S368 ![] bcast_S_S368 main_c
  let main_v1 : IVec S368 1 := cmpi .sge main_arg0 main_v0
  let main_c_0 : IVec S_ 32 := constantI S_ 32 32#32
  let main_v2 : IVec S368 32 := broadcastInDim S368 ![] bcast_S_S368 main_c_0
  let main_v3 : IVec S368 1 := cmpi .slt main_arg0 main_v2
  let main_v4 : IVec S368 1 := andi main_v1 main_v3
  let main_c_1 : IVec S_ 32 := constantI S_ 32 0#32
  let main_v5 : IVec S368 32 := broadcastInDim S368 ![] bcast_S_S368 main_c_1
  let main_v6 : IVec S368 1 := cmpi .sge main_arg1 main_v5
  let main_v7 : IVec S368 1 := andi main_v4 main_v6
  let main_c_2 : IVec S_ 32 := constantI S_ 32 32#32
  let main_v8 : IVec S368 32 := broadcastInDim S368 ![] bcast_S_S368 main_c_2
  let main_v9 : IVec S368 1 := cmpi .slt main_arg1 main_v8
  let main_v10 : IVec S368 1 := andi main_v7 main_v9
  main_v10
-- ==== Kernel.lean ====
abbrev S16x4096x512 : Shape := ⟨3, ![16, 4096, 512]⟩
abbrev S16x4096x128 : Shape := ⟨3, ![16, 4096, 128]⟩
abbrev S32x8 : Shape := ⟨2, ![32, 8]⟩
abbrev S8 : Shape := ⟨1, ![8]⟩
abbrev S192 : Shape := ⟨1, ![192]⟩
abbrev S_ : Shape := ⟨0, ![]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S64x192x1 : Shape := ⟨3, ![64, 192, 1]⟩
abbrev S64x192x8 : Shape := ⟨3, ![64, 192, 8]⟩
abbrev S8x64x192 : Shape := ⟨3, ![8, 64, 192]⟩
abbrev S4096x16x512 : Shape := ⟨3, ![4096, 16, 512]⟩
abbrev S65536x512 : Shape := ⟨2, ![65536, 512]⟩
abbrev S4096x16x128 : Shape := ⟨3, ![4096, 16, 128]⟩
abbrev S65536x128 : Shape := ⟨2, ![65536, 128]⟩
abbrev S1x64x192 : Shape := ⟨3, ![1, 64, 192]⟩
abbrev S192x64 : Shape := ⟨2, ![192, 64]⟩
abbrev S192x128 : Shape := ⟨2, ![192, 128]⟩
abbrev S1x192x128 : Shape := ⟨3, ![1, 192, 128]⟩
abbrev S4x192x128 : Shape := ⟨3, ![4, 192, 128]⟩
abbrev S1x64 : Shape := ⟨2, ![1, 64]⟩
abbrev S1 : Shape := ⟨1, ![1]⟩
abbrev S1x128 : Shape := ⟨2, ![1, 128]⟩
abbrev S1x1x128 : Shape := ⟨3, ![1, 1, 128]⟩
abbrev S4x1x128 : Shape := ⟨3, ![4, 1, 128]⟩
abbrev S1024x128 : Shape := ⟨2, ![1024, 128]⟩
abbrev S1024x512 : Shape := ⟨2, ![1024, 512]⟩
abbrev S4x1024x128 : Shape := ⟨3, ![4, 1024, 128]⟩
abbrev S64x128 : Shape := ⟨2, ![64, 128]⟩
abbrev S128x128 : Shape := ⟨2, ![128, 128]⟩
abbrev S128 : Shape := ⟨1, ![128]⟩
abbrev S1x64x128 : Shape := ⟨3, ![1, 64, 128]⟩
abbrev S1x1024x128 : Shape := ⟨3, ![1, 1024, 128]⟩

abbrev nBuf : Space → Nat
  | .hbm => 158
  | .vmem => 25
  | .smem => 0
  | _ => 0

abbrev hbmTy0_0 (i : Nat) : BufTy := match i % 128 with
  | 0 => ⟨S16x4096x512, .f32⟩
  | 1 => ⟨S16x4096x128, .f32⟩
  | 2 => ⟨S16x4096x128, .f32⟩
  | 3 => ⟨S32x8, .f32⟩
  | 4 => ⟨S8, .f32⟩
  | 5 => ⟨S192, .i32⟩
  | 6 => ⟨S_, .i32⟩
  | 7 => ⟨S192, .i32⟩
  | 8 => ⟨S192, .i32⟩
  | 9 => ⟨S1x192, .i32⟩
  | 10 => ⟨S64, .i32⟩
  | 11 => ⟨S64x1, .i32⟩
  | 12 => ⟨S64x192, .i32⟩
  | 13 => ⟨S64x192, .i32⟩
  | 14 => ⟨S64x192, .i32⟩
  | 15 => ⟨S64x192, .i32⟩
  | 16 => ⟨S_, .i32⟩
  | 17 => ⟨S64x192, .i32⟩
  | 18 => ⟨S64x192, .i32⟩
  | 19 => ⟨S64x192, .f32⟩
  | 20 => ⟨S_, .f32⟩
  | 21 => ⟨S64x192, .f32⟩
  | 22 => ⟨S64x192, .f32⟩
  | 23 => ⟨S64x192, .f32⟩
  | 24 => ⟨S_, .f32⟩
  | 25 => ⟨S64x192, .f32⟩
  | 26 => ⟨S64x192, .f32⟩
  | 27 => ⟨S_, .f32⟩
  | 28 => ⟨S64x192, .f32⟩
  | 29 => ⟨S64x192, .f32⟩
  | 30 => ⟨S64x192, .i32⟩
  | 31 => ⟨S_, .i32⟩
  | 32 => ⟨S64x192, .i32⟩
  | 33 => ⟨S64x192, .i32⟩
  | 34 => ⟨S_, .i32⟩
  | 35 => ⟨S64x192, .i32⟩
  | 36 => ⟨S64x192, .i32⟩
  | 37 => ⟨S_, .i32⟩
  | 38 => ⟨S64x192, .i32⟩
  | 39 => ⟨S64x192, .i1⟩
  | 40 => ⟨S_, .i32⟩
  | 41 => ⟨S_, .i32⟩
  | 42 => ⟨S64x192, .i32⟩
  | 43 => ⟨S64x192, .i32⟩
  | 44 => ⟨S64x192, .i32⟩
  | 45 => ⟨S_, .i32⟩
  | 46 => ⟨S64x192, .i32⟩
  | 47 => ⟨S64x192, .i1⟩
  | 48 => ⟨S64x192, .i32⟩
  | 49 => ⟨S64x192, .i32⟩
  | 50 => ⟨S64x192, .i32⟩
  | 51 => ⟨S_, .i32⟩
  | 52 => ⟨S64x192, .i32⟩
  | 53 => ⟨S64x192, .i1⟩
  | 54 => ⟨S_, .i32⟩
  | 55 => ⟨S64x192, .i32⟩
  | 56 => ⟨S64x192, .i32⟩
  | 57 => ⟨S64x192, .i32⟩
  | 58 => ⟨S64x192x1, .i32⟩
  | 59 => ⟨S64x192x8, .f32⟩
  | 60 => ⟨S8x64x192, .f32⟩
  | 61 => ⟨S4096x16x512, .f32⟩
  | 62 => ⟨S65536x512, .f32⟩
  | 63 => ⟨S4096x16x128, .f32⟩
  | 64 => ⟨S65536x128, .f32⟩
  | 65 => ⟨S4096x16x128, .f32⟩
  | 66 => ⟨S65536x128, .f32⟩
  | 67 => ⟨S1x64x192, .f32⟩
  | 68 => ⟨S64x192, .f32⟩
  | 69 => ⟨S192x64, .f32⟩
  | 70 => ⟨S1x64x192, .f32⟩
  | 71 => ⟨S64x192, .f32⟩
  | 72 => ⟨S192x64, .f32⟩
  | 73 => ⟨S192x128, .f32⟩
  | 74 => ⟨S1x64x192, .f32⟩
  | 75 => ⟨S64x192, .f32⟩
  | 76 => ⟨S192x64, .f32⟩
  | 77 => ⟨S1x64x192, .f32⟩
  | 78 => ⟨S64x192, .f32⟩
  | 79 => ⟨S192x64, .f32⟩
  | 80 => ⟨S192x128, .f32⟩
  | 81 => ⟨S1x64x192, .f32⟩
  | 82 => ⟨S64x192, .f32⟩
  | 83 => ⟨S192x64, .f32⟩
  | 84 => ⟨S1x64x192, .f32⟩
  | 85 => ⟨S64x192, .f32⟩
  | 86 => ⟨S192x64, .f32⟩
  | 87 => ⟨S192x128, .f32⟩
  | 88 => ⟨S1x64x192, .f32⟩
  | 89 => ⟨S64x192, .f32⟩
  | 90 => ⟨S192x64, .f32⟩
  | 91 => ⟨S1x64x192, .f32⟩
  | 92 => ⟨S64x192, .f32⟩
  | 93 => ⟨S192x64, .f32⟩
  | 94 => ⟨S192x128, .f32⟩
  | 95 => ⟨S1x192x128, .f32⟩
  | 96 => ⟨S1x192x128, .f32⟩
  | 97 => ⟨S1x192x128, .f32⟩
  | 98 => ⟨S1x192x128, .f32⟩
  | 99 => ⟨S4x192x128, .f32⟩
  | 100 => ⟨S_, .f32⟩
  | 101 => ⟨S1x64, .f32⟩
  | 102 => ⟨S1, .f32⟩
  | 103 => ⟨S_, .f32⟩
  | 104 => ⟨S1x64, .f32⟩
  | 105 => ⟨S1x64, .f32⟩
  | 106 => ⟨S_, .f32⟩
  | 107 => ⟨S1x64, .f32⟩
  | 108 => ⟨S1, .f32⟩
  | 109 => ⟨S_, .f32⟩
  | 110 => ⟨S1x64, .f32⟩
  | 111 => ⟨S1x64, .f32⟩
  | 112 => ⟨S1x128, .f32⟩
  | 113 => ⟨S_, .f32⟩
  | 114 => ⟨S1x64, .f32⟩
  | 115 => ⟨S1, .f32⟩
  | 116 => ⟨S_, .f32⟩
  | 117 => ⟨S1x64, .f32⟩
  | 118 => ⟨S1x64, .f32⟩
  | 119 => ⟨S_, .f32⟩
  | 120 => ⟨S1x64, .f32⟩
  | 121 => ⟨S1, .f32⟩
  | 122 => ⟨S_, .f32⟩
  | 123 => ⟨S1x64, .f32⟩
  | 124 => ⟨S1x64, .f32⟩
  | 125 => ⟨S1x128, .f32⟩
  | 126 => ⟨S_, .f32⟩
  | 127 => ⟨S1x64, .f32⟩
  | _ => ⟨S16x4096x512, .f32⟩

abbrev hbmTy0_1 (i : Nat) : BufTy := match i % 128 with
  | 0 => ⟨S1, .f32⟩
  | 1 => ⟨S_, .f32⟩
  | 2 => ⟨S1x64, .f32⟩
  | 3 => ⟨S1x64, .f32⟩
  | 4 => ⟨S_, .f32⟩
  | 5 => ⟨S1x64, .f32⟩
  | 6 => ⟨S1, .f32⟩
  | 7 => ⟨S_, .f32⟩
  | 8 => ⟨S1x64, .f32⟩
  | 9 => ⟨S1x64, .f32⟩
  | 10 => ⟨S1x128, .f32⟩
  | 11 => ⟨S_, .f32⟩
  | 12 => ⟨S1x64, .f32⟩
  | 13 => ⟨S1, .f32⟩
  | 14 => ⟨S_, .f32⟩
  | 15 => ⟨S1x64, .f32⟩
  | 16 => ⟨S1x64, .f32⟩
  | 17 => ⟨S_, .f32⟩
  | 18 => ⟨S1x64, .f32⟩
  | 19 => ⟨S1, .f32⟩
  | 20 => ⟨S_, .f32⟩
  | 21 => ⟨S1x64, .f32⟩
  | 22 => ⟨S1x64, .f32⟩
  | 23 => ⟨S1x128, .f32⟩
  | 24 => ⟨S1x1x128, .f32⟩
  | 25 => ⟨S1x1x128, .f32⟩
  | 26 => ⟨S1x1x128, .f32⟩
  | 27 => ⟨S1x1x128, .f32⟩
  | 28 => ⟨S4x1x128, .f32⟩
  | 29 => ⟨S65536x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S4x192x128, .f32⟩
  | .local _ .vmem, ⟨21, _⟩ => ⟨S4x1x128, .f32⟩
  | .local _ .vmem, ⟨22, _⟩ => ⟨S1024x512, .bf16⟩
  | .local _ .vmem, ⟨23, _⟩ => ⟨S1024x512, .bf16⟩
  | .local _ .vmem, ⟨24, _⟩ => ⟨S4x1024x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_c_7 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_14 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_16 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_17 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_18 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1 : BitVec 32 := 0#32
  let c16_i32 : BitVec 32 := 16#32
  let v10 : BitVec 32 := Scalar.addi c0_i32_1 c16_i32
  let c1_i32 : BitVec 32 := 1#32
  ⟨c0_i32_1, v10, c1_i32⟩
def k0_off1 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let v27 : Index := Scalar.indexCast arg15
  let c0_16 : Index := 0#32
  ![v27.toNat, 0]
def k0_off2 (k0_t1 : Fin k0_t1_loop.trips) : Fin 3 → Nat :=
  let c0_82 : Index := 0#32
  let c0_i32_1 : BitVec 32 := 0#32
  let c1_i32 : BitVec 32 := 1#32
  let arg15 : BitVec 32 := Scf.iv c0_i32_1 c1_i32 k0_t1
  let v187 : Index := Scalar.indexCast arg15
  let c0_83 : Index := 0#32
  ![0, v187.toNat, 0]
def k0_off3 (k0_t1 : Fin k0_t1_loop.trips) : Fin 3 → Nat :=
  let c1_84 : Index := 1#32
  let c0_i32_1 : BitVec 32 := 0#32
  let c1_i32 : BitVec 32 := 1#32
  let arg15 : BitVec 32 := Scf.iv c0_i32_1 c1_i32 k0_t1
  let v192 : Index := Scalar.indexCast arg15
  let c0_85 : Index := 0#32
  ![1, v192.toNat, 0]
def k0_off4 (k0_t1 : Fin k0_t1_loop.trips) : Fin 3 → Nat :=
  let c2_91 : Index := 2#32
  let c0_i32_1 : BitVec 32 := 0#32
  let c1_i32 : BitVec 32 := 1#32
  let arg15 : BitVec 32 := Scf.iv c0_i32_1 c1_i32 k0_t1
  let v208 : Index := Scalar.indexCast arg15
  let c0_92 : Index := 0#32
  ![2, v208.toNat, 0]
def k0_off5 (k0_t1 : Fin k0_t1_loop.trips) : Fin 3 → Nat :=
  let c3_93 : Index := 3#32
  let c0_i32_1 : BitVec 32 := 0#32
  let c1_i32 : BitVec 32 := 1#32
  let arg15 : BitVec 32 := Scf.iv c0_i32_1 c1_i32 k0_t1
  let v213 : Index := Scalar.indexCast arg15
  let c0_94 : Index := 0#32
  ![3, v213.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c2_i32 : BitVec 32 := 2#32
  let v0 : BitVec 32 := Scalar.subi arg0 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16x4096x512 : Shape := ⟨3, ![16, 4096, 512]⟩
abbrev S16x4096x128 : Shape := ⟨3, ![16, 4096, 128]⟩
abbrev S32x8 : Shape := ⟨2, ![32, 8]⟩
abbrev S8 : Shape := ⟨1, ![8]⟩
abbrev S16x4096x8x64 : Shape := ⟨4, ![16, 4096, 8, 64]⟩
abbrev S16x4096x2x64 : Shape := ⟨4, ![16, 4096, 2, 64]⟩
abbrev S16x64x64x8x64 : Shape := ⟨5, ![16, 64, 64, 8, 64]⟩
abbrev S64 : Shape := ⟨1, ![64]⟩
abbrev S64x1 : Shape := ⟨2, ![64, 1]⟩
abbrev S_ : Shape := ⟨0, ![]⟩
abbrev S1x64 : Shape := ⟨2, ![1, 64]⟩
abbrev S64x64 : Shape := ⟨2, ![64, 64]⟩
abbrev S192 : Shape := ⟨1, ![192]⟩
abbrev S1x192 : Shape := ⟨2, ![1, 192]⟩
abbrev S64x192 : Shape := ⟨2, ![64, 192]⟩
abbrev S64x1x192 : Shape := ⟨3, ![64, 1, 192]⟩
abbrev S64x64x1 : Shape := ⟨3, ![64, 64, 1]⟩
abbrev S64x64x192 : Shape := ⟨3, ![64, 64, 192]⟩
abbrev S16x4224x2x64 : Shape := ⟨4, ![16, 4224, 2, 64]⟩
abbrev S16x66x64x2x64 : Shape := ⟨5, ![16, 66, 64, 2, 64]⟩
abbrev S16x64x64x2x64 : Shape := ⟨5, ![16, 64, 64, 2, 64]⟩
abbrev S16x64x192x2x64 : Shape := ⟨5, ![16, 64, 192, 2, 64]⟩
abbrev S16x64x64x2x4x64 : Shape := ⟨6, ![16, 64, 64, 2, 4, 64]⟩
abbrev S16x64x2x192x64x4 : Shape := ⟨6, ![16, 64, 2, 192, 64, 4]⟩
abbrev S16x64x2x4x64x192 : Shape := ⟨6, ![16, 64, 2, 4, 64, 192]⟩
abbrev S64x64x192x1 : Shape := ⟨4, ![64, 64, 192, 1]⟩
abbrev S64x64x192x8 : Shape := ⟨4, ![64, 64, 192, 8]⟩
abbrev S64x8x64x192 : Shape := ⟨4, ![64, 8, 64, 192]⟩
abbrev S64x2x4x64x192 : Shape := ⟨5, ![64, 2, 4, 64, 192]⟩
abbrev S64x1x1x64x192 : Shape := ⟨5, ![64, 1, 1, 64, 192]⟩
abbrev S1x64x2x4x64x192 : Shape := ⟨6, ![1, 64, 2, 4, 64, 192]⟩
abbrev S1x1x2x4x1x1 : Shape := ⟨6, ![1, 1, 2, 4, 1, 1]⟩
abbrev S16x64x2x4x64 : Shape := ⟨5, ![16, 64, 2, 4, 64]⟩
abbrev S16x64x2x4x64x1 : Shape := ⟨6, ![16, 64, 2, 4, 64, 1]⟩
abbrev S16x64x2x64x4x64 : Shape := ⟨6, ![16, 64, 2, 64, 4, 64]⟩
abbrev S16x64x64x512 : Shape := ⟨4, ![16, 64, 64, 512]⟩
abbrev S4096x16x512 : Shape := ⟨3, ![4096, 16, 512]⟩
abbrev S65536x512 : Shape := ⟨2, ![65536, 512]⟩

abbrev nBuf : Space → Nat
  | .hbm => 140
  | .vmem => 0
  | .smem => 0
  | _ => 0

abbrev hbmTy0_0 (i : Nat) : BufTy := match i % 128 with
  | 0 => ⟨S16x4096x512, .f32⟩
  | 1 => ⟨S16x4096x128, .f32⟩
  | 2 => ⟨S16x4096x128, .f32⟩
  | 3 => ⟨S32x8, .f32⟩
  | 4 => ⟨S8, .f32⟩
  | 5 => ⟨S16x4096x8x64, .f32⟩
  | 6 => ⟨S16x4096x2x64, .f32⟩
  | 7 => ⟨S16x4096x2x64, .f32⟩
  | 8 => ⟨S16x64x64x8x64, .f32⟩
  | 9 => ⟨S64, .i32⟩
  | 10 => ⟨S64x1, .i32⟩
  | 11 => ⟨S_, .i32⟩
  | 12 => ⟨S64x1, .i32⟩
  | 13 => ⟨S64x1, .i32⟩
  | 14 => ⟨S64, .i32⟩
  | 15 => ⟨S1x64, .i32⟩
  | 16 => ⟨S64x64, .i32⟩
  | 17 => ⟨S64x64, .i32⟩
  | 18 => ⟨S64x64, .i32⟩
  | 19 => ⟨S_, .i32⟩
  | 20 => ⟨S64x1, .i32⟩
  | 21 => ⟨S64x1, .i32⟩
  | 22 => ⟨S192, .i32⟩
  | 23 => ⟨S1x192, .i32⟩
  | 24 => ⟨S64x192, .i32⟩
  | 25 => ⟨S64x192, .i32⟩
  | 26 => ⟨S64x192, .i32⟩
  | 27 => ⟨S64x1x192, .i32⟩
  | 28 => ⟨S64x64x1, .i32⟩
  | 29 => ⟨S64x64x192, .i32⟩
  | 30 => ⟨S64x64x192, .i32⟩
  | 31 => ⟨S64x64x192, .i32⟩
  | 32 => ⟨S_, .i32⟩
  | 33 => ⟨S64x192, .i32⟩
  | 34 => ⟨S64x192, .i1⟩
  | 35 => ⟨S64x1x192, .i1⟩
  | 36 => ⟨S64x64x192, .i1⟩
  | 37 => ⟨S_, .i32⟩
  | 38 => ⟨S_, .f32⟩
  | 39 => ⟨S16x4224x2x64, .f32⟩
  | 40 => ⟨S16x66x64x2x64, .f32⟩
  | 41 => ⟨S16x64x64x2x64, .f32⟩
  | 42 => ⟨S16x64x64x2x64, .f32⟩
  | 43 => ⟨S16x64x64x2x64, .f32⟩
  | 44 => ⟨S16x64x192x2x64, .f32⟩
  | 45 => ⟨S_, .i32⟩
  | 46 => ⟨S_, .f32⟩
  | 47 => ⟨S16x4224x2x64, .f32⟩
  | 48 => ⟨S16x66x64x2x64, .f32⟩
  | 49 => ⟨S16x64x64x2x64, .f32⟩
  | 50 => ⟨S16x64x64x2x64, .f32⟩
  | 51 => ⟨S16x64x64x2x64, .f32⟩
  | 52 => ⟨S16x64x192x2x64, .f32⟩
  | 53 => ⟨S16x64x64x2x4x64, .f32⟩
  | 54 => ⟨S16x64x2x192x64x4, .f32⟩
  | 55 => ⟨S16x64x2x4x64x192, .f32⟩
  | 56 => ⟨S_, .f32⟩
  | 57 => ⟨S16x64x2x4x64x192, .f32⟩
  | 58 => ⟨S16x64x2x4x64x192, .f32⟩
  | 59 => ⟨S64x64x192, .i32⟩
  | 60 => ⟨S_, .i32⟩
  | 61 => ⟨S64x64x192, .i32⟩
  | 62 => ⟨S64x64x192, .i32⟩
  | 63 => ⟨S64x64x192, .f32⟩
  | 64 => ⟨S_, .f32⟩
  | 65 => ⟨S64x64x192, .f32⟩
  | 66 => ⟨S64x64x192, .f32⟩
  | 67 => ⟨S64x64x192, .f32⟩
  | 68 => ⟨S_, .f32⟩
  | 69 => ⟨S64x64x192, .f32⟩
  | 70 => ⟨S64x64x192, .f32⟩
  | 71 => ⟨S_, .f32⟩
  | 72 => ⟨S64x64x192, .f32⟩
  | 73 => ⟨S64x64x192, .f32⟩
  | 74 => ⟨S64x64x192, .i32⟩
  | 75 => ⟨S_, .i32⟩
  | 76 => ⟨S64x64x192, .i32⟩
  | 77 => ⟨S64x64x192, .i32⟩
  | 78 => ⟨S_, .i32⟩
  | 79 => ⟨S64x64x192, .i32⟩
  | 80 => ⟨S64x64x192, .i32⟩
  | 81 => ⟨S_, .i32⟩
  | 82 => ⟨S64x64x192, .i32⟩
  | 83 => ⟨S64x64x192, .i1⟩
  | 84 => ⟨S_, .i32⟩
  | 85 => ⟨S_, .i32⟩
  | 86 => ⟨S64x64x192, .i32⟩
  | 87 => ⟨S64x64x192, .i32⟩
  | 88 => ⟨S64x64x192, .i32⟩
  | 89 => ⟨S_, .i32⟩
  | 90 => ⟨S64x64x192, .i32⟩
  | 91 => ⟨S64x64x192, .i1⟩
  | 92 => ⟨S64x64x192, .i32⟩
  | 93 => ⟨S64x64x192, .i32⟩
  | 94 => ⟨S64x64x192, .i32⟩
  | 95 => ⟨S_, .i32⟩
  | 96 => ⟨S64x64x192, .i32⟩
  | 97 => ⟨S64x64x192, .i1⟩
  | 98 => ⟨S_, .i32⟩
  | 99 => ⟨S64x64x192, .i32⟩
  | 100 => ⟨S64x64x192, .i32⟩
  | 101 => ⟨S64x64x192, .i32⟩
  | 102 => ⟨S64x64x192x1, .i32⟩
  | 103 => ⟨S64x64x192x8, .f32⟩
  | 104 => ⟨S64x8x64x192, .f32⟩
  | 105 => ⟨S64x2x4x64x192, .f32⟩
  | 106 => ⟨S64x1x1x64x192, .i1⟩
  | 107 => ⟨S1x64x2x4x64x192, .f32⟩
  | 108 => ⟨S16x64x2x4x64x192, .f32⟩
  | 109 => ⟨S16x64x2x4x64x192, .f32⟩
  | 110 => ⟨S_, .f32⟩
  | 111 => ⟨S_, .f32⟩
  | 112 => ⟨S16x64x2x4x64x192, .i1⟩
  | 113 => ⟨S16x64x2x4x64x192, .f32⟩
  | 114 => ⟨S16x64x2x4x64x192, .f32⟩
  | 115 => ⟨S1x1x2x4x1x1, .f32⟩
  | 116 => ⟨S_, .f32⟩
  | 117 => ⟨S16x64x2x4x64, .f32⟩
  | 118 => ⟨S16x64x2x4x64x1, .f32⟩
  | 119 => ⟨S16x64x2x4x64x1, .f32⟩
  | 120 => ⟨S16x64x2x4x64x1, .f32⟩
  | 121 => ⟨S16x64x2x4x64x192, .f32⟩
  | 122 => ⟨S16x64x2x4x64x192, .f32⟩
  | 123 => ⟨S16x64x2x4x64x192, .f32⟩
  | 124 => ⟨S_, .f32⟩
  | 125 => ⟨S16x64x2x4x64, .f32⟩
  | 126 => ⟨S16x64x2x4x64x1, .f32⟩
  | 127 => ⟨S16x64x2x4x64x1, .f32⟩
  | _ => ⟨S16x4096x512, .f32⟩

abbrev hbmTy0_1 (i : Nat) : BufTy := match i % 128 with
  | 0 => ⟨S16x64x2x4x64x1, .f32⟩
  | 1 => ⟨S16x64x2x4x64x1, .f32⟩
  | 2 => ⟨S16x64x2x4x64x1, .f32⟩
  | 3 => ⟨S16x64x2x4x64x192, .f32⟩
  | 4 => ⟨S16x64x2x4x64x192, .f32⟩
  | 5 => ⟨S16x64x2x64x4x64, .f32⟩
  | 6 => ⟨S16x64x64x2x4x64, .f32⟩
  | 7 => ⟨S16x64x64x512, .f32⟩
  | 8 => ⟨S16x4096x512, .f32⟩
  | 9 => ⟨S4096x16x512, .f32⟩
  | 10 => ⟨S65536x512, .f32⟩
  | 11 => ⟨S65536x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_call0_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_4 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_c_10 : Ref sig .tc := ⟨.hbm, 81, rfl⟩
abbrev main_v62 : Ref sig .tc := ⟨.hbm, 82, rfl⟩
abbrev main_v63 : Ref sig .tc := ⟨.hbm, 83, rfl⟩
abbrev main_c_11 : Ref sig .tc := ⟨.hbm, 84, rfl⟩
abbrev main_c_12 : Ref sig .tc := ⟨.hbm, 85, rfl⟩
abbrev main_call2_v0 : Ref sig .tc := ⟨.hbm, 86, rfl⟩
abbrev main_call2_v1 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024x1280 : Shape := ⟨2, ![1024, 1280]⟩
abbrev S4096x16x1024 : Shape := ⟨3, ![4096, 16, 1024]⟩
abbrev S65536x1024 : Shape := ⟨2, ![65536, 1024]⟩
abbrev S65536x512 : Shape := ⟨2, ![65536, 512]⟩
abbrev S65536x128 : Shape := ⟨2, ![65536, 128]⟩
abbrev S512x1024 : Shape := ⟨2, ![512, 1024]⟩
abbrev S512x512 : Shape := ⟨2, ![512, 512]⟩
abbrev S512x128 : Shape := ⟨2, ![512, 128]⟩
abbrev S512x1280 : Shape := ⟨2, ![512, 1280]⟩
abbrev S2048x128 : Shape := ⟨2, ![2048, 128]⟩
abbrev S128x16x128 : Shape := ⟨3, ![128, 16, 128]⟩
abbrev S16x128x128 : Shape := ⟨3, ![16, 128, 128]⟩
abbrev S16x128x2x64 : Shape := ⟨4, ![16, 128, 2, 64]⟩

abbrev nBuf : Space → Nat
  | .hbm => 17
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024x1280, .f32⟩
  | .hbm, ⟨2, _⟩ => ⟨S4096x16x1024, .f32⟩
  | .hbm, ⟨3, _⟩ => ⟨S65536x1024, .f32⟩
  | .hbm, ⟨4, _⟩ => ⟨S1024x1280, .bf16⟩
  | .hbm, ⟨5, _⟩ => ⟨S65536x512, .f32⟩
  | .hbm, ⟨6, _⟩ => ⟨S65536x512, .f32⟩
  | .hbm, ⟨7, _⟩ => ⟨S65536x128, .f32⟩
  | .hbm, ⟨8, _⟩ => ⟨S65536x128, .f32⟩
  | .hbm, ⟨9, _⟩ => ⟨S2048x128, .f32⟩
  | .hbm, ⟨10, _⟩ => ⟨S128x16x128, .f32⟩
  | .hbm, ⟨11, _⟩ => ⟨S16x128x128, .f32⟩
  | .hbm, ⟨12, _⟩ => ⟨S16x128x2x64, .f32⟩
  | .hbm, ⟨13, _⟩ => ⟨S2048x128, .f32⟩
  | .hbm, ⟨14, _⟩ => ⟨S128x16x128, .f32⟩
  | .hbm, ⟨15, _⟩ => ⟨S16x128x128, .f32⟩
  | .hbm, ⟨16, _⟩ => ⟨S16x128x2x64, .f32⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x4096x1024 : Shape := ⟨3, ![16, 4096, 1024]⟩
abbrev S1024x1280 : Shape := ⟨2, ![1024, 1280]⟩
abbrev S16x4096x1280 : Shape := ⟨3, ![16, 4096, 1280]⟩
abbrev S16x4096x512 : Shape := ⟨3, ![16, 4096, 512]⟩
abbrev S16x4096x128 : Shape := ⟨3, ![16, 4096, 128]⟩
abbrev S16x4096x2x64 : Shape := ⟨4, ![16, 4096, 2, 64]⟩
abbrev S4096x16x512 : Shape := ⟨3, ![4096, 16, 512]⟩
abbrev S65536x512 : Shape := ⟨2, ![65536, 512]⟩
abbrev S16x128x2x64 : Shape := ⟨4, ![16, 128, 2, 64]⟩

abbrev nBuf : Space → Nat
  | .hbm => 15
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x1280, .f32⟩
  | .hbm, ⟨2, _⟩ => ⟨S16x4096x1280, .f32⟩
  | .hbm, ⟨3, _⟩ => ⟨S16x4096x512, .f32⟩
  | .hbm, ⟨4, _⟩ => ⟨S16x4096x512, .f32⟩
  | .hbm, ⟨5, _⟩ => ⟨S16x4096x128, .f32⟩
  | .hbm, ⟨6, _⟩ => ⟨S16x4096x2x64, .f32⟩
  | .hbm, ⟨7, _⟩ => ⟨S16x4096x128, .f32⟩
  | .hbm, ⟨8, _⟩ => ⟨S16x4096x2x64, .f32⟩
  | .hbm, ⟨9, _⟩ => ⟨S4096x16x512, .f32⟩
  | .hbm, ⟨10, _⟩ => ⟨S65536x512, .f32⟩
  | .hbm, ⟨11, _⟩ => ⟨S4096x16x512, .f32⟩
  | .hbm, ⟨12, _⟩ => ⟨S65536x512, .f32⟩
  | .hbm, ⟨13, _⟩ => ⟨S16x128x2x64, .f32⟩
  | .hbm, ⟨14, _⟩ => ⟨S16x128x2x64, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024x2816 : Shape := ⟨2, ![1024, 2816]⟩
abbrev S4096x16x1024 : Shape := ⟨3, ![4096, 16, 1024]⟩
abbrev S65536x1024 : Shape := ⟨2, ![65536, 1024]⟩
abbrev S65536x2560 : Shape := ⟨2, ![65536, 2560]⟩
abbrev S65536x256 : Shape := ⟨2, ![65536, 256]⟩
abbrev S512x1024 : Shape := ⟨2, ![512, 1024]⟩
abbrev S512x2560 : Shape := ⟨2, ![512, 2560]⟩
abbrev S512x256 : Shape := ⟨2, ![512, 256]⟩
abbrev S512x2816 : Shape := ⟨2, ![512, 2816]⟩
abbrev S_ : Shape := ⟨0, ![]⟩
abbrev S240x256 : Shape := ⟨2, ![240, 256]⟩
abbrev S16x256 : Shape := ⟨2, ![16, 256]⟩
abbrev S65792x256 : Shape := ⟨2, ![65792, 256]⟩
abbrev S15x16x256 : Shape := ⟨3, ![15, 16, 256]⟩
abbrev S16x15x256 : Shape := ⟨3, ![16, 15, 256]⟩
abbrev S16x2560 : Shape := ⟨2, ![16, 2560]⟩

abbrev nBuf : Space → Nat
  | .hbm => 16
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S4096x16x1024, .f32⟩
  | .hbm, ⟨3, _⟩ => ⟨S65536x1024, .f32⟩
  | .hbm, ⟨4, _⟩ => ⟨S1024x2816, .bf16⟩
  | .hbm, ⟨5, _⟩ => ⟨S65536x2560, .f32⟩
  | .hbm, ⟨6, _⟩ => ⟨S65536x256, .f32⟩
  | .hbm, ⟨7, _⟩ => ⟨S_, .f32⟩
  | .hbm, ⟨8, _⟩ => ⟨S240x256, .f32⟩
  | .hbm, ⟨9, _⟩ => ⟨S_, .f32⟩
  | .hbm, ⟨10, _⟩ => ⟨S16x256, .f32⟩
  | .hbm, ⟨11, _⟩ => ⟨S65792x256, .f32⟩
  | .hbm, ⟨12, _⟩ => ⟨S240x256, .f32⟩
  | .hbm, ⟨13, _⟩ => ⟨S15x16x256, .f32⟩
  | .hbm, ⟨14, _⟩ => ⟨S16x15x256, .f32⟩
  | .hbm, ⟨15, _⟩ => ⟨S16x2560, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x2560, .f32⟩
  | .local _ .vmem, ⟨4, _⟩ => ⟨S512x2560, .f32⟩
  | .local _ .vmem, ⟨5, _⟩ => ⟨S512x256, .f32⟩
  | .local _ .vmem, ⟨6, _⟩ => ⟨S512x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x4096x1024 : Shape := ⟨3, ![16, 4096, 1024]⟩
abbrev S1024x2816 : Shape := ⟨2, ![1024, 2816]⟩
abbrev S16x4096x2816 : Shape := ⟨3, ![16, 4096, 2816]⟩
abbrev S16x4096x2560 : Shape := ⟨3, ![16, 4096, 2560]⟩
abbrev S16x4096x256 : Shape := ⟨3, ![16, 4096, 256]⟩
abbrev S_ : Shape := ⟨0, ![]⟩
abbrev S16x15x256 : Shape := ⟨3, ![16, 15, 256]⟩
abbrev S16x4111x256 : Shape := ⟨3, ![16, 4111, 256]⟩
abbrev S4096x16x2560 : Shape := ⟨3, ![4096, 16, 2560]⟩
abbrev S65536x2560 : Shape := ⟨2, ![65536, 2560]⟩
abbrev S16x1x2560 : Shape := ⟨3, ![16, 1, 2560]⟩
abbrev S16x2560 : Shape := ⟨2, ![16, 2560]⟩

abbrev nBuf : Space → Nat
  | .hbm => 13
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S16x4096x2816, .f32⟩
  | .hbm, ⟨3, _⟩ => ⟨S16x4096x2560, .f32⟩
  | .hbm, ⟨4, _⟩ => ⟨S16x4096x256, .f32⟩
  | .hbm, ⟨5, _⟩ => ⟨S_, .f32⟩
  | .hbm, ⟨6, _⟩ => ⟨S16x15x256, .f32⟩
  | .hbm, ⟨7, _⟩ => ⟨S16x4111x256, .f32⟩
  | .hbm, ⟨8, _⟩ => ⟨S4096x16x2560, .f32⟩
  | .hbm, ⟨9, _⟩ => ⟨S65536x2560, .f32⟩
  | .hbm, ⟨10, _⟩ => ⟨S16x1x2560, .f32⟩
  | .hbm, ⟨11, _⟩ => ⟨S16x2560, .f32⟩
  | .hbm, ⟨12, _⟩ => ⟨S16x15x256, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S65536x512 : Shape := ⟨2, ![65536, 512]⟩
abbrev S1024x1024 : Shape := ⟨2, ![1024, 1024]⟩
abbrev S65536x1024 : Shape := ⟨2, ![65536, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S65536x512 : Shape := ⟨2, ![65536, 512]⟩
abbrev S1024x1024 : Shape := ⟨2, ![1024, 1024]⟩
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S65536x512, .f32⟩
  | .hbm, ⟨7, _⟩ => ⟨S65536x512, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel5.lean ====
abbrev S65536x768 : Shape := ⟨2, ![65536, 768]⟩
abbrev S65536x256 : Shape := ⟨2, ![65536, 256]⟩
abbrev S1024x1024 : Shape := ⟨2, ![1024, 1024]⟩
abbrev S65536x1024 : Shape := ⟨2, ![65536, 1024]⟩
abbrev S1024 : Shape := ⟨1, ![1024]⟩
abbrev S768x1024 : Shape := ⟨2, ![768, 1024]⟩
abbrev S256x1024 : Shape := ⟨2, ![256, 1024]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S65536x768, .bf16⟩
  | .hbm, ⟨1, _⟩ => ⟨S65536x256, .bf16⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S768x1024, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S768x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S65536x768 : Shape := ⟨2, ![65536, 768]⟩
abbrev S65536x256 : Shape := ⟨2, ![65536, 256]⟩
abbrev S1024x1024 : Shape := ⟨2, ![1024, 1024]⟩
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S65536x768, .bf16⟩
  | .hbm, ⟨1, _⟩ => ⟨S65536x256, .bf16⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S65536x768, .f32⟩
  | .hbm, ⟨7, _⟩ => ⟨S65536x256, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | _, _ => ⟨S65536x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel6.lean ====
abbrev S65536x512 : Shape := ⟨2, ![65536, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512x512, .bf16⟩
  | .hbm, ⟨3, _⟩ => ⟨S65536x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S65536x512 : Shape := ⟨2, ![65536, 512]⟩
abbrev S512x512 : Shape := ⟨2, ![512, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S_, .f32⟩
  | .hbm, ⟨6, _⟩ => ⟨S65536x512, .f32⟩
  | .hbm, ⟨7, _⟩ => ⟨S65536x512, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x512, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S368 : Shape := ⟨1, ![368]⟩
abbrev S1 : Shape := ⟨1, ![1]⟩
abbrev S94208x1024 : Shape := ⟨2, ![94208, 1024]⟩
abbrev S32x1024x256 : Shape := ⟨3, ![32, 1024, 256]⟩
abbrev S32x256x1024 : Shape := ⟨3, ![32, 256, 1024]⟩
abbrev S94208x2048 : Shape := ⟨2, ![94208, 2048]⟩
abbrev S256x1024 : Shape := ⟨2, ![256, 1024]⟩
abbrev S1x1024x256 : Shape := ⟨3, ![1, 1024, 256]⟩
abbrev S1x256x1024 : Shape := ⟨3, ![1, 256, 1024]⟩
abbrev S256x2048 : Shape := ⟨2, ![256, 2048]⟩
abbrev S1024x256 : Shape := ⟨2, ![1024, 256]⟩
abbrev S256x256 : Shape := ⟨2, ![256, 256]⟩

abbrev nBuf : Space → Nat
  | .hbm => 8
  | .vmem => 16
  | .smem => 3
  | _ => 0

abbrev bufTy : (tb : Table) → Fin (tcTables nBuf tb) → BufTy
  | .hbm, ⟨0, _⟩ => ⟨S94208x1024, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S94208x2048, .f32⟩
  | .local _ .vmem, ⟨0, _⟩ => ⟨S256x1024, .f32⟩
  | .local _ .vmem, ⟨1, _⟩ => ⟨S256x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S256x2048, .f32⟩
  | .local _ .vmem, ⟨15, _⟩ => ⟨S256x2048, .f32⟩
  | .local _ .smem, ⟨0, _⟩ => ⟨S368, .i32⟩
  | .local _ .smem, ⟨1, _⟩ => ⟨S368, .i32⟩
  | .local _ .smem, ⟨2, _⟩ => ⟨S1, .i32⟩
  | _, _ => ⟨S94208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![368], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S368.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S368) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S368.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S368) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S368.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S368) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S368.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S368) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S368.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S368) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S368.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S368) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S368 : Shape := ⟨1, ![368]⟩
abbrev S1 : Shape := ⟨1, ![1]⟩
abbrev S94208x1024 : Shape := ⟨2, ![94208, 1024]⟩
abbrev S32x1024x256 : Shape := ⟨3, ![32, 1024, 256]⟩
abbrev S32x256x1024 : Shape := ⟨3, ![32, 256, 1024]⟩
abbrev S368x256x1024 : Shape := ⟨3, ![368, 256, 1024]⟩
abbrev S_ : Shape := ⟨0, ![]⟩
abbrev S368x1 : Shape := ⟨2, ![368, 1]⟩
abbrev S368x1024x256 : Shape := ⟨3, ![368, 1024, 256]⟩
abbrev S368x256x256 : Shape := ⟨3, ![368, 256, 256]⟩
abbrev S368x256x2048 : Shape := ⟨3, ![368, 256, 2048]⟩
abbrev S368x1x1 : Shape := ⟨3, ![368, 1, 1]⟩
abbrev S94208x2048 : Shape := ⟨2, ![94208, 2048]⟩

abbrev nBuf : Space → Nat
  | .hbm => 100
  | .vmem => 0
  | .smem => 0
  | _ => 0

abbrev bufTy : (tb : Table) → Fin (tcTables nBuf tb) → BufTy
  | .hbm, ⟨0, _⟩ => ⟨S368, .i32⟩
  | .hbm, ⟨1, _⟩ => ⟨S368, .i32⟩
  | .hbm, ⟨2, _⟩ => ⟨S1, .i32⟩
  | .hbm, ⟨3, _⟩ => ⟨S94208x1024, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S368x256x1024, .f32⟩
  | .hbm, ⟨8, _⟩ => ⟨S_, .i32⟩
  | .hbm, ⟨9, _⟩ => ⟨S368, .i32⟩
  | .hbm, ⟨10, _⟩ => ⟨S368, .i1⟩
  | .hbm, ⟨11, _⟩ => ⟨S_, .i32⟩
  | .hbm, ⟨12, _⟩ => ⟨S368, .i32⟩
  | .hbm, ⟨13, _⟩ => ⟨S368, .i32⟩
  | .hbm, ⟨14, _⟩ => ⟨S368, .i32⟩
  | .hbm, ⟨15, _⟩ => ⟨S368x1, .i32⟩
  | .hbm, ⟨16, _⟩ => ⟨S368x1024x256, .f32⟩
  | .hbm, ⟨17, _⟩ => ⟨S368x256x256, .f32⟩
  | .hbm, ⟨18, _⟩ => ⟨S368x256x256, .f32⟩
  | .hbm, ⟨19, _⟩ => ⟨S368x256x256, .f32⟩
  | .hbm, ⟨20, _⟩ => ⟨S_, .f32⟩
  | .hbm, ⟨21, _⟩ => ⟨S368x256x256, .f32⟩
  | .hbm, ⟨22, _⟩ => ⟨S368x256x256, .f32⟩
  | .hbm, ⟨23, _⟩ => ⟨S_, .f32⟩
  | .hbm, ⟨24, _⟩ => ⟨S368x256x256, .f32⟩
  | .hbm, ⟨25, _⟩ => ⟨S368x256x256, .f32⟩
  | .hbm, ⟨26, _⟩ => ⟨S368x256x256, .f32⟩
  | .hbm, ⟨27, _⟩ => ⟨S_, .i32⟩
  | .hbm, ⟨28, _⟩ => ⟨S368, .i32⟩
  | .hbm, ⟨29, _⟩ => ⟨S368, .i1⟩
  | .hbm, ⟨30, _⟩ => ⟨S_, .i32⟩
  | .hbm, ⟨31, _⟩ => ⟨S368, .i32⟩
  | .hbm, ⟨32, _⟩ => ⟨S368, .i32⟩
  | .hbm, ⟨33, _⟩ => ⟨S368, .i32⟩
  | .hbm, ⟨34, _⟩ => ⟨S368x1, .i32⟩
  | .hbm, ⟨35, _⟩ => ⟨S368x1024x256, .f32⟩
  | .hbm, ⟨36, _⟩ => ⟨S368x256x256, .f32⟩
  | .hbm, ⟨37, _⟩ => ⟨S368x256x256, .f32⟩
  | .hbm, ⟨38, _⟩ => ⟨S_, .i32⟩
  | .hbm, ⟨39, _⟩ => ⟨S368, .i32⟩
  | .hbm, ⟨40, _⟩ => ⟨S368, .i1⟩
  | .hbm, ⟨41, _⟩ => ⟨S_, .i32⟩
  | .hbm, ⟨42, _⟩ => ⟨S368, .i32⟩
  | .hbm, ⟨43, _⟩ => ⟨S368, .i32⟩
  | .hbm, ⟨44, _⟩ => ⟨S368, .i32⟩
  | .hbm, ⟨45, _⟩ => ⟨S368x1, .i32⟩
  | .hbm, ⟨46, _⟩ => ⟨S368x256x1024, .f32⟩
  | .hbm, ⟨47, _⟩ => ⟨S368x256x1024, .f32⟩
  | .hbm, ⟨48, _⟩ => ⟨S_, .i32⟩
  | .hbm, ⟨49, _⟩ => ⟨S368, .i32⟩
  | .hbm, ⟨50, _⟩ => ⟨S368, .i1⟩
  | .hbm, ⟨51, _⟩ => ⟨S_, .i32⟩
  | .hbm, ⟨52, _⟩ => ⟨S368, .i32⟩
  | .hbm, ⟨53, _⟩ => ⟨S368, .i32⟩
  | .hbm, ⟨54, _⟩ => ⟨S368, .i32⟩
  | .hbm, ⟨55, _⟩ => ⟨S368x1, .i32⟩
  | .hbm, ⟨56, _⟩ => ⟨S368x1024x256, .f32⟩
  | .hbm, ⟨57, _⟩ => ⟨S368x256x256, .f32⟩
  | .hbm, ⟨58, _⟩ => ⟨S368x256x256, .f32⟩
  | .hbm, ⟨59, _⟩ => ⟨S368x256x256, .f32⟩
  | .hbm, ⟨60, _⟩ => ⟨S_, .f32⟩
  | .hbm, ⟨61, _⟩ => ⟨S368x256x256, .f32⟩
  | .hbm, ⟨62, _⟩ => ⟨S368x256x256, .f32⟩
  | .hbm, ⟨63, _⟩ => ⟨S_, .f32⟩
  | .hbm, ⟨64, _⟩ => ⟨S368x256x256, .f32⟩
  | .hbm, ⟨65, _⟩ => ⟨S368x256x256, .f32⟩
  | .hbm, ⟨66, _⟩ => ⟨S368x256x256, .f32⟩
  | .hbm, ⟨67, _⟩ => ⟨S_, .i32⟩
  | .hbm, ⟨68, _⟩ => ⟨S368, .i32⟩
  | .hbm, ⟨69, _⟩ => ⟨S368, .i1⟩
  | .hbm, ⟨70, _⟩ => ⟨S_, .i32⟩
  | .hbm, ⟨71, _⟩ => ⟨S368, .i32⟩
  | .hbm, ⟨72, _⟩ => ⟨S368, .i32⟩
  | .hbm, ⟨73, _⟩ => ⟨S368, .i32⟩
  | .hbm, ⟨74, _⟩ => ⟨S368x1, .i32⟩
  | .hbm, ⟨75, _⟩ => ⟨S368x1024x256, .f32⟩
  | .hbm, ⟨76, _⟩ => ⟨S368x256x256, .f32⟩
  | .hbm, ⟨77, _⟩ => ⟨S368x256x256, .f32⟩
  | .hbm, ⟨78, _⟩ => ⟨S_, .i32⟩
  | .hbm, ⟨79, _⟩ => ⟨S368, .i32⟩
  | .hbm, ⟨80, _⟩ => ⟨S368, .i1⟩
  | .hbm, ⟨81, _⟩ => ⟨S_, .i32⟩
  | .hbm, ⟨82, _⟩ => ⟨S368, .i32⟩
  | .hbm, ⟨83, _⟩ => ⟨S368, .i32⟩
  | .hbm, ⟨84, _⟩ => ⟨S368, .i32⟩
  | .hbm, ⟨85, _⟩ => ⟨S368x1, .i32⟩
  | .hbm, ⟨86, _⟩ => ⟨S368x256x1024, .f32⟩
  | .hbm, ⟨87, _⟩ => ⟨S368x256x1024, .f32⟩
  | .hbm, ⟨88, _⟩ => ⟨S368x256x2048, .f32⟩
  | .hbm, ⟨89, _⟩ => ⟨S368, .i32⟩
  | .hbm, ⟨90, _⟩ => ⟨S_, .i32⟩
  | .hbm, ⟨91, _⟩ => ⟨S368, .i32⟩
  | .hbm, ⟨92, _⟩ => ⟨S368, .i1⟩
  | .hbm, ⟨93, _⟩ => ⟨S368x1x1, .i1⟩
  | .hbm, ⟨94, _⟩ => ⟨S_, .f32⟩
  | .hbm, ⟨95, _⟩ => ⟨S_, .f32⟩
  | .hbm, ⟨96, _⟩ => ⟨S368x256x2048, .i1⟩
  | .hbm, ⟨97, _⟩ => ⟨S368x256x2048, .f32⟩
  | .hbm, ⟨98, _⟩ => ⟨S368x256x2048, .f32⟩
  | .hbm, ⟨99, _⟩ => ⟨S94208x2048, .f32⟩
  | _, _ => ⟨S368, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]
-- ==== Kernel8.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S1024 : Shape := ⟨1, ![1024]⟩
abbrev S1x1024 : Shape := ⟨2, ![1, 1024]⟩
abbrev S1x1024x256 : Shape := ⟨3, ![1, 1024, 256]⟩
abbrev S1x256x1024 : Shape := ⟨3, ![1, 256, 1024]⟩
abbrev S1024x256 : Shape := ⟨2, ![1024, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩
abbrev S16x8x1024 : Shape := ⟨3, ![16, 8, 1024]⟩
abbrev S8x16x1024 : Shape := ⟨3, ![8, 16, 1024]⟩

abbrev nBuf : Space → Nat
  | .hbm => 15
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S1x1024, .f32⟩
  | .hbm, ⟨11, _⟩ => ⟨S1x1024, .f32⟩
  | .hbm, ⟨12, _⟩ => ⟨S128x1024, .f32⟩
  | .hbm, ⟨13, _⟩ => ⟨S16x8x1024, .f32⟩
  | .hbm, ⟨14, _⟩ => ⟨S8x16x1024, .f32⟩
  | .local _ .vmem, ⟨0, _⟩ => ⟨S128x1024, .f32⟩
  | .local _ .vmem, ⟨1, _⟩ => ⟨S128x128, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S1024 : Shape := ⟨1, ![1024]⟩
abbrev S32x256x128 : Shape := ⟨3, ![32, 256, 128]⟩
abbrev S32x128x256 : Shape := ⟨3, ![32, 128, 256]⟩
abbrev S_ : Shape := ⟨0, ![]⟩
abbrev S32x128x1024 : Shape := ⟨3, ![32, 128, 1024]⟩
abbrev S128x32 : Shape := ⟨2, ![128, 32]⟩
abbrev S128 : Shape := ⟨1, ![128]⟩
abbrev S128x1 : Shape := ⟨2, ![128, 1]⟩
abbrev S1x1024 : Shape := ⟨2, ![1, 1024]⟩
abbrev S16x8x1024 : Shape := ⟨3, ![16, 8, 1024]⟩
abbrev S8x16x1024 : Shape := ⟨3, ![8, 16, 1024]⟩

abbrev nBuf : Space → Nat
  | .hbm => 59
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S1024, .f32⟩
  | .hbm, ⟨6, _⟩ => ⟨S1024, .f32⟩
  | .hbm, ⟨7, _⟩ => ⟨S32x256x128, .f32⟩
  | .hbm, ⟨8, _⟩ => ⟨S32x128x256, .f32⟩
  | .hbm, ⟨9, _⟩ => ⟨S32x128x256, .f32⟩
  | .hbm, ⟨10, _⟩ => ⟨S32x128x256, .f32⟩
  | .hbm, ⟨11, _⟩ => ⟨S_, .f32⟩
  | .hbm, ⟨12, _⟩ => ⟨S32x128x256, .f32⟩
  | .hbm, ⟨13, _⟩ => ⟨S32x128x256, .f32⟩
  | .hbm, ⟨14, _⟩ => ⟨S_, .f32⟩
  | .hbm, ⟨15, _⟩ => ⟨S32x128x256, .f32⟩
  | .hbm, ⟨16, _⟩ => ⟨S32x128x256, .f32⟩
  | .hbm, ⟨17, _⟩ => ⟨S32x128x256, .f32⟩
  | .hbm, ⟨18, _⟩ => ⟨S32x256x128, .f32⟩
  | .hbm, ⟨19, _⟩ => ⟨S32x128x256, .f32⟩
  | .hbm, ⟨20, _⟩ => ⟨S32x128x256, .f32⟩
  | .hbm, ⟨21, _⟩ => ⟨S32x128x1024, .f32⟩
  | .hbm, ⟨22, _⟩ => ⟨S128x32, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x1024, .f32⟩
  | .hbm, ⟨50, _⟩ => ⟨S128x1024, .f32⟩
  | .hbm, ⟨51, _⟩ => ⟨S1x1024, .f32⟩
  | .hbm, ⟨52, _⟩ => ⟨S128x1024, .f32⟩
  | .hbm, ⟨53, _⟩ => ⟨S128x1024, .f32⟩
  | .hbm, ⟨54, _⟩ => ⟨S1x1024, .f32⟩
  | .hbm, ⟨55, _⟩ => ⟨S128x1024, .f32⟩
  | .hbm, ⟨56, _⟩ => ⟨S128x1024, .f32⟩
  | .hbm, ⟨57, _⟩ => ⟨S16x8x1024, .f32⟩
  | .hbm, ⟨58, _⟩ => ⟨S8x16x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel9.lean ====
abbrev S8x16x1024 : Shape := ⟨3, ![8, 16, 1024]⟩
abbrev S8x128x2x64 : Shape := ⟨4, ![8, 128, 2, 64]⟩
abbrev S1024x1280 : Shape := ⟨2, ![1024, 1280]⟩
abbrev S16x8x1024 : Shape := ⟨3, ![16, 8, 1024]⟩
abbrev S128x1024 : Shape := ⟨2, ![128, 1024]⟩
abbrev S128x512 : Shape := ⟨2, ![128, 512]⟩
abbrev S128x128 : Shape := ⟨2, ![128, 128]⟩
abbrev S128x1280 : Shape := ⟨2, ![128, 1280]⟩
abbrev S8x128x128 : Shape := ⟨3, ![8, 128, 128]⟩
abbrev S128x8x128 : Shape := ⟨3, ![128, 8, 128]⟩
abbrev S1024x128 : Shape := ⟨2, ![1024, 128]⟩
abbrev S1152x128 : Shape := ⟨2, ![1152, 128]⟩

abbrev nBuf : Space → Nat
  | .hbm => 27
  | .vmem => 6
  | .smem => 0
  | _ => 0

abbrev bufTy : (tb : Table) → Fin (tcTables nBuf tb) → BufTy
  | .hbm, ⟨0, _⟩ => ⟨S8x16x1024, .f32⟩
  | .hbm, ⟨1, _⟩ => ⟨S8x128x2x64, .f32⟩
  | .hbm, ⟨2, _⟩ => ⟨S8x128x2x64, .f32⟩
  | .hbm, ⟨3, _⟩ => ⟨S1024x1280, .f32⟩
  | .hbm, ⟨4, _⟩ => ⟨S16x8x1024, .f32⟩
  | .hbm, ⟨5, _⟩ => ⟨S128x1024, .f32⟩
  | .hbm, ⟨6, _⟩ => ⟨S1024x1280, .bf16⟩
  | .hbm, ⟨7, _⟩ => ⟨S128x512, .f32⟩
  | .hbm, ⟨8, _⟩ => ⟨S128x512, .f32⟩
  | .hbm, ⟨9, _⟩ => ⟨S128x128, .f32⟩
  | .hbm, ⟨10, _⟩ => ⟨S128x128, .f32⟩
  | .hbm, ⟨11, _⟩ => ⟨S8x128x128, .f32⟩
  | .hbm, ⟨12, _⟩ => ⟨S128x8x128, .f32⟩
  | .hbm, ⟨13, _⟩ => ⟨S1024x128, .f32⟩
  | .hbm, ⟨14, _⟩ => ⟨S1152x128, .f32⟩
  | .hbm, ⟨15, _⟩ => ⟨S8x128x128, .f32⟩
  | .hbm, ⟨16, _⟩ => ⟨S128x8x128, .f32⟩
  | .hbm, ⟨17, _⟩ => ⟨S1024x128, .f32⟩
  | .hbm, ⟨18, _⟩ => ⟨S1152x128, .f32⟩
  | .hbm, ⟨19, _⟩ => ⟨S1024x128, .f32⟩
  | .hbm, ⟨20, _⟩ => ⟨S128x8x128, .f32⟩
  | .hbm, ⟨21, _⟩ => ⟨S8x128x128, .f32⟩
  | .hbm, ⟨22, _⟩ => ⟨S8x128x2x64, .f32⟩
  | .hbm, ⟨23, _⟩ => ⟨S1024x128, .f32⟩
  | .hbm, ⟨24, _⟩ => ⟨S128x8x128, .f32⟩
  | .hbm, ⟨25, _⟩ => ⟨S8x128x128, .f32⟩
  | .hbm, ⟨26, _⟩ => ⟨S8x128x2x64, .f32⟩
  | .local _ .vmem, ⟨0, _⟩ => ⟨S128x1024, .f32⟩
  | .local _ .vmem, ⟨1, _⟩ => ⟨S1024x1280, .bf16⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference9Ideal.lean ====
abbrev S8x16x1024 : Shape := ⟨3, ![8, 16, 1024]⟩
abbrev S8x128x2x64 : Shape := ⟨4, ![8, 128, 2, 64]⟩
abbrev S1024x1280 : Shape := ⟨2, ![1024, 1280]⟩
abbrev S8x16x1280 : Shape := ⟨3, ![8, 16, 1280]⟩
abbrev S8x16x512 : Shape := ⟨3, ![8, 16, 512]⟩
abbrev S8x16x128 : Shape := ⟨3, ![8, 16, 128]⟩
abbrev S8x16x2x64 : Shape := ⟨4, ![8, 16, 2, 64]⟩
abbrev S8x144x2x64 : Shape := ⟨4, ![8, 144, 2, 64]⟩
abbrev S16x8x512 : Shape := ⟨3, ![16, 8, 512]⟩
abbrev S128x512 : Shape := ⟨2, ![128, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x128x2x64, .f32⟩
  | .hbm, ⟨2, _⟩ => ⟨S8x128x2x64, .f32⟩
  | .hbm, ⟨3, _⟩ => ⟨S1024x1280, .f32⟩
  | .hbm, ⟨4, _⟩ => ⟨S8x16x1280, .f32⟩
  | .hbm, ⟨5, _⟩ => ⟨S8x16x512, .f32⟩
  | .hbm, ⟨6, _⟩ => ⟨S8x16x512, .f32⟩
  | .hbm, ⟨7, _⟩ => ⟨S8x16x128, .f32⟩
  | .hbm, ⟨8, _⟩ => ⟨S8x16x2x64, .f32⟩
  | .hbm, ⟨9, _⟩ => ⟨S8x16x128, .f32⟩
  | .hbm, ⟨10, _⟩ => ⟨S8x16x2x64, .f32⟩
  | .hbm, ⟨11, _⟩ => ⟨S8x144x2x64, .f32⟩
  | .hbm, ⟨12, _⟩ => ⟨S8x144x2x64, .f32⟩
  | .hbm, ⟨13, _⟩ => ⟨S16x8x512, .f32⟩
  | .hbm, ⟨14, _⟩ => ⟨S128x512, .f32⟩
  | .hbm, ⟨15, _⟩ => ⟨S16x8x512, .f32⟩
  | .hbm, ⟨16, _⟩ => ⟨S128x512, .f32⟩
  | .hbm, ⟨17, _⟩ => ⟨S8x128x2x64, .f32⟩
  | .hbm, ⟨18, _⟩ => ⟨S8x128x2x64, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel10.lean ====
abbrev S8x16x1024 : Shape := ⟨3, ![8, 16, 1024]⟩
abbrev S8x15x256 : Shape := ⟨3, ![8, 15, 256]⟩
abbrev S1024x2816 : Shape := ⟨2, ![1024, 2816]⟩
abbrev S16x8x1024 : Shape := ⟨3, ![16, 8, 1024]⟩
abbrev S128x1024 : Shape := ⟨2, ![128, 1024]⟩
abbrev S128x2560 : Shape := ⟨2, ![128, 2560]⟩
abbrev S128x256 : Shape := ⟨2, ![128, 256]⟩
abbrev S128x2816 : Shape := ⟨2, ![128, 2816]⟩
abbrev S15x8x256 : Shape := ⟨3, ![15, 8, 256]⟩
abbrev S120x256 : Shape := ⟨2, ![120, 256]⟩
abbrev S_ : Shape := ⟨0, ![]⟩
abbrev S8x256 : Shape := ⟨2, ![8, 256]⟩
abbrev S256x256 : Shape := ⟨2, ![256, 256]⟩
abbrev S8x2560 : Shape := ⟨2, ![8, 2560]⟩

abbrev nBuf : Space → Nat
  | .hbm => 17
  | .vmem => 4
  | .smem => 0
  | _ => 0

abbrev bufTy : (tb : Table) → Fin (tcTables nBuf tb) → BufTy
  | .hbm, ⟨0, _⟩ => ⟨S8x16x1024, .f32⟩
  | .hbm, ⟨1, _⟩ => ⟨S8x15x256, .f32⟩
  | .hbm, ⟨2, _⟩ => ⟨S1024x2816, .f32⟩
  | .hbm, ⟨3, _⟩ => ⟨S16x8x1024, .f32⟩
  | .hbm, ⟨4, _⟩ => ⟨S128x1024, .f32⟩
  | .hbm, ⟨5, _⟩ => ⟨S1024x2816, .bf16⟩
  | .hbm, ⟨6, _⟩ => ⟨S128x2560, .f32⟩
  | .hbm, ⟨7, _⟩ => ⟨S128x256, .f32⟩
  | .hbm, ⟨8, _⟩ => ⟨S15x8x256, .f32⟩
  | .hbm, ⟨9, _⟩ => ⟨S120x256, .f32⟩
  | .hbm, ⟨10, _⟩ => ⟨S_, .f32⟩
  | .hbm, ⟨11, _⟩ => ⟨S8x256, .f32⟩
  | .hbm, ⟨12, _⟩ => ⟨S256x256, .f32⟩
  | .hbm, ⟨13, _⟩ => ⟨S120x256, .f32⟩
  | .hbm, ⟨14, _⟩ => ⟨S15x8x256, .f32⟩
  | .hbm, ⟨15, _⟩ => ⟨S8x15x256, .f32⟩
  | .hbm, ⟨16, _⟩ => ⟨S8x2560, .f32⟩
  | .local _ .vmem, ⟨0, _⟩ => ⟨S128x1024, .f32⟩
  | .local _ .vmem, ⟨1, _⟩ => ⟨S1024x2816, .bf16⟩
  | .local _ .vmem, ⟨2, _⟩ => ⟨S128x2560, .f32⟩
  | .local _ .vmem, ⟨3, _⟩ => ⟨S128x256, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference10Ideal.lean ====
abbrev S8x16x1024 : Shape := ⟨3, ![8, 16, 1024]⟩
abbrev S8x15x256 : Shape := ⟨3, ![8, 15, 256]⟩
abbrev S1024x2816 : Shape := ⟨2, ![1024, 2816]⟩
abbrev S8x16x2816 : Shape := ⟨3, ![8, 16, 2816]⟩
abbrev S8x16x2560 : Shape := ⟨3, ![8, 16, 2560]⟩
abbrev S8x16x256 : Shape := ⟨3, ![8, 16, 256]⟩
abbrev S8x31x256 : Shape := ⟨3, ![8, 31, 256]⟩
abbrev S16x8x2560 : Shape := ⟨3, ![16, 8, 2560]⟩
abbrev S128x2560 : Shape := ⟨2, ![128, 2560]⟩
abbrev S8x1x2560 : Shape := ⟨3, ![8, 1, 2560]⟩
abbrev S8x2560 : Shape := ⟨2, ![8, 2560]⟩

abbrev nBuf : Space → Nat
  | .hbm => 12
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x15x256, .f32⟩
  | .hbm, ⟨2, _⟩ => ⟨S1024x2816, .f32⟩
  | .hbm, ⟨3, _⟩ => ⟨S8x16x2816, .f32⟩
  | .hbm, ⟨4, _⟩ => ⟨S8x16x2560, .f32⟩
  | .hbm, ⟨5, _⟩ => ⟨S8x16x256, .f32⟩
  | .hbm, ⟨6, _⟩ => ⟨S8x31x256, .f32⟩
  | .hbm, ⟨7, _⟩ => ⟨S16x8x2560, .f32⟩
  | .hbm, ⟨8, _⟩ => ⟨S128x2560, .f32⟩
  | .hbm, ⟨9, _⟩ => ⟨S8x1x2560, .f32⟩
  | .hbm, ⟨10, _⟩ => ⟨S8x2560, .f32⟩
  | .hbm, ⟨11, _⟩ => ⟨S8x15x256, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Loop.lean ====
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The raw contents of the buffer a memref lies in. -/
abbrev RawBuf (c : Dev nD) {sp : Space} {S : Shape} {e : EltTy} (M : Memref sig .tc sp S e) : Type :=
  Buf (Elt F) (M.view.loc (c : Thread nD τ))
/-- A memref held at raw contents. -/
abbrev held (c : Dev nD) {sp : Space} {S : Shape} {e : EltTy} (M : Memref sig .tc sp S e) (f : RawBuf (F := F) c M) : sProp 𝕄 :=
  M.view.loc (c : Thread nD τ) ↦[M.view.set]{fullShare} f

section
variable (c : Dev nD) (i : grid0.Coords)
  (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x192x128 .f32) (harg11 : arg11.IsWhole) (arg12 : Memref sig .tc .vmem S4x1x128 .f32) (harg12 : arg12.IsWhole) (arg13 : Memref sig .tc .vmem S1024x512 .bf16) (harg13 : arg13.IsWhole) (arg14 : Memref sig .tc .vmem S4x1024x128 .f32) (harg14 : arg14.IsWhole)
  (f1 : RawBuf (F := F) c arg1) (f2 : RawBuf (F := F) c arg2) (f3 : RawBuf (F := F) c arg3) (f4 : RawBuf (F := F) c arg4) (f5 : RawBuf (F := F) c arg5) (f6 : RawBuf (F := F) c arg6) (f7 : RawBuf (F := F) c arg7) (f8 : RawBuf (F := F) c arg8) (f9 : RawBuf (F := F) c arg9) (f10 : RawBuf (F := F) c arg10) (f11 : RawBuf (F := F) c arg11) (f12 : RawBuf (F := F) c arg12)

/-- What one sequence's pass touches: the twelve operand blocks, read only, and the collected tiles. -/
abbrev Held (g : RawBuf (F := F) c arg14) : sProp 𝕄 :=
  iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg14 g)

set_option maxHeartbeats 4000000 in
/-- One sequence's pass leaves the operand blocks as they were and lays its four tile rows over the collected tiles. -/
def pass (k : Fin k0_t1_loop.trips) :
    { L : List (View.Piece (Elt F) S4x1024x128 .f32) // ∀ g : RawBuf (F := F) c arg14,
      Held c arg1 arg2 arg3 arg4 arg5 arg6 arg7 arg8 arg9 arg10 arg11 arg12 arg14 f1 f2 f3 f4 f5 f6 f7 f8 f9 f10 f11 f12 g
        ⊢ wp frame (wpE (defs₀ (F := F)) Variants.none (c : Thread nD τ) none) Set.univ
            (k0_t1_body i arg1 harg1 arg2 harg2 arg3 harg3 arg4 harg4 arg5 harg5 arg6 harg6 arg7 harg7 arg8 harg8 arg9 harg9 arg10 harg10 arg11 harg11 arg12 harg12 arg13 harg13 arg14 harg14 k ())
            (fun _ => Held c arg1 arg2 arg3 arg4 arg5 arg6 arg7 arg8 arg9 arg10 arg11 arg12 arg14 f1 f2 f3 f4 f5 f6 f7 f8 f9 f10 f11 f12 (arg14.view.writes (Elt F) g L)) } := by
  refine ⟨?_, fun g => ?run⟩
  case run =>
    unfold k0_t1_body
    iintro ⟨H1, H2, H3, H4, H5, H6, H7, H8, H9, H10, H11, H12, H14⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H14
end

end Cert.Att

end
-- ==== Proof.Tiles.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.ValueIdxCore
public import proofs.«01_k».proof.Proof.Loop

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The 64 rows of sequence `k` in a time-major block of 64 tokens of 16 sequences. -/
def rows (x : Vec F S1024x128 .f32) (k : Fin k0_t1_loop.trips) : Vec F S64x128 .f32 := fun y =>
  x ((⟨k0_off1 k, S64x128.size, ![16, 1], k0_off1_inb k⟩ : LoadRect S1024x128).idx y)
/-- The bias slab of one head group. -/
abbrev biasAt (x11 : Vec F S4x192x128 .f32) (r : LoadRect S4x192x128) : r.shape.Idx → Elt F .f32 := fun y => x11 (r.idx y)
/-- The sink row of one head group. -/
abbrev sinkAt (x12 : Vec F S4x1x128 .f32) (r : LoadRect S4x1x128) : r.shape.Idx → Elt F .f32 := fun y => x12 (r.idx y)

section
variable (i : grid0.Coords) (x1 x2 x3 x4 x5 x6 x7 x8 x9 x10 : Vec F S1024x128 .f32) (x11 : Vec F S4x192x128 .f32) (x12 : Vec F S4x1x128 .f32) (k : Fin k0_t1_loop.trips)

/-- The rounded softmax weights of head group 0 (key/value head 0, lower half lanes). -/
def w0 : FVec F S192x128 .bf16 :=
  k0_pay12 (k0_pay6 k0_pay22 (k0_pay23 i) (rows x5 k) (rows x6 k) (rows x7 k) (rows x1 k) (rows x2 k)
    (biasAt x11 (Rect.unit (s := S4x192x128) ![0, 0, 0] S1x192x128.size inb_S4x192x128_S1x192x128_0_0_0).toLoadRect))
    (sinkAt x12 (Rect.unit (s := S4x1x128) ![0, 0, 0] S1x1x128.size inb_S4x1x128_S1x1x128_0_0_0).toLoadRect)
/-- The rounded softmax weights of head group 1 (key/value head 0, upper half lanes). -/
def w1 : FVec F S192x128 .bf16 :=
  k0_pay13 (k0_pay7 k0_pay22 (k0_pay23 i) (k0_pay3 (rows x5 k) (rows x6 k) (rows x7 k)) (k0_pay5 (rows x1 k) (rows x2 k))
    (constantI S192x128 1 1#1)
    (biasAt x11 (Rect.unit (s := S4x192x128) ![1, 0, 0] S1x192x128.size inb_S4x192x128_S1x192x128_1_0_0).toLoadRect))
    (sinkAt x12 (Rect.unit (s := S4x1x128) ![1, 0, 0] S1x1x128.size inb_S4x1x128_S1x1x128_1_0_0).toLoadRect)
/-- The scores of head group 2. -/
def s2 : FVec F S192x128 .f32 :=
  k0_pay9 k0_pay22 (k0_pay23 i) (k0_pay3 (rows x5 k) (rows x6 k) (rows x7 k)) (rows x3 k) (rows x4 k)
    (biasAt x11 (Rect.unit (s := S4x192x128) ![2, 0, 0] S1x192x128.size inb_S4x192x128_S1x192x128_2_0_0).toLoadRect)
/-- The rounded softmax weights of head group 2 (key/value head 1, lower half lanes). -/
def w2 : FVec F S192x128 .bf16 :=
  k0_pay17
    (k0_pay14 (sinkAt x12 (Rect.unit (s := S4x1x128) ![2, 0, 0] S1x1x128.size inb_S4x1x128_S1x1x128_2_0_0).toLoadRect))
    (k0_pay15 (s2 i x3 x4 x5 x6 x7 x11 k) (sinkAt x12 (Rect.unit (s := S4x1x128) ![2, 0, 0] S1x1x128.size inb_S4x1x128_S1x1x128_2_0_0).toLoadRect))
    (k0_pay16 (s2 i x3 x4 x5 x6 x7 x11 k) (sinkAt x12 (Rect.unit (s := S4x1x128) ![2, 0, 0] S1x1x128.size inb_S4x1x128_S1x1x128_2_0_0).toLoadRect))
/-- The rounded softmax weights of head group 3 (key/value head 1, upper half lanes). -/
def w3 : FVec F S192x128 .bf16 :=
  k0_pay18 (k0_pay11 (k0_pay23 i) (k0_pay10 k0_pay22 (k0_pay1 (rows x5 k) (rows x6 k) (rows x7 k)) (rows x3 k) (rows x4 k))
    (biasAt x11 (Rect.unit (s := S4x192x128) ![3, 0, 0] S1x192x128.size inb_S4x192x128_S1x192x128_3_0_0).toLoadRect))
    (sinkAt x12 (Rect.unit (s := S4x1x128) ![3, 0, 0] S1x1x128.size inb_S4x1x128_S1x1x128_3_0_0).toLoadRect)
/-- Sequence `k`'s values over the window, and the same with the lane halves exchanged. -/
def vv : FVec F S192x128 .f32 := k0_pay2 (rows x8 k) (rows x9 k) (rows x10 k)
def vr : FVec F S192x128 .f32 := k0_pay4 (rows x8 k) (rows x9 k) (rows x10 k)

/-- The four output tiles of sequence `k`, 64 query rows each. -/
def tile0 : FVec F S1x64x128 .f32 := k0_pay20 k0_pay22 (vv x8 x9 x10 k) (vr x8 x9 x10 k) (w0 i x1 x2 x5 x6 x7 x11 x12 k) (w1 i x1 x2 x5 x6 x7 x11 x12 k)
def tile1 : FVec F S1x64x128 .f32 := k0_pay24 (k0_pay21 k0_pay22 (vv x8 x9 x10 k) (vr x8 x9 x10 k) (w0 i x1 x2 x5 x6 x7 x11 x12 k) (w1 i x1 x2 x5 x6 x7 x11 x12 k))
def tile2 : FVec F S1x64x128 .f32 := k0_pay26 (vv x8 x9 x10 k) (vr x8 x9 x10 k) (w2 i x3 x4 x5 x6 x7 x11 x12 k) (w3 i x3 x4 x5 x6 x7 x11 x12 k)
def tile3 : FVec F S1x64x128 .f32 := k0_pay27 (vv x8 x9 x10 k) (vr x8 x9 x10 k) (w2 i x3 x4 x5 x6 x7 x11 x12 k) (w3 i x3 x4 x5 x6 x7 x11 x12 k)
end

/-- The four tiles as pieces of the collecting buffer, last written first. -/
def pieces (i : grid0.Coords) (x1 x2 x3 x4 x5 x6 x7 x8 x9 x10 : Vec F S1024x128 .f32) (x11 : Vec F S4x192x128 .f32) (x12 : Vec F S4x1x128 .f32) (k : Fin k0_t1_loop.trips) : List (View.Piece (Elt F) S4x1024x128 .f32) :=
  [⟨⟨(⟨k0_off5 k, S1x64x128.size, ![1, 16, 1], k0_off5_inb k⟩ : LoadRect S4x1024x128), spos_1_16_1⟩, tile3 i x3 x4 x5 x6 x7 x8 x9 x10 x11 x12 k⟩,
   ⟨⟨(⟨k0_off4 k, S1x64x128.size, ![1, 16, 1], k0_off4_inb k⟩ : LoadRect S4x1024x128), spos_1_16_1⟩, tile2 i x3 x4 x5 x6 x7 x8 x9 x10 x11 x12 k⟩,
   ⟨⟨(⟨k0_off3 k, S1x64x128.size, ![1, 16, 1], k0_off3_inb k⟩ : LoadRect S4x1024x128), spos_1_16_1⟩, tile1 i x1 x2 x5 x6 x7 x8 x9 x10 x11 x12 k⟩,
   ⟨⟨(⟨k0_off2 k, S1x64x128.size, ![1, 16, 1], k0_off2_inb k⟩ : LoadRect S4x1024x128), spos_1_16_1⟩, tile0 i x1 x2 x5 x6 x7 x8 x9 x10 x11 x12 k⟩]

section
variable (c : Dev nD) (i : grid0.Coords)
  (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x192x128 .f32) (harg11 : arg11.IsWhole) (arg12 : Memref sig .tc .vmem S4x1x128 .f32) (harg12 : arg12.IsWhole) (arg13 : Memref sig .tc .vmem S1024x512 .bf16) (harg13 : arg13.IsWhole) (arg14 : Memref sig .tc .vmem S4x1024x128 .f32) (harg14 : arg14.IsWhole)
  (f1 : RawBuf (F := F) c arg1) (f2 : RawBuf (F := F) c arg2) (f3 : RawBuf (F := F) c arg3) (f4 : RawBuf (F := F) c arg4) (f5 : RawBuf (F := F) c arg5) (f6 : RawBuf (F := F) c arg6) (f7 : RawBuf (F := F) c arg7) (f8 : RawBuf (F := F) c arg8) (f9 : RawBuf (F := F) c arg9) (f10 : RawBuf (F := F) c arg10) (f11 : RawBuf (F := F) c arg11) (f12 : RawBuf (F := F) c arg12)

/-- What a pass writes, from what its operand blocks read. -/
theorem pass_pieces (k : Fin k0_t1_loop.trips) :
    (pass c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 k).1 = pieces i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) k := rfl
end

/-- The row of the tile an index of the collecting buffer lies on. -/
def rowIx (j : S4x1024x128.Idx) : S1x64x128.Idx :=
  ValueIdx.ix3 (0 : Fin 1) (⟨(j 1).val / 16, by have : (j 1).val < 1024 := (j 1).isLt; omega⟩ : Fin 64) (j 2 : Fin 128)
/-- The sequence an index of the collecting buffer belongs to. -/
def seqOf (j : S4x1024x128.Idx) : Fin k0_t1_loop.trips := ⟨(j 1).val % 16, Nat.mod_lt _ (by decide)⟩

/-- The collecting buffer after all sequences: every tile of every sequence. -/
def collected (i : grid0.Coords) (x1 x2 x3 x4 x5 x6 x7 x8 x9 x10 : Vec F S1024x128 .f32) (x11 : Vec F S4x192x128 .f32) (x12 : Vec F S4x1x128 .f32) : Vec F S4x1024x128 .f32 := fun j =>
  match (j 0).val with
  | 0 => tile0 i x1 x2 x5 x6 x7 x8 x9 x10 x11 x12 (seqOf j) (rowIx j)
  | 1 => tile1 i x1 x2 x5 x6 x7 x8 x9 x10 x11 x12 (seqOf j) (rowIx j)
  | 2 => tile2 i x3 x4 x5 x6 x7 x8 x9 x10 x11 x12 (seqOf j) (rowIx j)
  | _ => tile3 i x3 x4 x5 x6 x7 x8 x9 x10 x11 x12 (seqOf j) (rowIx j)

theorem off2_eq : ∀ k, k0_off2 k = ![0, k.val, 0] := by decide
theorem off3_eq : ∀ k, k0_off3 k = ![1, k.val, 0] := by decide
theorem off4_eq : ∀ k, k0_off4 k = ![2, k.val, 0] := by decide
theorem off5_eq : ∀ k, k0_off5 k = ![3, k.val, 0] := by decide

/-- An index lies in a tile piece of sequence `k` only if it is of that tile and that sequence. -/
theorem mem_tile (T : ℕ) (k : Fin k0_t1_loop.trips) (off : Fin 3 → ℕ) (h : off = ![T, k.val, 0]) (hin)
    (y : S4x1024x128.Idx)
    (hy : y ∈ (⟨(⟨off, S1x64x128.size, ![1, 16, 1], hin⟩ : LoadRect S4x1024x128), spos_1_16_1⟩ : Rect S4x1024x128).set) :
    (y 0).val = T ∧ (y 1).val % 16 = k.val := by
  subst h
  have hk : k.val < 16 := k.isLt
  have h0 := LoadRect.mem_set _ |>.mp hy 0
  have h1 := LoadRect.mem_set _ |>.mp hy 1
  obtain ⟨j0, hj0, e0⟩ := h0
  obtain ⟨j1, hj1, e1⟩ := h1
  change j0 < 1 at hj0
  change (y 0).val = T + 1 * j0 at e0
  change (y 1).val = k.val + 16 * j1 at e1
  omega

/-- An index of tile `T` and sequence `k` is its tile row placed. -/
theorem tile_coords (T : ℕ) (k : Fin k0_t1_loop.trips) (y : S4x1024x128.Idx) (h0 : (y 0).val = T) (h1 : (y 1).val % 16 = k.val)
    (a : Fin 3) : (y a).val = (![T, k.val, 0] : Fin 3 → ℕ) a + (![1, 16, 1] : Fin 3 → ℕ) a * (rowIx y a).val := by
  match a with
  | ⟨0, _⟩ => show (y 0).val = T + 1 * 0; omega
  | ⟨1, _⟩ => show (y 1).val = k.val + 16 * ((y 1).val / 16); omega
  | ⟨2, _⟩ => show (y 2).val = 0 + 1 * (y 2).val; omega

/-- A tile piece over a list of writes, read at a place it holds. -/
theorem read_hit (arg14 : Memref sig .tc .vmem S4x1024x128 .f32) (g : arg14.view.ty.Contents (Elt F))
    (T : ℕ) (k : Fin k0_t1_loop.trips) (off : Fin 3 → ℕ) (h : off = ![T, k.val, 0]) (hin) (w : Vec F S1x64x128 .f32)
    (L : List (View.Piece (Elt F) S4x1024x128 .f32)) (y : S4x1024x128.Idx) (h0 : (y 0).val = T) (h1 : (y 1).val % 16 = k.val) :
    arg14.view.read (Elt F) (arg14.view.writes (Elt F) g
      (⟨⟨(⟨off, S1x64x128.size, ![1, 16, 1], hin⟩ : LoadRect S4x1024x128), spos_1_16_1⟩, w⟩ :: L)) y = w (rowIx y) := by
  subst h
  refine View.read_writes_cons_hit_of_coords arg14.view g ⟨(⟨![T, k.val, 0], S1x64x128.size, ![1, 16, 1], hin⟩ : LoadRect S4x1024x128), spos_1_16_1⟩ w L (rowIx y) y ?_
  exact tile_coords T k y h0 h1

/-- A tile piece over a list of writes, read at a place it does not hold. -/
theorem read_miss (arg14 : Memref sig .tc .vmem S4x1024x128 .f32) (g : arg14.view.ty.Contents (Elt F))
    (T : ℕ) (k : Fin k0_t1_loop.trips) (off : Fin 3 → ℕ) (h : off = ![T, k.val, 0]) (hin) (w : Vec F S1x64x128 .f32)
    (L : List (View.Piece (Elt F) S4x1024x128 .f32)) (y : S4x1024x128.Idx) (h0 : ¬ ((y 0).val = T ∧ (y 1).val % 16 = k.val)) :
    arg14.view.read (Elt F) (arg14.view.writes (Elt F) g
      (⟨⟨(⟨off, S1x64x128.size, ![1, 16, 1], hin⟩ : LoadRect S4x1024x128), spos_1_16_1⟩, w⟩ :: L)) y
      = arg14.view.read (Elt F) (arg14.view.writes (Elt F) g L) y :=
  View.read_writes_cons_miss _ _ _ _ _ fun hy => h0 (mem_tile T k off h hin y hy)

theorem seqOf_eq (k : Fin k0_t1_loop.trips) (y : S4x1024x128.Idx) (h1 : (y 1).val % 16 = k.val) : seqOf y = k := Fin.ext h1

/-- One pass over contents that read the collected tiles for the sequences before it reads them for its own too. -/
theorem read_pieces (i : grid0.Coords) (x1 x2 x3 x4 x5 x6 x7 x8 x9 x10 : Vec F S1024x128 .f32) (x11 : Vec F S4x192x128 .f32) (x12 : Vec F S4x1x128 .f32) (k : Fin k0_t1_loop.trips)
    (arg14 : Memref sig .tc .vmem S4x1024x128 .f32) (g : arg14.view.ty.Contents (Elt F))
    (hg : ∀ j : S4x1024x128.Idx, (j 1).val % 16 < k.val → arg14.view.read (Elt F) g j = collected i x1 x2 x3 x4 x5 x6 x7 x8 x9 x10 x11 x12 j) (j : S4x1024x128.Idx)
    (hj : (j 1).val % 16 < k.val + 1) :
    arg14.view.read (Elt F) (arg14.view.writes (Elt F) g (pieces i x1 x2 x3 x4 x5 x6 x7 x8 x9 x10 x11 x12 k)) j = collected i x1 x2 x3 x4 x5 x6 x7 x8 x9 x10 x11 x12 j := by
  unfold pieces
  by_cases hk : (j 1).val % 16 = k.val
  · have hs := seqOf_eq k j hk
    have h4 : (j 0).val < 4 := (j 0).isLt
    by_cases h3 : (j 0).val = 3
    · rw [read_hit _ _ 3 k _ (off5_eq k) _ _ _ j h3 hk]
      unfold collected; simp only [h3, hs]
    rw [read_miss _ _ 3 k _ (off5_eq k) _ _ _ j (fun hy => h3 hy.1)]
    by_cases h2 : (j 0).val = 2
    · rw [read_hit _ _ 2 k _ (off4_eq k) _ _ _ j h2 hk]
      unfold collected; simp only [h2, hs]
    rw [read_miss _ _ 2 k _ (off4_eq k) _ _ _ j (fun hy => h2 hy.1)]
    by_cases h1 : (j 0).val = 1
    · rw [read_hit _ _ 1 k _ (off3_eq k) _ _ _ j h1 hk]
      unfold collected; simp only [h1, hs]
    rw [read_miss _ _ 1 k _ (off3_eq k) _ _ _ j (fun hy => h1 hy.1)]
    have h0 : (j 0).val = 0 := by omega
    rw [read_hit _ _ 0 k _ (off2_eq k) _ _ _ j h0 hk]
    unfold collected; simp only [h0, hs]
  · rw [read_miss _ _ 3 k _ (off5_eq k) _ _ _ j (fun hy => hk hy.2),
      read_miss _ _ 2 k _ (off4_eq k) _ _ _ j (fun hy => hk hy.2),
      read_miss _ _ 1 k _ (off3_eq k) _ _ _ j (fun hy => hk hy.2),
      read_miss _ _ 0 k _ (off2_eq k) _ _ _ j (fun hy => hk hy.2)]
    exact hg j (by omega)

section
variable (c : Dev nD) (i : grid0.Coords)
  (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x192x128 .f32) (harg11 : arg11.IsWhole) (arg12 : Memref sig .tc .vmem S4x1x128 .f32) (harg12 : arg12.IsWhole) (arg13 : Memref sig .tc .vmem S1024x512 .bf16) (harg13 : arg13.IsWhole) (arg14 : Memref sig .tc .vmem S4x1024x128 .f32) (harg14 : arg14.IsWhole)
  (f1 : RawBuf (F := F) c arg1) (f2 : RawBuf (F := F) c arg2) (f3 : RawBuf (F := F) c arg3) (f4 : RawBuf (F := F) c arg4) (f5 : RawBuf (F := F) c arg5) (f6 : RawBuf (F := F) c arg6) (f7 : RawBuf (F := F) c arg7) (f8 : RawBuf (F := F) c arg8) (f9 : RawBuf (F := F) c arg9) (f10 : RawBuf (F := F) c arg10) (f11 : RawBuf (F := F) c arg11) (f12 : RawBuf (F := F) c arg12)

/-- The loop over the sequences: the operand blocks stay, and the collecting buffer reads the collected tiles for the
    sequences done. -/
def upTo (k : ℕ) (_ : Unit) : sProp 𝕄 := iprop(∃ g : RawBuf (F := F) c arg14, Held c arg1 arg2 arg3 arg4 arg5 arg6 arg7 arg8 arg9 arg10 arg11 arg12 arg14 f1 f2 f3 f4 f5 f6 f7 f8 f9 f10 f11 f12 g
    ∗ ⌜∀ j : S4x1024x128.Idx, (j 1).val % 16 < k → arg14.view.read (Elt F) g j = collected i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) j⌝)

/-- One pass carries the loop's invariant on. -/
theorem upTo_step (k : Fin k0_t1_loop.trips) (acc : Unit) :
    upTo c i arg1 arg2 arg3 arg4 arg5 arg6 arg7 arg8 arg9 arg10 arg11 arg12 arg14 f1 f2 f3 f4 f5 f6 f7 f8 f9 f10 f11 f12 k.val acc ⊢ wp frame (wpE (defs₀ (F := F)) Variants.none (c : Thread nD τ) none) Set.univ
      (k0_t1_body i arg1 harg1 arg2 harg2 arg3 harg3 arg4 harg4 arg5 harg5 arg6 harg6 arg7 harg7 arg8 harg8 arg9 harg9 arg10 harg10 arg11 harg11 arg12 harg12 arg13 harg13 arg14 harg14 k acc) (upTo c i arg1 arg2 arg3 arg4 arg5 arg6 arg7 arg8 arg9 arg10 arg11 arg12 arg14 f1 f2 f3 f4 f5 f6 f7 f8 f9 f10 f11 f12 (k.val + 1)) := by
  unfold upTo
  iintro ⟨%g, H, %hg⟩
  iapply (wp_wand_r Idealize.ShloMosaic.frame (wpE (defs₀ (F := F)) Variants.none (c : Thread nD τ) none) Set.univ (Q := fun _ => Held c arg1 arg2 arg3 arg4 arg5 arg6 arg7 arg8 arg9 arg10 arg11 arg12 arg14 f1 f2 f3 f4 f5 f6 f7 f8 f9 f10 f11 f12 (arg14.view.writes (Elt F) g (pieces i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) k))))
  isplitl [H]
  · iapply ((pass c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 k).2 g)
    iexact H
  · iintro %u H
    iexists _
    isplitl [H]; · iexact H
    ipureintro
    exact fun j hj => read_pieces i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) k arg14 g hg j hj
end

end Cert.Att

end
-- ==== Proof.Body.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Tiles

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The output block's four lane slabs. -/
abbrev slab0 : Rect S1024x512 := Rect.unit (s := S1024x512) ![0, 0] S1024x128.size inb_S1024x512_S1024x128_0_0
abbrev slab1 : Rect S1024x512 := Rect.unit (s := S1024x512) ![0, 128] S1024x128.size inb_S1024x512_S1024x128_0_128
abbrev slab2 : Rect S1024x512 := Rect.unit (s := S1024x512) ![0, 256] S1024x128.size inb_S1024x512_S1024x128_0_256
abbrev slab3 : Rect S1024x512 := Rect.unit (s := S1024x512) ![0, 384] S1024x128.size inb_S1024x512_S1024x128_0_384
/-- The four tiles of the collecting buffer. -/
abbrev tileAt0 : Rect S4x1024x128 := Rect.unit (s := S4x1024x128) ![0, 0, 0] S1x1024x128.size inb_S4x1024x128_S1x1024x128_0_0_0
abbrev tileAt1 : Rect S4x1024x128 := Rect.unit (s := S4x1024x128) ![1, 0, 0] S1x1024x128.size inb_S4x1024x128_S1x1024x128_1_0_0
abbrev tileAt2 : Rect S4x1024x128 := Rect.unit (s := S4x1024x128) ![2, 0, 0] S1x1024x128.size inb_S4x1024x128_S1x1024x128_2_0_0
abbrev tileAt3 : Rect S4x1024x128 := Rect.unit (s := S4x1024x128) ![3, 0, 0] S1x1024x128.size inb_S4x1024x128_S1x1024x128_3_0_0

/-- The output block, from the collected tiles: tile `T` rounded into lanes `128 T` to `128 T + 127`. -/
def spread (X : Vec F S4x1024x128 .f32) : Vec F S1024x512 .bf16 :=
  View.canon [⟨slab3, k0_pay31 (View.ld X tileAt3)⟩, ⟨slab2, k0_pay30 (View.ld X tileAt2)⟩, ⟨slab1, k0_pay29 (View.ld X tileAt1)⟩,
    ⟨slab0, k0_pay28 (View.ld X tileAt0)⟩]

/-- The four slabs cover the block. -/
theorem slabs_cover (p3 p2 p1 p0 : Vec F S1024x128 .bf16) (y : S1024x512.Idx) :
    ∃ pc ∈ ([⟨slab3, p3⟩, ⟨slab2, p2⟩, ⟨slab1, p1⟩, ⟨slab0, p0⟩] : List (View.Piece (Elt F) S1024x512 .bf16)), y ∈ pc.1.set :=
  View.cover_of_tiled [⟨slab3, p3⟩, ⟨slab2, p2⟩, ⟨slab1, p1⟩, ⟨slab0, p0⟩] S1024x128.size (by rfl) y

/-- The output block of a grid point from its operand blocks. -/
def outBlk (i : grid0.Coords) (x1 x2 x3 x4 x5 x6 x7 x8 x9 x10 : Vec F S1024x128 .f32) (x11 : Vec F S4x192x128 .f32) (x12 : Vec F S4x1x128 .f32) : Vec F S1024x512 .bf16 := spread (collected i x1 x2 x3 x4 x5 x6 x7 x8 x9 x10 x11 x12)

set_option maxHeartbeats 4000000 in
/-- The body on whole staging buffers: the operands stay, the output block is `outBlk` of them, and the collecting buffer
    ends at some contents. -/
theorem sound_kernel (c : Dev nD) (i : grid0.Coords)
    (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x192x128 .f32) (harg11 : arg11.IsWhole) (arg12 : Memref sig .tc .vmem S4x1x128 .f32) (harg12 : arg12.IsWhole) (arg13 : Memref sig .tc .vmem S1024x512 .bf16) (harg13 : arg13.IsWhole) (arg14 : Memref sig .tc .vmem S4x1024x128 .f32) (harg14 : arg14.IsWhole)
    (x1 x2 x3 x4 x5 x6 x7 x8 x9 x10 : Vec F S1024x128 .f32) (x11 : Vec F S4x192x128 .f32) (x12 : Vec F S4x1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outBlk i x1 x2 x3 x4 x5 x6 x7 x8 x9 x10 x11 x12) ∗ (∃ d, owns (c : Thread nD τ) arg14 fullShare d)) -∗ K ⟨⟩))
      ⊢ wp frame (wpE (defs₀ (F := F)) Variants.none c none) Set.univ (cc0_swa_attention i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_swa_attention_eq_skeleton]; unfold cc0_swa_attention_skel
  simp only [k0_part5_eq_skeleton]; unfold k0_part5_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1 hf2 hf3 hf4 hf5 hf6 hf7 hf8 hf9 hf10 hf11 hf12
  rw [Prog.bind_assoc]
  sl_for (upTo c i arg1 arg2 arg3 arg4 arg5 arg6 arg7 arg8 arg9 arg10 arg11 arg12 arg14 f1 f2 f3 f4 f5 f6 f7 f8 f9 f10 f11 f12) $$ [H1 H2 H3 H4 H5 H6 H7 H8 H9 H10 H11 H12 H14]
  · intro k acc; exact upTo_step c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 k acc
  · unfold upTo
    iexists f14
    isplitl [H1 H2 H3 H4 H5 H6 H7 H8 H9 H10 H11 H12 H14]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H14
    · ipureintro; exact fun j hj => absurd hj (Nat.not_lt_zero _)
  iintro %acc HI
  unfold upTo
  icases HI with ⟨%g, ⟨H1, H2, H3, H4, H5, H6, H7, H8, H9, H10, H11, H12, H14⟩, %hg⟩
  sl_exec
  sl_step
  have hX : arg14.view.read (Elt F) g = collected i (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) := funext fun j => hg j (Nat.mod_lt _ (by decide))
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [View.read_writes_eq_canon _ _ _ (slabs_cover _ _ _ _)]
    unfold outBlk spread
    rw [← hX]
    rfl
  iexists _, g
  isplitr
  · ipureintro; rfl
  iexact H14
end Cert.Att

end
-- ==== Proof.Run.lean ====
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Body
public import Idealize.ShloMosaic.Lib.Claim

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them; after a point the operands' buffers at their blocks and
    the result's at `outBlk` of them; the invariant the scoped rest and the generator register; nothing owed; the shares an
    array's windows have of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlk (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outBlk (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- The invariant with the collecting buffer shown. -/
theorem inv_eq (c : Dev nD) (t) : (dats m 0 c).Φ t = iprop((∃ d, owns (c : Thread nD τ) (Memref.whole cc0_scratch0) fullShare d)
    ∗ (∃ r, prngReg c r)) := by
  have e : ∀ t, (dats m 0 c).Φ t = Pipeline.ΦA spec0 c := fun _ => rfl
  rw [e]
  unfold Pipeline.ΦA
  rw [scopedRest0_eq]
  simp only [owns_whole]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl, inv_eq, inv_eq,
    after_0, after_1, after_2, after_3, after_4, after_5, after_6, after_7, after_8, after_9, after_10, after_11, after_12]
  iintro ⟨⟨⟨%ds, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexists _; iexact HS
  iintro ⟨H0, H1, H2, H3, H4, H5, H6, H7, H8, H9, H10, H11, H12, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point's slots is the body as the point spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every weakly fair execution ends, with every array of the pipeline at what the proof data compute and every
    semaphore counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl) (hQ' := fun _ h => h)

/-- The run's values. -/
theorem run_main : θ_run defs (onTc (τ := τ) (main (F := F))) (s₀ m ρ) (Pipeline.FramePost cfgs (dats m) 0 (V m)) :=
  (θ_run defs _ _).mono (fun _ h => h.1) (run_quiescent m ρ)

/-- The frame at any values: the arguments end unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Att

end
-- ==== Proof.Frames.lean ====
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference3Ideal
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference4Ideal
public import proofs.«01_k».proof.Proof.Gen.Reference4Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference5Ideal
public import proofs.«01_k».proof.Proof.Gen.Reference5Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference6Ideal
public import proofs.«01_k».proof.Proof.Gen.Reference6Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference8Ideal
public import proofs.«01_k».proof.Proof.Gen.Reference8Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference9Ideal
public import proofs.«01_k».proof.Proof.Gen.Reference9Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference10Ideal
public import proofs.«01_k».proof.Proof.Gen.Reference10Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import Idealize.ShloMosaic.Lib.Quiescent

@[expose] public section

set_option maxRecDepth 16384
set_option maxHeartbeats 4000000

namespace Cert.Frames

open Idealize.ShloMosaic Idealize.ShloMosaic.TcCoe Idealize.SL.Sem

/-- The region's body is the same at any values. -/
theorem defs₀_same : Cert.KernelIdeal.defs₀ (F := Bits) = Cert.Kernel.defs₀ (F := Bits) := by
  funext k l a
  match k, l, a with
  | .tc, ⟨0, _⟩, a => rfl
  | .scScalar _, l, a => rfl
  | .scVector _ _, l, a => rfl

/-- So are the definitions of the run. -/
theorem defs_same : Cert.KernelIdeal.defs (F := Bits) = Cert.Kernel.defs (F := Bits) := by
  unfold Cert.KernelIdeal.defs Cert.Kernel.defs
  exact congrArg (Pipeline.defs (Cert.KernelIdeal.pcfgs (F := Bits))) defs₀_same

/-- The attention, bit by bit: it ends, its arguments as they were and every counter at zero. The run is the one of the
    ideal program, which is the same program at any values. -/
theorem kernel : Cert.quiescent_Kernel := fun m ρ _ => by
  have h := Cert.Att.frame_any (F := Bits) m ρ
  rw [defs_same] at h
  exact h

/-- The attention in exact arithmetic ends, its arguments as they were and every counter at zero. -/
theorem kernelIdeal : Cert.quiescent_KernelIdeal := fun m ρ _ => Cert.Att.frame_any m ρ
/-- The reference ends, its arguments as they were; it has no counters. -/
theorem reference : Cert.quiescent_ReferenceIdeal := fun m ρ _ =>
  (θ_run (Cert.ReferenceIdeal.defs (F := Ideal)) _ _).mono (fun r h => ⟨fun c => (h c).2,
    sem_eq_zero_of_no_sems (by decide) r.2⟩) (Cert.ReferenceIdeal.Value.run (F := Ideal) m ρ)
theorem kernel2 : Cert.quiescent_Kernel2 := fun m ρ _ => Cert.Kernel2.Gen.frame m ρ
theorem kernel2Ideal : Cert.quiescent_Kernel2Ideal := fun m ρ _ => Cert.Kernel2Ideal.Gen.frame m ρ
/-- The reference ends, its arguments as they were; it has no counters. -/
theorem reference2 : Cert.quiescent_Reference2Ideal := fun m ρ _ =>
  (θ_run (Cert.Reference2Ideal.defs (F := Ideal)) _ _).mono (fun r h => ⟨fun c => (h c).2.2.2.2,
    sem_eq_zero_of_no_sems (by decide) r.2⟩) (Cert.Reference2Ideal.Value.run (F := Ideal) m ρ)
theorem kernel3 : Cert.quiescent_Kernel3 := fun m ρ _ => Cert.Kernel3.Gen.frame m ρ
theorem kernel3Ideal : Cert.quiescent_Kernel3Ideal := fun m ρ _ => Cert.Kernel3Ideal.Gen.frame m ρ
/-- The reference ends, its arguments as they were; it has no counters. -/
theorem reference3 : Cert.quiescent_Reference3Ideal := fun m ρ _ =>
  (θ_run (Cert.Reference3Ideal.defs (F := Ideal)) _ _).mono (fun r h => ⟨fun c => (h c).2.2.2,
    sem_eq_zero_of_no_sems (by decide) r.2⟩) (Cert.Reference3Ideal.Value.run (F := Ideal) m ρ)
theorem kernel4 : Cert.quiescent_Kernel4 := fun m ρ _ => Cert.Kernel4.Gen.frame m ρ
theorem kernel4Ideal : Cert.quiescent_Kernel4Ideal := fun m ρ _ => Cert.Kernel4Ideal.Gen.frame m ρ
/-- The reference ends, its arguments as they were; it has no counters. -/
theorem reference4 : Cert.quiescent_Reference4Ideal := fun m ρ _ =>
  (θ_run (Cert.Reference4Ideal.defs (F := Ideal)) _ _).mono (fun r h => ⟨fun c => (h c).2,
    sem_eq_zero_of_no_sems (by decide) r.2⟩) (Cert.Reference4Ideal.Value.run (F := Ideal) m ρ)
theorem kernel5 : Cert.quiescent_Kernel5 := fun m ρ _ => Cert.Kernel5.Gen.frame m ρ
theorem kernel5Ideal : Cert.quiescent_Kernel5Ideal := fun m ρ _ => Cert.Kernel5Ideal.Gen.frame m ρ
/-- The reference ends, its arguments as they were; it has no counters. -/
theorem reference5 : Cert.quiescent_Reference5Ideal := fun m ρ _ =>
  (θ_run (Cert.Reference5Ideal.defs (F := Ideal)) _ _).mono (fun r h => ⟨fun c => (h c).2,
    sem_eq_zero_of_no_sems (by decide) r.2⟩) (Cert.Reference5Ideal.Value.run (F := Ideal) m ρ)
theorem kernel6 : Cert.quiescent_Kernel6 := fun m ρ _ => Cert.Kernel6.Gen.frame m ρ
theorem kernel6Ideal : Cert.quiescent_Kernel6Ideal := fun m ρ _ => Cert.Kernel6Ideal.Gen.frame m ρ
/-- The reference ends, its arguments as they were; it has no counters. -/
theorem reference6 : Cert.quiescent_Reference6Ideal := fun m ρ _ =>
  (θ_run (Cert.Reference6Ideal.defs (F := Ideal)) _ _).mono (fun r h => ⟨fun c => (h c).2,
    sem_eq_zero_of_no_sems (by decide) r.2⟩) (Cert.Reference6Ideal.Value.run (F := Ideal) m ρ)
theorem kernel8 : Cert.quiescent_Kernel8 := fun m ρ _ => Cert.Kernel8.Gen.frame m ρ
theorem kernel8Ideal : Cert.quiescent_Kernel8Ideal := fun m ρ _ => Cert.Kernel8Ideal.Gen.frame m ρ
/-- The reference ends, its arguments as they were; it has no counters. -/
theorem reference8 : Cert.quiescent_Reference8Ideal := fun m ρ _ =>
  (θ_run (Cert.Reference8Ideal.defs (F := Ideal)) _ _).mono (fun r h => ⟨fun c => (h c).2,
    sem_eq_zero_of_no_sems (by decide) r.2⟩) (Cert.Reference8Ideal.Value.run (F := Ideal) m ρ)
theorem kernel9 : Cert.quiescent_Kernel9 := fun m ρ _ => Cert.Kernel9.Gen.frame m ρ
theorem kernel9Ideal : Cert.quiescent_Kernel9Ideal := fun m ρ _ => Cert.Kernel9Ideal.Gen.frame m ρ
/-- The reference ends, its arguments as they were; it has no counters. -/
theorem reference9 : Cert.quiescent_Reference9Ideal := fun m ρ _ =>
  (θ_run (Cert.Reference9Ideal.defs (F := Ideal)) _ _).mono (fun r h => ⟨fun c => (h c).2.2.2.2,
    sem_eq_zero_of_no_sems (by decide) r.2⟩) (Cert.Reference9Ideal.Value.run (F := Ideal) m ρ)
theorem kernel10 : Cert.quiescent_Kernel10 := fun m ρ _ => Cert.Kernel10.Gen.frame m ρ
theorem kernel10Ideal : Cert.quiescent_Kernel10Ideal := fun m ρ _ => Cert.Kernel10Ideal.Gen.frame m ρ
/-- The reference ends, its arguments as they were; it has no counters. -/
theorem reference10 : Cert.quiescent_Reference10Ideal := fun m ρ _ =>
  (θ_run (Cert.Reference10Ideal.defs (F := Ideal)) _ _).mono (fun r h => ⟨fun c => (h c).2.2.2,
    sem_eq_zero_of_no_sems (by decide) r.2⟩) (Cert.Reference10Ideal.Value.run (F := Ideal) m ρ)

end Cert.Frames

end
-- ==== Proof.Moe.lean ====
module

public import proofs.«01_k».proof.Proof.Gen.Kernel7Ideal.Skeleton
public import proofs.«01_k».proof.Proof.Gen.Kernel7Ideal.Launch
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384
set_option Elab.async false

noncomputable section

namespace Cert.Moe

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two column halves of the output block. -/
abbrev left : Rect S256x2048 := Rect.unit (s := S256x2048) ![0, 0] S256x1024.size inb_S256x2048_S256x1024_0_0
abbrev right : Rect S256x2048 := Rect.unit (s := S256x2048) ![0, 1024] S256x1024.size inb_S256x2048_S256x1024_0_1024

/-- The body's first branch is taken at the points before the number of blocks in use. -/
theorem cond1_iff (i : grid0.Coords) (n : BitVec 32) : k0_cond1 i n = 1#1 ↔ (BitVec.ofNat 32 (i 0).val).toInt < n.toInt := by
  unfold k0_cond1; dsimp only
  by_cases h : (BitVec.ofNat 32 (i 0).val).toInt < n.toInt
  · have e : Scalar.cmpi .slt (BitVec.ofNat 32 (i 0).val) n = 1#1 := (congrArg BitVec.ofBool (decide_eq_true h)).trans rfl
    rw [e]; exact ⟨fun _ => h, fun _ => by decide⟩
  · have e : Scalar.cmpi .slt (BitVec.ofNat 32 (i 0).val) n = 0#1 := (congrArg BitVec.ofBool (decide_eq_false h)).trans rfl
    rw [e]; exact ⟨fun k => absurd k (by decide), fun k => absurd k h⟩

/-- The second branch is taken where the first is not. -/
theorem cond2_iff (i : grid0.Coords) (n : BitVec 32) : k0_cond2 i n = 1#1 ↔ ¬ k0_cond1 i n = 1#1 := by
  rw [cond1_iff]
  unfold k0_cond2; dsimp only
  by_cases h : n.toInt ≤ (BitVec.ofNat 32 (i 0).val).toInt
  · have e : Scalar.cmpi .sge (BitVec.ofNat 32 (i 0).val) n = 1#1 := (congrArg BitVec.ofBool (decide_eq_true h)).trans rfl
    rw [e]; exact ⟨fun _ => not_lt.mpr h, fun _ => by decide⟩
  · have e : Scalar.cmpi .sge (BitVec.ofNat 32 (i 0).val) n = 0#1 := (congrArg BitVec.ofBool (decide_eq_false h)).trans rfl
    rw [e]; exact ⟨fun k => absurd k (by decide), fun k => absurd (not_lt.mp k) h⟩

/-- The output block of a grid point from its row block and its two experts' weights, `n` the number of blocks in use. -/
def blkOut (i : grid0.Coords) (n : BitVec 32) (x0 : Vec F S256x1024 .f32) (x1 x2 : Vec F S1x1024x256 .bf16) (x3 : Vec F S1x256x1024 .bf16)
    (x4 x5 : Vec F S1x1024x256 .bf16) (x6 : Vec F S1x256x1024 .bf16) : Vec F S256x2048 .f32 :=
  if k0_cond1 i n = 1#1 then View.canon [⟨right, k0_pay1 (k0_pay3 x0) (k0_pay5 x0 x4) x5 x6⟩, ⟨left, k0_pay4 x0 x1 x2 x3⟩]
  else k0_pay2

/-- The halves cover the block. -/
theorem halves_cover (p1 p0 : Vec F S256x1024 .f32) (y : S256x2048.Idx) :
    ∃ pc ∈ ([⟨right, p1⟩, ⟨left, p0⟩] : List (View.Piece (Elt F) S256x2048 .f32)), y ∈ pc.1.set :=
  View.cover_of_tiled [⟨right, p1⟩, ⟨left, p0⟩] S256x1024.size (by rfl) y

/-- The table of one word: the number of blocks in use. -/
abbrev inUse : Memref sig .tc .smem S1 .i32 := Memref.whole main_arg2

/-- The one entry of a table of one word. -/
def word (T : Vec F S1 .i32) : BitVec 32 := T (Shape.Idx.first (numel1_S1.symm ▸ Nat.one_pos))

theorem word_at (T : Vec F S1 .i32) (y : S1.Idx) : T y = word T := by
  unfold word
  congr 1
  funext a
  match a with
  | ⟨0, _⟩ => exact Subsingleton.elim (α := Fin 1) _ _

/-- One store over the whole block leaves the stored value. -/
theorem read_one (v : View sig .tc .vmem S256x2048 .f32) (f : v.ty.Contents (Elt F)) (p : Vec F S256x2048 .f32) :
    v.read (Elt F) (v.writes (Elt F) f [⟨Rect.unit (s := S256x2048) ![0, 0] S256x2048.size inb_S256x2048_S256x2048_0_0, p⟩]) = p := by
  rw [View.read_writes_eq_canon _ _ _ (fun y => View.cover_of_tiled (Val := Elt F) [⟨Rect.unit (s := S256x2048) ![0, 0] S256x2048.size inb_S256x2048_S256x2048_0_0, p⟩] S256x2048.size (by rfl) y)]
  exact View.canon_unit_zero (by funext a; match a with | ⟨0, _⟩ => rfl | ⟨1, _⟩ => rfl) _ _

set_option maxHeartbeats 4000000 in
/-- The body on whole staging buffers: the operands and the table stay, and the output block is `blkOut` of them. -/
theorem sound_kernel (c : Dev nD) (i : grid0.Coords) (arg4 : Memref sig .tc .vmem S256x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x256x1024 .bf16) (harg10 : arg10.IsWhole) (arg11 : Memref sig .tc .vmem S256x2048 .f32) (harg11 : arg11.IsWhole)
    (q : PosShare TreeShare) (T : Vec F S1 .i32) (x0 : Vec F S256x1024 .f32) (x1 x2 : Vec F S1x1024x256 .bf16) (x3 : Vec F S1x256x1024 .bf16) (x4 x5 : Vec F S1x1024x256 .bf16) (x6 : Vec F S1x256x1024 .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (inUse.view.loc (c : Thread nD τ) ↦{q} T) ∗ (∃ d, owns (c : Thread nD τ) arg11 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (inUse.view.loc (c : Thread nD τ) ↦{q} T) ∗ owns (c : Thread nD τ) arg11 fullShare (blkOut i (word T) x0 x1 x2 x3 x4 x5 x6)) -∗ K ⟨⟩))
      ⊢ wp frame (wpE (defs₀ (F := F)) Variants.none c none) Set.univ (cc0_moe_experts i (Memref.whole main_arg0) (Memref.isWhole_whole _) (Memref.whole main_arg1) (Memref.isWhole_whole _) inUse (Memref.isWhole_whole _) arg4 harg4 arg5 harg5 arg6 harg6 arg7 harg7 arg8 harg8 arg9 harg9 arg10 harg10 arg11 harg11) K := by
  rw [cc0_moe_experts_eq_skeleton]; unfold cc0_moe_experts_skel
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT, ⟨%d11, %f11, -, H11⟩, Hk⟩
  subst hf4 hf5 hf6 hf7 hf8 hf9 hf10
  have hT2 : inUse.IsWhole := Memref.isWhole_whole _
  have hw : View.readAt (Elt F) inUse.view (Rect.unit (s := S1) ![0] S1.size inb_S1_S1_0).toLoadRect T (Shape.Idx.first (numel1_S1.symm ▸ Nat.one_pos)) = word T := word_at T _
  by_cases h : k0_cond1 i (word T) = 1#1
  · have h1 : k0_cond1 i (View.readAt (Elt F) inUse.view (Rect.unit (s := S1) ![0] S1.size inb_S1_S1_0).toLoadRect T (Shape.Idx.first (numel1_S1.symm ▸ Nat.one_pos))) = 1#1 := by
      rw [hw]; exact h
    have h2 : ¬k0_cond2 i (View.readAt (Elt F) inUse.view (Rect.unit (s := S1) ![0] S1.size inb_S1_S1_0).toLoadRect T (Shape.Idx.first (numel1_S1.symm ▸ Nat.one_pos))) = 1#1 := by
      rw [cond2_iff]; exact fun h => h h1
    sl_exec! (disch := first | exact h1 | exact h2)
    sl_step
    iapply Hk
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [HT]
    · iexact HT
    iexists _; isplitr
    swap; · iexact H11
    ipureintro
    unfold blkOut
    rw [if_pos h]
    have e4 : View.readAt (Elt F) arg4.view (Rect.unit (s := S256x1024) ![0, 0] S256x1024.size inb_S256x1024_S256x1024_0_0).toLoadRect f4 = arg4.view.read (Elt F) f4 := View.readAt_full _ _ _
    have e5 : View.readAt (Elt F) arg5.view (Rect.unit (s := S1x1024x256) ![0, 0, 0] S1x1024x256.size inb_S1x1024x256_S1x1024x256_0_0_0).toLoadRect f5 = arg5.view.read (Elt F) f5 := View.readAt_full _ _ _
    have e6 : View.readAt (Elt F) arg6.view (Rect.unit (s := S1x1024x256) ![0, 0, 0] S1x1024x256.size inb_S1x1024x256_S1x1024x256_0_0_0).toLoadRect f6 = arg6.view.read (Elt F) f6 := View.readAt_full _ _ _
    have e7 : View.readAt (Elt F) arg7.view (Rect.unit (s := S1x256x1024) ![0, 0, 0] S1x256x1024.size inb_S1x256x1024_S1x256x1024_0_0_0).toLoadRect f7 = arg7.view.read (Elt F) f7 := View.readAt_full _ _ _
    have e8 : View.readAt (Elt F) arg8.view (Rect.unit (s := S1x1024x256) ![0, 0, 0] S1x1024x256.size inb_S1x1024x256_S1x1024x256_0_0_0).toLoadRect f8 = arg8.view.read (Elt F) f8 := View.readAt_full _ _ _
    have e9 : View.readAt (Elt F) arg9.view (Rect.unit (s := S1x1024x256) ![0, 0, 0] S1x1024x256.size inb_S1x1024x256_S1x1024x256_0_0_0).toLoadRect f9 = arg9.view.read (Elt F) f9 := View.readAt_full _ _ _
    have e10 : View.readAt (Elt F) arg10.view (Rect.unit (s := S1x256x1024) ![0, 0, 0] S1x256x1024.size inb_S1x256x1024_S1x256x1024_0_0_0).toLoadRect f10 = arg10.view.read (Elt F) f10 := View.readAt_full _ _ _
    unfold sound_kernel.sl.H11_2; rw [View.read_writes_eq_canon _ _ _ (halves_cover (F := F) _ _)]; unfold sound_kernel.sl.r_1 sound_kernel.sl.r_2; rw [e4, e5, e6, e7, e8, e9, e10]
  · have h1 : ¬k0_cond1 i (View.readAt (Elt F) inUse.view (Rect.unit (s := S1) ![0] S1.size inb_S1_S1_0).toLoadRect T (Shape.Idx.first (numel1_S1.symm ▸ Nat.one_pos))) = 1#1 := by
      rw [hw]; exact h
    have h2 : k0_cond2 i (View.readAt (Elt F) inUse.view (Rect.unit (s := S1) ![0] S1.size inb_S1_S1_0).toLoadRect T (Shape.Idx.first (numel1_S1.symm ▸ Nat.one_pos))) = 1#1 := by
      rw [cond2_iff]; exact h1
    sl_exec! (disch := first | exact h1 | exact h2)
    sl_step
    iapply Hk
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [HT]
    · iexact HT
    iexists _; isplitr
    swap; · iexact H11
    ipureintro
    unfold blkOut
    rw [if_neg h]
    exact read_one _ _ _

end Cert.Moe

end
-- ==== Proof.MoeRun.lean ====
module

public import proofs.«01_k».proof.Proof.Moe
public import Idealize.ShloMosaic.Lib.Claim

@[expose] public section

set_option maxRecDepth 16384
set_option Elab.async false

noncomputable section

namespace Cert.Moe

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- A buffer's contents after the host operations before the region. -/
def V (c : Dev nD) (b : Ref sig .tc) : Buf (Elt F) ((c : Thread nD τ).loc b) :=
  StableHlo.after (List.flatten [hostOps0]) (fun b => m (c, b)) b

/-- `main` runs its host operations, then the region. -/
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0] (by simp only [List.Forall]; exact hostOps0_sub)
    (by simp only [List.Forall]; exact ⟨rfl, rfl, rfl⟩) main_chain

/-- No host operation writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-- No host operation writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-- No host operation writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-- No host operation writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-- No host operation writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-- No host operation writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-- No host operation writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne (by decide)))

/-! ## The tables -/

/-- The three tables' contents on device 0, there being one device. -/
def tables : pre0.Contents (Elt F) := fun k => m (((0 : Dev nD) : Thread nD τ).loc (pre0.ref k))

theorem dev_eq (c : Dev nD) : c = 0 := Subsingleton.elim (α := Fin 1) _ _

/-- Every entry of the two expert tables names one of the 32 experts. -/
def InRange : Prop := (∀ j : S368.Idx, (tables m 0 j : BitVec 32).toNat < 32) ∧ (∀ j : S368.Idx, (tables m 1 j : BitVec 32).toNat < 32)

/-- A weight block whose expert is one of the 32 lies in the array, and its transfers are of whole words. -/
theorem block_ok {R Q : ℕ} (v : BitVec 32) (h : v.toNat < 32) (f : Fin 3 → ℕ) (hf : f = ![v.toNat, 0, 0]) :
    ∀ a, (f a + 1) * (⟨3, ![1, R, Q]⟩ : Shape).size a ≤ (⟨3, ![32, R, Q]⟩ : Shape).size a := by
  subst hf
  intro a
  match a with
  | ⟨0, _⟩ => show (v.toNat + 1) * 1 ≤ 32; omega
  | ⟨1, _⟩ => show (0 + 1) * R ≤ R; omega
  | ⟨2, _⟩ => show (0 + 1) * Q ≤ Q; omega

/-- The region's side condition on the tables. -/
theorem tables_ok (h : InRange m) : ok0 (tables m) :=
  ⟨fun i => ⟨block_ok _ (h.1 _) _ rfl, .inr (Affine.block_words_dvd (s := S32x1024x256) (p := EltTy.packing .bf16) (by decide) (by decide))⟩,
   fun i => ⟨block_ok _ (h.1 _) _ rfl, .inr (Affine.block_words_dvd (s := S32x1024x256) (p := EltTy.packing .bf16) (by decide) (by decide))⟩,
   fun i => ⟨block_ok _ (h.1 _) _ rfl, .inr (Affine.block_words_dvd (s := S32x256x1024) (p := EltTy.packing .bf16) (by decide) (by decide))⟩,
   fun i => ⟨block_ok _ (h.2 _) _ rfl, .inr (Affine.block_words_dvd (s := S32x1024x256) (p := EltTy.packing .bf16) (by decide) (by decide))⟩,
   fun i => ⟨block_ok _ (h.2 _) _ rfl, .inr (Affine.block_words_dvd (s := S32x1024x256) (p := EltTy.packing .bf16) (by decide) (by decide))⟩,
   fun i => ⟨block_ok _ (h.2 _) _ rfl, .inr (Affine.block_words_dvd (s := S32x256x1024) (p := EltTy.packing .bf16) (by decide) (by decide))⟩⟩

variable (hr : InRange m)

/-- The tables with their side condition, and the pipeline at them. -/
def adm : (pcfg0 (F := F)).Adm := ⟨tables m, tables_ok m hr⟩
abbrev pipe : Pipeline.Cfg sig Λ₀ := cfg0 (F := F) (adm m hr)

/-- The number of blocks in use. -/
def used : BitVec 32 := word (F := F) (tables m 2)

/-- Window `w`'s block at point `t`, of its array as the region finds it. -/
def iblk (c : Dev nD) (w : Fin (pipe m hr).W) (t : Fin (pipe m hr).N) :
    (((pipe m hr).win w).xblock ((pipe m hr).grid.coords t)).Idx → Elt F ((pipe m hr).win w).elt :=
  (((pipe m hr).win w).blk t).view.read (Elt F) (V m c (Pipeline.arrRef spec0 w))

/-- The output block at point `t`. -/
def oblk (c : Dev nD) (t : Fin (pipe m hr).N) : Vec F S256x2048 .f32 :=
  blkOut ((pipe m hr).grid.coords t) (used m) (iblk m hr c 0 t) (iblk m hr c 1 t) (iblk m hr c 2 t) (iblk m hr c 3 t) (iblk m hr c 4 t) (iblk m hr c 5 t) (iblk m hr c 6 t)

/-- The pipeline's proof data: after a point the operands' buffers hold their blocks and the result's the point's output
    block; the tables and the generator register stay; nothing is owed. -/
def dats (_ : Fin 1) (c : Dev nD) : Dat τ (Elt F) Unit ℕ (UR sig nD τ) ℕ (pipe m hr) c where
  A w := V m c (Pipeline.arrRef spec0 w)
  after w t := match w with
    | ⟨0, _⟩ => iblk m hr c 0 t
    | ⟨1, _⟩ => iblk m hr c 1 t
    | ⟨2, _⟩ => iblk m hr c 2 t
    | ⟨3, _⟩ => iblk m hr c 3 t
    | ⟨4, _⟩ => iblk m hr c 4 t
    | ⟨5, _⟩ => iblk m hr c 5 t
    | ⟨6, _⟩ => iblk m hr c 6 t
    | ⟨7, _⟩ => oblk m hr c t
  Φ _ := iprop(Pipeline.ΦA spec0 c ∗ Pipeline.ΦT pre0 (tables m) c)
  q w := Pipeline.shareOf spec0 w
  owed _ := 0

theorem A_eq (c : Dev nD) (w : Fin (pipe m hr).W) : (dats m hr 0 c).A w = V m c (Pipeline.arrRef spec0 w) := by dsimp only [dats]

theorem after_0 (c : Dev nD) (t : Fin (pipe m hr).N) : (dats m hr 0 c).after (0 : Fin 8) t = iblk m hr c 0 t := by dsimp only [dats]
theorem after_1 (c : Dev nD) (t : Fin (pipe m hr).N) : (dats m hr 0 c).after (1 : Fin 8) t = iblk m hr c 1 t := by dsimp only [dats]
theorem after_2 (c : Dev nD) (t : Fin (pipe m hr).N) : (dats m hr 0 c).after (2 : Fin 8) t = iblk m hr c 2 t := by dsimp only [dats]
theorem after_3 (c : Dev nD) (t : Fin (pipe m hr).N) : (dats m hr 0 c).after (3 : Fin 8) t = iblk m hr c 3 t := by dsimp only [dats]
theorem after_4 (c : Dev nD) (t : Fin (pipe m hr).N) : (dats m hr 0 c).after (4 : Fin 8) t = iblk m hr c 4 t := by dsimp only [dats]
theorem after_5 (c : Dev nD) (t : Fin (pipe m hr).N) : (dats m hr 0 c).after (5 : Fin 8) t = iblk m hr c 5 t := by dsimp only [dats]
theorem after_6 (c : Dev nD) (t : Fin (pipe m hr).N) : (dats m hr 0 c).after (6 : Fin 8) t = iblk m hr c 6 t := by dsimp only [dats]
theorem after_7 (c : Dev nD) (t : Fin (pipe m hr).N) : (dats m hr 0 c).after (7 : Fin 8) t = oblk m hr c t := by dsimp only [dats]
theorem before_0 (c : Dev nD) (t : Fin (pipe m hr).N) (d) : (dats m hr 0 c).before (0 : Fin 8) t d = iblk m hr c 0 t :=
  ((dats m hr 0 c).before_in_eq_fetched (0 : Fin 8) rfl (fun _ => rfl) (fun _ _ _ => rfl) (fun t => by rw [after_0]; unfold Dat.blockOf iblk; rw [A_eq]; rfl) t d).trans
    (by unfold Dat.fetched Dat.blockOf iblk; rw [A_eq]; try rfl)
theorem before_1 (c : Dev nD) (t : Fin (pipe m hr).N) (d) : (dats m hr 0 c).before (1 : Fin 8) t d = iblk m hr c 1 t :=
  ((dats m hr 0 c).before_in_eq_fetched (1 : Fin 8) rfl (fun _ => rfl) (fun _ _ _ => rfl) (fun t => by rw [after_1]; unfold Dat.blockOf iblk; rw [A_eq]; rfl) t d).trans
    (by unfold Dat.fetched Dat.blockOf iblk; rw [A_eq]; try rfl)
theorem before_2 (c : Dev nD) (t : Fin (pipe m hr).N) (d) : (dats m hr 0 c).before (2 : Fin 8) t d = iblk m hr c 2 t :=
  ((dats m hr 0 c).before_in_eq_fetched (2 : Fin 8) rfl (fun _ => rfl) (fun _ _ _ => rfl) (fun t => by rw [after_2]; unfold Dat.blockOf iblk; rw [A_eq]; rfl) t d).trans
    (by unfold Dat.fetched Dat.blockOf iblk; rw [A_eq]; try rfl)
theorem before_3 (c : Dev nD) (t : Fin (pipe m hr).N) (d) : (dats m hr 0 c).before (3 : Fin 8) t d = iblk m hr c 3 t :=
  ((dats m hr 0 c).before_in_eq_fetched (3 : Fin 8) rfl (fun _ => rfl) (fun _ _ _ => rfl) (fun t => by rw [after_3]; unfold Dat.blockOf iblk; rw [A_eq]; rfl) t d).trans
    (by unfold Dat.fetched Dat.blockOf iblk; rw [A_eq]; try rfl)
theorem before_4 (c : Dev nD) (t : Fin (pipe m hr).N) (d) : (dats m hr 0 c).before (4 : Fin 8) t d = iblk m hr c 4 t :=
  ((dats m hr 0 c).before_in_eq_fetched (4 : Fin 8) rfl (fun _ => rfl) (fun _ _ _ => rfl) (fun t => by rw [after_4]; unfold Dat.blockOf iblk; rw [A_eq]; rfl) t d).trans
    (by unfold Dat.fetched Dat.blockOf iblk; rw [A_eq]; try rfl)
theorem before_5 (c : Dev nD) (t : Fin (pipe m hr).N) (d) : (dats m hr 0 c).before (5 : Fin 8) t d = iblk m hr c 5 t :=
  ((dats m hr 0 c).before_in_eq_fetched (5 : Fin 8) rfl (fun _ => rfl) (fun _ _ _ => rfl) (fun t => by rw [after_5]; unfold Dat.blockOf iblk; rw [A_eq]; rfl) t d).trans
    (by unfold Dat.fetched Dat.blockOf iblk; rw [A_eq]; try rfl)
theorem before_6 (c : Dev nD) (t : Fin (pipe m hr).N) (d) : (dats m hr 0 c).before (6 : Fin 8) t d = iblk m hr c 6 t :=
  ((dats m hr 0 c).before_in_eq_fetched (6 : Fin 8) rfl (fun _ => rfl) (fun _ _ _ => rfl) (fun t => by rw [after_6]; unfold Dat.blockOf iblk; rw [A_eq]; rfl) t d).trans
    (by unfold Dat.fetched Dat.blockOf iblk; rw [A_eq]; try rfl)
/-- Window 0's staging buffer at point `t`. -/
abbrev buf0 (t : Fin (pipe m hr).N) : Memref sig .tc .vmem S256x1024 .f32 := spec0_0.stage ((pipe m hr).slots t (0 : Fin 8))
abbrev whole0 (t : Fin (pipe m hr).N) : (buf0 m hr t).IsWhole := hstage0_0 (((pipe m hr).slots t (0 : Fin 8)).cast nbuf0_0)
/-- Window 1's staging buffer at point `t`. -/
abbrev buf1 (t : Fin (pipe m hr).N) : Memref sig .tc .vmem S1x1024x256 .bf16 := spec0_1.stage ((pipe m hr).slots t (1 : Fin 8))
abbrev whole1 (t : Fin (pipe m hr).N) : (buf1 m hr t).IsWhole := hstage0_1 (((pipe m hr).slots t (1 : Fin 8)).cast nbuf0_1)
/-- Window 2's staging buffer at point `t`. -/
abbrev buf2 (t : Fin (pipe m hr).N) : Memref sig .tc .vmem S1x1024x256 .bf16 := spec0_2.stage ((pipe m hr).slots t (2 : Fin 8))
abbrev whole2 (t : Fin (pipe m hr).N) : (buf2 m hr t).IsWhole := hstage0_2 (((pipe m hr).slots t (2 : Fin 8)).cast nbuf0_2)
/-- Window 3's staging buffer at point `t`. -/
abbrev buf3 (t : Fin (pipe m hr).N) : Memref sig .tc .vmem S1x256x1024 .bf16 := spec0_3.stage ((pipe m hr).slots t (3 : Fin 8))
abbrev whole3 (t : Fin (pipe m hr).N) : (buf3 m hr t).IsWhole := hstage0_3 (((pipe m hr).slots t (3 : Fin 8)).cast nbuf0_3)
/-- Window 4's staging buffer at point `t`. -/
abbrev buf4 (t : Fin (pipe m hr).N) : Memref sig .tc .vmem S1x1024x256 .bf16 := spec0_4.stage ((pipe m hr).slots t (4 : Fin 8))
abbrev whole4 (t : Fin (pipe m hr).N) : (buf4 m hr t).IsWhole := hstage0_4 (((pipe m hr).slots t (4 : Fin 8)).cast nbuf0_4)
/-- Window 5's staging buffer at point `t`. -/
abbrev buf5 (t : Fin (pipe m hr).N) : Memref sig .tc .vmem S1x1024x256 .bf16 := spec0_5.stage ((pipe m hr).slots t (5 : Fin 8))
abbrev whole5 (t : Fin (pipe m hr).N) : (buf5 m hr t).IsWhole := hstage0_5 (((pipe m hr).slots t (5 : Fin 8)).cast nbuf0_5)
/-- Window 6's staging buffer at point `t`. -/
abbrev buf6 (t : Fin (pipe m hr).N) : Memref sig .tc .vmem S1x256x1024 .bf16 := spec0_6.stage ((pipe m hr).slots t (6 : Fin 8))
abbrev whole6 (t : Fin (pipe m hr).N) : (buf6 m hr t).IsWhole := hstage0_6 (((pipe m hr).slots t (6 : Fin 8)).cast nbuf0_6)
/-- Window 7's staging buffer at point `t`. -/
abbrev buf7 (t : Fin (pipe m hr).N) : Memref sig .tc .vmem S256x2048 .f32 := spec0_7.stage ((pipe m hr).slots t (7 : Fin 8))
abbrev whole7 (t : Fin (pipe m hr).N) : (buf7 m hr t).IsWhole := hstage0_7 (((pipe m hr).slots t (7 : Fin 8)).cast nbuf0_7)

/-- No point leaves the result's buffer unwritten. -/
theorem not_idle (t : Fin (pipe m hr).N) : (pipe m hr).idle (7 : Fin 8) ((pipe m hr).grid.coords t) = false := by
  show (!(k0_cond1 _ _ == 1#1) && !(k0_cond2 _ _ == 1#1)) = false
  by_cases h : k0_cond1 ((pipe m hr).grid.coords t) ((tables m).atD 2 ![0]) = 1#1
  · have e : (k0_cond1 ((pipe m hr).grid.coords t) ((tables m).atD 2 ![0]) == 1#1) = true := beq_iff_eq.mpr h
    exact (congrArg (fun b => !b && _) e).trans rfl
  · have e : (k0_cond2 ((pipe m hr).grid.coords t) ((tables m).atD 2 ![0]) == 1#1) = true := beq_iff_eq.mpr ((cond2_iff _ _).mpr h)
    exact (congrArg (fun b => _ && !b) e).trans (Bool.and_false _)

/-- The body's halves of the tables, one by one. -/
theorem tables_eq (c : Dev nD) : (Pipeline.ΦT (U := UR sig nD τ) pre0 (tables m) c : sProp 𝕄)
    = iprop(((c : Thread nD τ).loc main_arg0 ↦{fullShare.right} tables m 0) ∗ ((c : Thread nD τ).loc main_arg1 ↦{fullShare.right} tables m 1)
      ∗ ((c : Thread nD τ).loc main_arg2 ↦{fullShare.right} tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at point `t`. -/
abbrev bodyAt (t : Fin (pipe m hr).N) : Prog (TpuEff nD τ sig (Elt F) Λ₀ .tc) PUnit :=
  cc0_moe_experts ((pipe m hr).grid.coords t) (Memref.whole main_arg0) (Memref.isWhole_whole _) (Memref.whole main_arg1) (Memref.isWhole_whole _) (Memref.whole main_arg2) (Memref.isWhole_whole _) (buf0 m hr t) (whole0 m hr t) (buf1 m hr t) (whole1 m hr t) (buf2 m hr t) (whole2 m hr t) (buf3 m hr t) (whole3 m hr t) (buf4 m hr t) (whole4 m hr t) (buf5 m hr t) (whole5 m hr t) (buf6 m hr t) (whole6 m hr t) (buf7 m hr t) (whole7 m hr t)

set_option maxHeartbeats 4000000 in
/-- The body at any point, from the buffers as the pipeline hands them over to the buffers as it takes them back. -/
theorem sound_body (c : Dev nD) (t : Fin (pipe m hr).N) :
    iprop((dats m hr 0 c).Φ t.castSucc ∗ (dats m hr 0 c).owesAt () t.castSucc
        ∗ (∃ d, owns (c : Thread nD τ) (buf0 m hr t) fullShare ((dats m hr 0 c).before (0 : Fin 8) t d))
        ∗ (∃ d, owns (c : Thread nD τ) (buf1 m hr t) fullShare ((dats m hr 0 c).before (1 : Fin 8) t d))
        ∗ (∃ d, owns (c : Thread nD τ) (buf2 m hr t) fullShare ((dats m hr 0 c).before (2 : Fin 8) t d))
        ∗ (∃ d, owns (c : Thread nD τ) (buf3 m hr t) fullShare ((dats m hr 0 c).before (3 : Fin 8) t d))
        ∗ (∃ d, owns (c : Thread nD τ) (buf4 m hr t) fullShare ((dats m hr 0 c).before (4 : Fin 8) t d))
        ∗ (∃ d, owns (c : Thread nD τ) (buf5 m hr t) fullShare ((dats m hr 0 c).before (5 : Fin 8) t d))
        ∗ (∃ d, owns (c : Thread nD τ) (buf6 m hr t) fullShare ((dats m hr 0 c).before (6 : Fin 8) t d))
        ∗ (∃ d, owns (c : Thread nD τ) (buf7 m hr t) fullShare ((dats m hr 0 c).before (7 : Fin 8) t d)))
      ⊢ wp frame (wpE (defs₀ (F := F)) Variants.none c none) Set.univ (bodyAt m hr t) fun _ =>
          iprop((dats m hr 0 c).Φ t.succ ∗ (dats m hr 0 c).owesAt () t.succ
            ∗ bigSep Finset.univ fun w : Fin (pipe m hr).W =>
                match (pipe m hr).idle w ((pipe m hr).grid.coords t) with
                | true =>
                  match ((pipe m hr).win w).flush t with
                  | false => iprop(∃ d, owns (c : Thread nD τ) (((pipe m hr).win w).stage ((pipe m hr).slots t w)) fullShare ((dats m hr 0 c).before w t d))
                  | true => owns (c : Thread nD τ) (((pipe m hr).win w).stage ((pipe m hr).slots t w)) fullShare ((dats m hr 0 c).after w t)
                | false => owns (c : Thread nD τ) (((pipe m hr).win w).stage ((pipe m hr).slots t w)) fullShare ((dats m hr 0 c).after w t)) := by
  rw [bigSep_W0]
  have i7 := not_idle m hr t
  rewrite [i7]
  have eΦ : ∀ s, (dats m hr 0 c).Φ s = iprop(Pipeline.ΦA spec0 c ∗ Pipeline.ΦT pre0 (tables m) c) := fun _ => rfl
  simp only [before_0, before_1, before_2, before_3, before_4, before_5, before_6, after_0, after_1, after_2, after_3, after_4, after_5, after_6, after_7]
  rewrite [eΦ, eΦ, show (dats m hr 0 c).owesAt () t.succ = (dats m hr 0 c).owesAt () t.castSucc from rfl, tables_eq]
  iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c ((pipe m hr).grid.coords t) (buf0 m hr t) (whole0 m hr t) (buf1 m hr t) (whole1 m hr t) (buf2 m hr t) (whole2 m hr t) (buf3 m hr t) (whole3 m hr t) (buf4 m hr t) (whole4 m hr t) (buf5 m hr t) (whole5 m hr t) (buf6 m hr t) (whole6 m hr t) (buf7 m hr t) (whole7 m hr t) fullShare.right (tables m 2) (iblk m hr c 0 t) (iblk m hr c 1 t) (iblk m hr c 2 t) (iblk m hr c 3 t) (iblk m hr c 4 t) (iblk m hr c 5 t) (iblk m hr c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT2]; · iexact HT2
  isplitl [H7]; · iexists _; iexact H7
  iintro ⟨H0, H1, H2, H3, H4, H5, H6, HT2, H7⟩
  isplitl [HA HT0 HT1 HT2]
  · isplitl [HA]; · iexact HA
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation. -/
theorem body_obligation (c : Dev nD) : BodyObligation (dats m hr 0 c) (defs₀ (F := F)) Variants.none () Set.univ := fun t => by
  rw [bigSep_W0]
  exact sound_body m hr c t

set_option backward.isDefEq.respectTransparency.types false in
set_option maxHeartbeats 1600000 in
/-- Every weakly fair execution ends, with every array of the pipeline at what the proof data compute, every other array as
    the region found it, and every semaphore counter at zero. -/
theorem run_quiescent : θ_run defs (onTc (τ := τ) (main (F := F))) (s₀ m ρ)
    (fun r => Pipeline.FramePost (Pipeline.pin pcfgs fun _ => adm m hr) (dats m hr) 0 (V m) r ∧ r.2.sem = fun _ => 0) :=
  Pipeline.θ_run_frameP_shared (Q' := _) pcfgs (fun _ => adm m hr) (dats m hr) (0 : Fin 1) launch₀0 defs₀ Variants.none m ρ main
    (hbody := fun c => (body_obligation m hr c).loose) (hq := fun _ _ _ => rfl) (howed := fun _ _ => rfl) (V := V m)
    (hmain := hmain m) (hA := A_eq m hr)
    (hpf := fun c k => by
      rw [dev_eq c]
      match k with
      | ⟨0, _⟩ => exact V_arg0 m 0
      | ⟨1, _⟩ => exact V_arg1 m 0
      | ⟨2, _⟩ => exact V_arg2 m 0)
    (hΦ := fun _ _ => rfl) (hQ' := fun _ h => h)

include hr in
/-- The frame at any values: the arguments end unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of (win := spec0) main_arg0 (by decide) (by decide))).trans (V_arg0 m c),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).1 (0 : Fin 8)).trans (((dats m hr 0 c).arrAt_in (0 : Fin 8) rfl _).trans ((A_eq m hr c 0).trans (V_arg3 m c))),
      ((h.1 c).2 main_arg4 (Pipeline.mem_restRefs_of (win := spec0) main_arg4 (by decide) (by decide))).trans (V_arg4 m c),
      ((h.1 c).2 main_arg5 (Pipeline.mem_restRefs_of (win := spec0) main_arg5 (by decide) (by decide))).trans (V_arg5 m c),
      ((h.1 c).2 main_arg6 (Pipeline.mem_restRefs_of (win := spec0) main_arg6 (by decide) (by decide))).trans (V_arg6 m c)⟩, h.2⟩) (run_quiescent m ρ hr)

end Cert.Moe

end
-- ==== Proof.InRange.lean ====
module

public import proofs.«01_k».proof.Proof.MoeRun
public import proofs.«01_k».proof.Proof.Gen.Pre_experts_exist
public import proofs.«01_k».proof.Defs
public import proofs.«01_k».proof.Proof.Gen.Kernel7
public import proofs.«01_k».proof.Proof.Gen.Reference7Ideal.Run
public import Idealize.ShloMosaic.Lib.Quiescent

@[expose] public section

set_option maxRecDepth 16384

namespace Cert.Moe

open Idealize.ShloMosaic Idealize.ShloMosaic.TcCoe Idealize.SL.Sem

variable {F : FTy → Type} [FloatOps F]

/-- Two bits are both set where their conjunction is. -/
theorem both_set : ∀ a b : BitVec 1, a &&& b = 1#1 → a = 1#1 ∧ b = 1#1 := by decide

/-- A word from 0 up to 31, read as a signed integer, is one of the naturals below 32. -/
theorem small (v : BitVec 32) (h0 : IntOp.cmpi .sge v 0#32 = 1#1) (h1 : IntOp.cmpi .slt v 32#32 = 1#1) : v.toNat < 32 := by
  have a0 : (0 : Int) ≤ v.toInt := by
    by_contra hn
    have : IntOp.cmpi .sge v 0#32 = 0#1 := (congrArg BitVec.ofBool (decide_eq_false (by simpa using hn))).trans rfl
    rw [this] at h0; exact absurd h0 (by decide)
  have a1 : v.toInt < 32 := by
    by_contra hn
    have : IntOp.cmpi .slt v 32#32 = 0#1 := (congrArg BitVec.ofBool (decide_eq_false (by simpa using hn))).trans rfl
    rw [this] at h1; exact absurd h1 (by decide)
  rw [BitVec.toInt_eq_toNat_cond] at a0 a1
  have := v.isLt
  split at a0 <;> omega

/-- Where the predicate holds of every block, both tables name experts there are. -/
theorem decode {a b : IVec Cert.Pre_experts_exist.S368 32} {c d e f g}
    (h : Cert.Pre_experts_exist.fn (F := F) a b c d e f g = fun _ => 1#1) :
    (∀ j, (a j).toNat < 32) ∧ (∀ j, (b j).toNat < 32) := by
  refine ⟨fun j => ?_, fun j => ?_⟩
  · have hj := congrFun h j
    obtain ⟨h1, _⟩ := both_set _ _ hj
    obtain ⟨h2, _⟩ := both_set _ _ h1
    obtain ⟨h3, h4⟩ := both_set _ _ h2
    exact small _ h3 h4
  · have hj := congrFun h j
    obtain ⟨h1, h4⟩ := both_set _ _ hj
    obtain ⟨_, h3⟩ := both_set _ _ h1
    exact small _ h3 h4

/-- The precondition of the ideal program puts its tables in range. -/
theorem inRange {m} (h : Cert.Pre_Kernel7Ideal m) : InRange (F := Ideal) m := decode (F := Ideal) (h 0)

/-- The region's body is the same at any values. -/
theorem defs₀_same : Cert.Kernel7Ideal.defs₀ (F := Bits) = Cert.Kernel7.defs₀ (F := Bits) := by
  funext k l a
  match k, l, a with
  | .tc, ⟨0, _⟩, a => rfl
  | .scScalar _, l, a => rfl
  | .scVector _ _, l, a => rfl

/-- So are the definitions of the run. -/
theorem defs_same : Cert.Kernel7Ideal.defs (F := Bits) = Cert.Kernel7.defs (F := Bits) := by
  unfold Cert.Kernel7Ideal.defs Cert.Kernel7.defs
  exact congrArg (Pipeline.defs (Cert.Kernel7Ideal.pcfgs (F := Bits))) defs₀_same

end Cert.Moe

namespace Cert.Frames

open Idealize.ShloMosaic Idealize.ShloMosaic.TcCoe Idealize.SL.Sem

/-- The prompt's experts, bit by bit, where the tables name experts there are: they end, the arguments as they were and
    every counter at zero. The run is the one of the ideal program, which is the same program at any values. -/
theorem kernel7 : Cert.quiescent_Kernel7 := fun m ρ hp => by
  have h := Cert.Moe.frame_any (F := Bits) m ρ (Cert.Moe.decode (F := Bits) (hp 0))
  rw [Cert.Moe.defs_same] at h
  exact h

/-- The prompt's experts in exact arithmetic end, the arguments as they were and every counter at zero. -/
theorem kernel7Ideal : Cert.quiescent_Kernel7Ideal := fun m ρ hp => Cert.Moe.frame_any m ρ (Cert.Moe.inRange hp)

/-- The reference ends, its arguments as they were; it has no counters. -/
theorem reference7 : Cert.quiescent_Reference7Ideal := fun m ρ _ =>
  (θ_run (Cert.Reference7Ideal.defs (F := Ideal)) _ _).mono (fun r h => ⟨fun c => (h c).2,
    sem_eq_zero_of_no_sems (by decide) r.2⟩) (Cert.Reference7Ideal.Value.run (F := Ideal) m ρ)

/-- It does so where the tables are in range. -/
theorem reference7InRange : Cert.quiescent_Reference7Ideal_pre_experts_exist := fun m ρ _ => reference7 m ρ trivial

end Cert.Frames

end
-- ==== Proof.AttSpec.lean ====
module

public import Idealize.ShloMosaic.Lib.Pointwise
public import Idealize.ShloMosaic.Lib.WordCmp
public import Idealize.ShloMosaic.Lib.IdealHost

@[expose] public section

set_option maxRecDepth 16384
set_option maxHeartbeats 1000000

noncomputable section

namespace Cert.AttSpec

open Idealize.ShloMosaic

/-- The largest of a query's scores and its sink. -/
def peak (s : Fin 192 → EReal) (z : EReal) : EReal :=
  max (Finset.univ.fold max (Ideal.ofBits FTy.f32 0xFF800000#32) s) z
/-- The sum of the exponentials, the sink's among them. -/
def total (s : Fin 192 → EReal) (z : EReal) : EReal :=
  ∑ x, Ideal.exp (s x - peak s z) + Ideal.exp (z - peak s z)
/-- The softmax weight of a key. -/
def soft (s : Fin 192 → EReal) (z : EReal) (key : Fin 192) : EReal :=
  Ideal.div (Ideal.exp (s key - peak s z)) (total s z)

/-- The word of negative infinity is the least value. -/
theorem ofBits_least : Ideal.ofBits FTy.f32 0xFF800000#32 = ⊥ := by
  simp [Ideal.ofBits, Ideal.ieee]

/-- The exponential is not negative. -/
theorem exp_nonneg (x : EReal) : 0 ≤ Ideal.exp x := by
  induction x with
  | bot => exact le_refl 0
  | top => exact le_top
  | coe r => exact EReal.coe_nonneg.mpr (Real.exp_pos r).le

/-- The least value less anything is the least value. -/
theorem least_sub (x : EReal) : (⊥ : EReal) - x = ⊥ := by
  rw [sub_eq_add_neg, EReal.bot_add]

/-- With a total that is not zero, a key scored least has no weight. -/
theorem soft_masked (s : Fin 192 → EReal) (z : EReal) (key : Fin 192) (h : s key = ⊥) (ht : total s z ≠ 0) : soft s z key = 0 := by
  unfold soft
  rw [h, least_sub, Ideal.exp_bot]
  unfold Ideal.div
  rw [if_neg ht, zero_mul]

/-- With a total of zero every weight is the least value. -/
theorem soft_zero (s : Fin 192 → EReal) (z : EReal) (key : Fin 192) (ht : total s z = 0) : soft s z key = ⊥ := by
  have h1 : ∑ x, Ideal.exp (s x - peak s z) = 0 := by
    have a : 0 ≤ ∑ x, Ideal.exp (s x - peak s z) := Finset.sum_nonneg fun x _ => exp_nonneg _
    refine le_antisymm ?_ a
    calc ∑ x, Ideal.exp (s x - peak s z) ≤ total s z := le_add_of_nonneg_right (exp_nonneg _)
      _ = 0 := ht
  have h2 : Ideal.exp (s key - peak s z) = 0 :=
    (Finset.sum_eq_zero_iff_of_nonneg fun x _ => exp_nonneg _).mp h1 key (Finset.mem_univ _)
  unfold soft
  rw [h2, ht]
  unfold Ideal.div
  rw [if_pos rfl, if_neg (lt_irrefl _)]

/-- A value times the least value, added to itself, is itself. -/
theorem least_twice (v : EReal) : v * ⊥ + v * ⊥ = v * ⊥ := by
  rcases lt_trichotomy v 0 with h | h | h
  · rw [EReal.mul_bot_of_neg h]; rfl
  · rw [h, zero_mul, add_zero]
  · rw [EReal.mul_bot_of_pos h]; rfl

/-- Summing over a window: keys below the sequence's start, read from the first chunk by one side and as zero by the
    other, change nothing. -/
theorem window_sum (X : ℕ → Fin 64 → EReal) (c : ℕ) (s : Fin 192 → EReal) (z : EReal)
    (hs : ∀ key : Fin 192, c * 64 + key.val < 128 → s key = ⊥) :
    ∑ key : Fin 192, X (c + key.val / 64 - 2) ⟨key.val % 64, Nat.mod_lt _ (by decide)⟩ * soft s z key
      = ∑ key : Fin 192, (if 128 ≤ c * 64 + key.val then X (c + key.val / 64 - 2) ⟨key.val % 64, Nat.mod_lt _ (by decide)⟩ else 0) * soft s z key := by
  by_cases ht : total s z = 0
  · simp only [soft_zero s z _ ht]
    rw [Fin.sum_univ_tiles 3 64 rfl, Fin.sum_univ_tiles 3 64 rfl, Fin.sum_univ_three, Fin.sum_univ_three]
    have e : ∀ (j : ℕ) (t : Fin 64), (⟨(j * 64 + t.val) % 64, Nat.mod_lt _ (by decide)⟩ : Fin 64) = t := fun j t => Fin.ext (by have := t.isLt; show (j * 64 + t.val) % 64 = t.val; omega)
    have d : ∀ (j : ℕ) (t : Fin 64), (j * 64 + t.val) / 64 = j := fun j t => by have := t.isLt; omega
    have tw : ∀ n : ℕ, (∑ t : Fin 64, X n t * ⊥) + ∑ t : Fin 64, X n t * ⊥ = ∑ t : Fin 64, X n t * ⊥ := fun n => by
      rw [← Finset.sum_add_distrib]; exact Finset.sum_congr rfl fun t _ => least_twice _
    have L : ∀ j : ℕ, j < 3 → (∑ t : Fin 64, X (c + (j * 64 + t.val) / 64 - 2) ⟨(j * 64 + t.val) % 64, Nat.mod_lt _ (by decide)⟩ * ⊥) = ∑ t : Fin 64, X (c + j - 2) t * ⊥ := fun j hj =>
      Finset.sum_congr rfl fun t _ => by rw [e, d]
    have R : ∀ j : ℕ, j < 3 → (∑ t : Fin 64, (if 128 ≤ c * 64 + (j * 64 + t.val) then X (c + (j * 64 + t.val) / 64 - 2) ⟨(j * 64 + t.val) % 64, Nat.mod_lt _ (by decide)⟩ else 0) * ⊥) = if 2 ≤ c + j then ∑ t : Fin 64, X (c + j - 2) t * ⊥ else 0 := fun j hj => by
      split
      · refine Finset.sum_congr rfl fun t _ => ?_
        rw [if_pos (by have := t.isLt; omega), e, d]
      · refine Finset.sum_eq_zero fun t _ => ?_
        rw [if_neg (by have := t.isLt; omega), zero_mul]
    refine (congrArg₂ (· + ·) (congrArg₂ (· + ·) (L 0 (by decide)) (L 1 (by decide))) (L 2 (by decide))).trans ?_
    refine Eq.trans ?_ (congrArg₂ (· + ·) (congrArg₂ (· + ·) (R 0 (by decide)) (R 1 (by decide))) (R 2 (by decide))).symm
    rcases c with _ | _ | c
    · rw [if_neg (by omega), if_neg (by omega), if_pos (by omega)]
      show (∑ t : Fin 64, X 0 t * ⊥) + (∑ t : Fin 64, X 0 t * ⊥) + (∑ t : Fin 64, X 0 t * ⊥) = 0 + 0 + ∑ t : Fin 64, X 0 t * ⊥
      rw [tw 0, tw 0, zero_add, zero_add]
    · rw [if_neg (by omega), if_pos (by omega), if_pos (by omega)]
      show (∑ t : Fin 64, X 0 t * ⊥) + (∑ t : Fin 64, X 0 t * ⊥) + (∑ t : Fin 64, X 1 t * ⊥) = 0 + (∑ t : Fin 64, X 0 t * ⊥) + ∑ t : Fin 64, X 1 t * ⊥
      rw [tw 0, zero_add]
    · rw [if_pos (by omega), if_pos (by omega), if_pos (by omega)]
  · refine Finset.sum_congr rfl fun key _ => ?_
    by_cases hk : 128 ≤ c * 64 + key.val
    · rw [if_pos hk]
    · rw [soft_masked s z key (hs key (by omega)) ht, mul_zero, mul_zero]

/-- The row of the bias table an offset reads. -/
def row (r : BitVec 32) : BitVec 32 :=
  have b : BitVec 32 := IntOp.addi (Scalar.select (IntOp.cmpi CmpIPredicate.sgt r 0#32) 16#32 0#32)
    (Scalar.select (IntOp.cmpi CmpIPredicate.slt (IntOp.absi r) 8#32) (IntOp.absi r)
      (IntOp.minsi (IntOp.addi (8#32) (FloatOps.fptosi (F := Ideal) (φ := FTy.f32) 32
        (Ideal.div (Ideal.log (Ideal.div (FloatOps.sitofp (F := Ideal) FTy.f32 (IntOp.maxsi (IntOp.absi r) 1#32)) (Ideal.ofBits FTy.f32 0x41000000#32)))
          (Ideal.ofBits FTy.f32 0x40317218#32) * Ideal.ofBits FTy.f32 0x41000000#32))) 15#32))
  Scalar.select (IntOp.cmpi CmpIPredicate.slt b 0#32) (IntOp.addi b 32#32) b

/-- The offset from query row `q` of a chunk to key `key` of its window. -/
def offset (q : Fin 64) (key : Fin 192) : BitVec 32 :=
  IntOp.subi (IntOp.subi (BitVec.ofNat 32 key.val) 128#32) (BitVec.ofNat 32 q.val)

/-- The offset from absolute positions is the offset within the window. -/
theorem offset_abs (c q : Fin 64) (key : Fin 192) :
    IntOp.subi (IntOp.addi (IntOp.subi (IntOp.muli (BitVec.ofNat 32 c.val) 64#32) 128#32) (BitVec.ofNat 32 key.val))
      (IntOp.addi (IntOp.muli (BitVec.ofNat 32 c.val) 64#32) (BitVec.ofNat 32 q.val)) = offset q key := by
  unfold offset
  show (BitVec.ofNat 32 c.val * 64#32 - 128#32 + BitVec.ofNat 32 key.val) - (BitVec.ofNat 32 c.val * 64#32 + BitVec.ofNat 32 q.val)
    = BitVec.ofNat 32 key.val - 128#32 - BitVec.ofNat 32 q.val
  generalize BitVec.ofNat 32 c.val * 64#32 = X
  generalize BitVec.ofNat 32 key.val = K
  generalize BitVec.ofNat 32 q.val = Q
  bv_omega

/-- A key of a window lies in the sequence, by its absolute position. -/
theorem inside_abs : ∀ (c : Fin 64) (key : Fin 192), IntOp.cmpi CmpIPredicate.sge
      (IntOp.addi (IntOp.subi (IntOp.muli (BitVec.ofNat 32 c.val) 64#32) 128#32) (BitVec.ofNat 32 key.val)) 0#32
    = BitVec.ofBool (decide (128 ≤ c.val * 64 + key.val)) := by decide +kernel
/-- The same by its chunk. -/
theorem inside_chunk : ∀ (c : Fin 64) (key : Fin 192), IntOp.cmpi CmpIPredicate.sge
      (IntOp.addi (Scalar.muli (Scalar.subi (BitVec.ofNat 32 c.val) 2#32) 64#32) (BitVec.ofNat 32 key.val)) 0#32
    = BitVec.ofBool (decide (128 ≤ c.val * 64 + key.val)) := by decide +kernel

/-- The score of a key: the scaled product plus the bias where it lies in the sequence, the least value elsewhere. -/
def score (Q : Fin 64 → EReal) (K : ℕ → Fin 64 → Fin 64 → EReal) (B : Fin 192 → EReal) (c : ℕ) (key : Fin 192) : EReal :=
  if 128 ≤ c * 64 + key.val then
    (∑ d : Fin 64, K (c + key.val / 64 - 2) ⟨key.val % 64, Nat.mod_lt _ (by decide)⟩ d * Q d) * Ideal.ofBits FTy.f32 0x3E000000#32 + B key
  else ⊥

/-- Row `t` of chunk `n` of the keys or the values: sequence `b`, key/value head `h`, lane `d`. -/
def chunkRow (x : (⟨3, ![16, 4096, 128]⟩ : Shape).Idx → EReal) (b : Fin 16) (h : Fin 2) (n : ℕ) (t d : Fin 64) : EReal :=
  x (ix3 b ⟨(n * 64 + t.val) % 4096, Nat.mod_lt _ (by decide)⟩ ⟨h.val * 64 + d.val, by omega⟩)

/-- The query of head `4h + g` at row `r` of chunk `c`. -/
def queryRow (q : (⟨3, ![16, 4096, 512]⟩ : Shape).Idx → EReal) (b : Fin 16) (c : Fin 64) (h : Fin 2) (g : Fin 4) (r d : Fin 64) : EReal :=
  q (ix3 b ⟨c.val * 64 + r.val, by omega⟩ ⟨h.val * 256 + g.val * 64 + d.val, by omega⟩)

/-- The bias of head `n` from query row `r` to key `key`. -/
def biasRow (rb : (⟨2, ![32, 8]⟩ : Shape).Idx → EReal) (n : Fin 8) (r : Fin 64) (key : Fin 192) : EReal :=
  rb (ix2 ⟨min (row (offset r key)).toInt.toNat 31, by omega⟩ n)

/-- The scores of the query of head `4h + g` at row `r` of chunk `c`. -/
def scores (q : (⟨3, ![16, 4096, 512]⟩ : Shape).Idx → EReal) (k : (⟨3, ![16, 4096, 128]⟩ : Shape).Idx → EReal)
    (rb : (⟨2, ![32, 8]⟩ : Shape).Idx → EReal) (b : Fin 16) (c : Fin 64) (h : Fin 2) (g : Fin 4) (r : Fin 64) : Fin 192 → EReal :=
  score (queryRow q b c h g r) (chunkRow k b h) (biasRow rb ⟨h.val * 4 + g.val, by omega⟩ r) c.val

/-- The attention's value at lane `d` of head `4h + g`, row `r` of chunk `c` of sequence `b`. -/
def attended (q : (⟨3, ![16, 4096, 512]⟩ : Shape).Idx → EReal) (k v : (⟨3, ![16, 4096, 128]⟩ : Shape).Idx → EReal)
    (rb : (⟨2, ![32, 8]⟩ : Shape).Idx → EReal) (sk : (⟨1, ![8]⟩ : Shape).Idx → EReal)
    (b : Fin 16) (c : Fin 64) (h : Fin 2) (g : Fin 4) (r d : Fin 64) : EReal :=
  ∑ key : Fin 192, chunkRow v b h (c.val + key.val / 64 - 2) ⟨key.val % 64, Nat.mod_lt _ (by decide)⟩ d
    * soft (scores q k rb b c h g r) (sk (ix1 ⟨h.val * 4 + g.val, by omega⟩)) key

/-- The word of zero is zero. -/
theorem zero_word : FloatOps.sitofp (F := Ideal) FTy.f32 (0#32) = (0 : EReal) := by
  simp [FloatOps.sitofp]

end Cert.AttSpec
-- ==== Proof.AttHost.lean ====
module

public import proofs.«01_k».proof.Proof.AttSpec
public import proofs.«01_k».proof.Proof.Gen.KernelIdeal.Skeleton
public import proofs.«01_k».proof.Proof.Run
public import Idealize.ShloMosaic.Lib.Pointwise
public import Idealize.ShloMosaic.Lib.WordCmp
public import Idealize.ShloMosaic.Lib.Pipeline.ValueKit

@[expose] public section

set_option maxRecDepth 16384
set_option maxHeartbeats 1000000

noncomputable section

namespace Cert.AttHost

open Cert.KernelIdeal Cert.KernelIdeal.Gen Idealize.ShloMosaic Idealize.ShloMosaic.TcCoe Idealize.SL.Sem
open Cert.AttSpec (biasRow)

/-- The offsets from each query row to each key of a window. -/
def rel : IVec S64x192 32 :=
  subi (broadcastInDim S64x192 ![0, 1] bcast_S1x192_S64x192_0_1 (broadcastInDim S1x192 ![1] bcast_S192_S1x192_1 (subi (iotaInDim S192 32 0) (broadcastInDim S192 ![] bcast_S_S192 (constantI S_ 32 128#32)))))
    (broadcastInDim S64x192 ![0, 1] bcast_S64x1_S64x192_0_1 (broadcastInDim S64x1 ![0] bcast_S64_S64x1_0 (iotaInDim S64 32 0)))
/-- A word everywhere. -/
abbrev all (n : BitVec 32) : IVec S64x192 32 := broadcastInDim S64x192 ![] bcast_S_S64x192 (constantI S_ 32 n)
/-- A value everywhere. -/
abbrev allF (n : BitVec 32) : FVec Ideal S64x192 .f32 := broadcastInDim S64x192 ![] bcast_S_S64x192 (constant S_ .f32 n)
/-- The bucket of an offset. -/
def bucket (r : IVec S64x192 32) : IVec S64x192 32 :=
  addi (id (select (cmpi .sgt r (all 0#32)) (all 16#32) (all 0#32)))
    (select (cmpi .slt (absi r) (all 8#32)) (absi r)
      (minsi (addi (all 8#32) (fptosi 32 (mulf (Host.divf (Host.log (Host.divf (sitofp .f32 (maxsi (absi r) (all 1#32))) (allF 0x41000000#32))) (allF 0x40317218#32)) (allF 0x41000000#32)))) (all 15#32)))
/-- The rows the buckets read. -/
def wrapped (b : IVec S64x192 32) : IVec S64x192x1 32 :=
  broadcastInDim S64x192x1 ![0, 1] bcast_S64x192_S64x192x1_0_1 (select (cmpi .slt b (all 0#32)) (addi b (all 32#32)) b)
/-- The biases, head by head. -/
def bias (rb : FVec Ideal S32x8 .f32) : FVec Ideal S8x64x192 .f32 :=
  transpose S8x64x192 [2, 0, 1] (Host.gather gather_S32x8_S64x192x1_S64x192x8_2_0_n_n_0_2_18 rb (wrapped (bucket rel))) transposes_S64x192x8_S8x64x192_2_0_1
/-- Two heads' biases side by side. -/
def pair (t : FVec Ideal S8x64x192 .f32) (a b : ℕ) (ha : S8x64x192.Slices ![a, 0, 0] S1x64x192) (hb : S8x64x192.Slices ![b, 0, 0] S1x64x192) : FVec Ideal S1x192x128 .f32 :=
  broadcastInDim S1x192x128 ![1, 2] bcast_S192x128_S1x192x128_1_2 (concatenate S192x128 1
    [⟨S192x64, transpose S192x64 [1, 0] (shapeCast S64x192 (extractStridedSlice S1x64x192 ![a, 0, 0] t ha) shapeCasts_S1x64x192_S64x192) transposes_S64x192_S192x64_1_0⟩,
     ⟨S192x64, transpose S192x64 [1, 0] (shapeCast S64x192 (extractStridedSlice S1x64x192 ![b, 0, 0] t hb) shapeCasts_S1x64x192_S64x192) transposes_S64x192_S192x64_1_0⟩] concatenates_S192x64_S192x64_S192x128_d1)
/-- The table of biases the kernel reads. -/
def table (t : FVec Ideal S8x64x192 .f32) : FVec Ideal S4x192x128 .f32 :=
  concatenate S4x192x128 0 [⟨S1x192x128, pair t 0 2 slices_S8x64x192_S1x64x192_0_0_0 slices_S8x64x192_S1x64x192_2_0_0⟩, ⟨S1x192x128, pair t 1 3 slices_S8x64x192_S1x64x192_1_0_0 slices_S8x64x192_S1x64x192_3_0_0⟩,
    ⟨S1x192x128, pair t 4 6 slices_S8x64x192_S1x64x192_4_0_0 slices_S8x64x192_S1x64x192_6_0_0⟩, ⟨S1x192x128, pair t 5 7 slices_S8x64x192_S1x64x192_5_0_0 slices_S8x64x192_S1x64x192_7_0_0⟩] concatenates_S1x192x128_S1x192x128_S1x192x128_S1x192x128_S4x192x128_d0
/-- A head's sink along a row. -/
def sinkRow (sk : FVec Ideal S8 .f32) (a : ℕ) (ha : S8.Slices ![a] S1) : FVec Ideal S1x64 .f32 :=
  mulf (broadcastInDim S1x64 ![] bcast_S_S1x64 (constant S_ .f32 0x3F800000#32)) (broadcastInDim S1x64 ![] bcast_S_S1x64 (shapeCast S_ (extractStridedSlice S1 ![a] sk ha) shapeCasts_S1_S_))
/-- Two heads' sinks side by side. -/
def sinkPair (sk : FVec Ideal S8 .f32) (a b : ℕ) (ha : S8.Slices ![a] S1) (hb : S8.Slices ![b] S1) : FVec Ideal S1x1x128 .f32 :=
  broadcastInDim S1x1x128 ![1, 2] bcast_S1x128_S1x1x128_1_2 (concatenate S1x128 1 [⟨S1x64, sinkRow sk a ha⟩, ⟨S1x64, sinkRow sk b hb⟩] concatenates_S1x64_S1x64_S1x128_d1)
/-- The table of sinks the kernel reads. -/
def sinkTable (sk : FVec Ideal S8 .f32) : FVec Ideal S4x1x128 .f32 :=
  concatenate S4x1x128 0 [⟨S1x1x128, sinkPair sk 0 2 slices_S8_S1_0 slices_S8_S1_2⟩, ⟨S1x1x128, sinkPair sk 1 3 slices_S8_S1_1 slices_S8_S1_3⟩,
    ⟨S1x1x128, sinkPair sk 4 6 slices_S8_S1_4 slices_S8_S1_6⟩, ⟨S1x1x128, sinkPair sk 5 7 slices_S8_S1_5 slices_S8_S1_7⟩] concatenates_S1x1x128_S1x1x128_S1x1x128_S1x1x128_S4x1x128_d0

/-- The offsets at an index. -/
theorem rel_at (q : Fin 64) (key : Fin 192) : rel (ix2 q key) = AttSpec.offset q key := by
  pointwise [rel]
  rfl
/-- The rows read, at an index. -/
theorem wrapped_at (q : Fin 64) (key : Fin 192) : wrapped (bucket rel) (ix3 q key 0) = AttSpec.row (AttSpec.offset q key) := by
  rw [← rel_at]
  pointwise [wrapped, bucket, id]
  rfl
/-- The rows of the table gathered, at an index. -/
theorem gather_at (x : FVec Ideal S32x8 .f32) (i : IVec S64x192x1 32) (q : Fin 64) (key : Fin 192) (h : Fin 8) :
    Host.gather gather_S32x8_S64x192x1_S64x192x8_2_0_n_n_0_2_18 x i (ix3 q key h)
      = x (ix2 ⟨min (i (ix3 q key 0)).toInt.toNat 31, by omega⟩ h) := by
  unfold Host.gather
  congr 1
  funext a
  refine Fin.ext ?_
  match a with
  | ⟨0, _⟩ =>
    show GatherDims.start gather_S32x8_S64x192x1_S64x192x8_2_0_n_n_0_2_18 _ i 0 + GatherDims.batchCoord gather_S32x8_S64x192x1_S64x192x8_2_0_n_n_0_2_18 _ 0 + GatherDims.offCoord gather_S32x8_S64x192x1_S64x192x8_2_0_n_n_0_2_18 _ 0 = min (i (ix3 q key 0)).toInt.toNat 31
    rw [GatherDims.batchCoord_eq_zero _ _ _ (by decide), GatherDims.offCoord_eq_zero _ _ _ (by decide)]
    simp only [Nat.add_zero]
    unfold GatherDims.start
    rw [dif_pos (by decide)]
    have e : GatherDims.siIdx gather_S32x8_S64x192x1_S64x192x8_2_0_n_n_0_2_18 (ix3 q key h) ⟨List.idxOf (0 : Fin 2) (GatherDims.startIndexMap gather_S32x8_S64x192x1_S64x192x8_2_0_n_n_0_2_18), by decide⟩ = ix3 q key 0 := by
      funext b; refine Fin.ext ?_
      match b with
      | ⟨0, _⟩ => rfl
      | ⟨1, _⟩ => rfl
      | ⟨2, _⟩ => rfl
    exact congrArg (fun j => min (i j).toInt.toNat 31) e
  | ⟨1, _⟩ =>
    show GatherDims.start gather_S32x8_S64x192x1_S64x192x8_2_0_n_n_0_2_18 _ i 1 + GatherDims.batchCoord gather_S32x8_S64x192x1_S64x192x8_2_0_n_n_0_2_18 _ 1 + GatherDims.offCoord gather_S32x8_S64x192x1_S64x192x8_2_0_n_n_0_2_18 _ 1 = h.val
    rw [GatherDims.batchCoord_eq_zero _ _ _ (by decide)]
    unfold GatherDims.start
    rw [dif_neg (by decide)]
    simp only [Nat.zero_add, Nat.add_zero]
    unfold GatherDims.offCoord
    rw [dif_pos (by decide)]
    rfl
/-- The biases at an index. -/
theorem bias_at (rb : FVec Ideal S32x8 .f32) (h : Fin 8) (q : Fin 64) (key : Fin 192) : bias rb (ix3 h q key) = biasRow rb h q key := by
  have e : bias rb (ix3 h q key) = Host.gather gather_S32x8_S64x192x1_S64x192x8_2_0_n_n_0_2_18 rb (wrapped (bucket rel)) (ix3 q key h) := by
    unfold bias
    generalize Host.gather gather_S32x8_S64x192x1_S64x192x8_2_0_n_n_0_2_18 rb (wrapped (bucket rel)) = G
    pointwise
  rw [e]
  refine (gather_at rb _ q key h).trans ?_
  unfold biasRow
  refine congrArg (fun n => rb (ix2 n h)) (Fin.ext ?_)
  show min _ 31 = min _ 31
  rw [wrapped_at]
/-- Two heads' biases at an index. -/
theorem pair_at (t : FVec Ideal S8x64x192 .f32) (a b : ℕ) (ha : S8x64x192.Slices ![a, 0, 0] S1x64x192) (hb : S8x64x192.Slices ![b, 0, 0] S1x64x192) (ha' : a < 8) (hb' : b < 8) (key : Fin 192) (col : Fin 128) :
    pair t a b ha hb (ix3 (0 : Fin 1) key col) = t (ix3 (if col.val < 64 then ⟨a, ha'⟩ else ⟨b, hb'⟩) ⟨col.val % 64, Nat.mod_lt _ (by decide)⟩ key) := by
  have hc := col.isLt
  pointwise [pair]
  split_ifs <;> blk_ext
/-- The table of biases at an index. -/
theorem table_at (t : FVec Ideal S8x64x192 .f32) (g : Fin 4) (key : Fin 192) (col : Fin 128) :
    table t (ix3 g key col) = t (ix3 ⟨g.val / 2 * 4 + col.val / 64 * 2 + g.val % 2, by omega⟩ ⟨col.val % 64, Nat.mod_lt _ (by decide)⟩ key) := by
  have hc := col.isLt
  pointwise [table]
  match g with
  | ⟨0, _⟩ => exact (pair_at t 0 2 _ _ (by decide) (by decide) key col).trans (congrArg (fun n => t (ix3 n _ key)) (by split_ifs <;> exact Fin.ext (by show _ = 0 / 2 * 4 + col.val / 64 * 2 + 0 % 2; dsimp only; omega)))
  | ⟨1, _⟩ => exact (pair_at t 1 3 _ _ (by decide) (by decide) key col).trans (congrArg (fun n => t (ix3 n _ key)) (by split_ifs <;> exact Fin.ext (by show _ = 1 / 2 * 4 + col.val / 64 * 2 + 1 % 2; dsimp only; omega)))
  | ⟨2, _⟩ => exact (pair_at t 4 6 _ _ (by decide) (by decide) key col).trans (congrArg (fun n => t (ix3 n _ key)) (by split_ifs <;> exact Fin.ext (by show _ = 2 / 2 * 4 + col.val / 64 * 2 + 2 % 2; dsimp only; omega)))
  | ⟨3, _⟩ => exact (pair_at t 5 7 _ _ (by decide) (by decide) key col).trans (congrArg (fun n => t (ix3 n _ key)) (by split_ifs <;> exact Fin.ext (by show _ = 3 / 2 * 4 + col.val / 64 * 2 + 3 % 2; dsimp only; omega)))
/-- A head's sink along a row, at an index. -/
theorem sinkRow_at (sk : FVec Ideal S8 .f32) (a : ℕ) (ha : S8.Slices ![a] S1) (ha' : a < 8) (x : Fin 64) :
    sinkRow sk a ha (ix2 (0 : Fin 1) x) = sk (ix1 ⟨a, ha'⟩) := by
  pointwise [sinkRow]
/-- Two heads' sinks at an index. -/
theorem sinkPair_at (sk : FVec Ideal S8 .f32) (a b : ℕ) (ha : S8.Slices ![a] S1) (hb : S8.Slices ![b] S1) (ha' : a < 8) (hb' : b < 8) (col : Fin 128) :
    sinkPair sk a b ha hb (ix3 (0 : Fin 1) (0 : Fin 1) col) = sk (ix1 (if col.val < 64 then ⟨a, ha'⟩ else ⟨b, hb'⟩)) := by
  have hc := col.isLt
  pointwise [sinkPair]
  by_cases h : col.val < 64
  · rw [if_pos h]
    refine (dif_pos h).trans (sinkRow_at sk a ha ha' _)
  · rw [if_neg h]
    refine (dif_neg h).trans (sinkRow_at sk b hb hb' _)
/-- The table of sinks at an index. -/
theorem sink_at (sk : FVec Ideal S8 .f32) (g : Fin 4) (col : Fin 128) :
    sinkTable sk (ix3 g (0 : Fin 1) col) = sk (ix1 ⟨g.val / 2 * 4 + col.val / 64 * 2 + g.val % 2, by omega⟩) := by
  have hc := col.isLt
  pointwise [sinkTable]
  match g with
  | ⟨0, _⟩ => exact (sinkPair_at sk 0 2 _ _ (by decide) (by decide) col).trans (congrArg (fun n => sk (ix1 n)) (by split_ifs <;> exact Fin.ext (by show _ = 0 / 2 * 4 + col.val / 64 * 2 + 0 % 2; dsimp only; omega)))
  | ⟨1, _⟩ => exact (sinkPair_at sk 1 3 _ _ (by decide) (by decide) col).trans (congrArg (fun n => sk (ix1 n)) (by split_ifs <;> exact Fin.ext (by show _ = 1 / 2 * 4 + col.val / 64 * 2 + 1 % 2; dsimp only; omega)))
  | ⟨2, _⟩ => exact (sinkPair_at sk 4 6 _ _ (by decide) (by decide) col).trans (congrArg (fun n => sk (ix1 n)) (by split_ifs <;> exact Fin.ext (by show _ = 2 / 2 * 4 + col.val / 64 * 2 + 2 % 2; dsimp only; omega)))
  | ⟨3, _⟩ => exact (sinkPair_at sk 5 7 _ _ (by decide) (by decide) col).trans (congrArg (fun n => sk (ix1 n)) (by split_ifs <;> exact Fin.ext (by show _ = 3 / 2 * 4 + col.val / 64 * 2 + 3 % 2; dsimp only; omega)))

variable (m : (ℓ : Loc nD τ sig) → Buf (Elt Ideal) ℓ)

/-- The staged queries, as the host lays them out. -/
theorem stagedQ (c : Dev nD) : V m c main_v42 = shapeCast S65536x512 (transpose S4096x16x512 [1, 0, 2] (m ((c : Thread nD τ).loc main_arg0)) transposes_S16x4096x512_S4096x16x512_1_0_2) shapeCasts_S4096x16x512_S65536x512 := by
  entry_read
  rfl
/-- The staged keys, as the host lays them out. -/
theorem stagedK (c : Dev nD) : V m c main_v44 = shapeCast S65536x128 (transpose S4096x16x128 [1, 0, 2] (m ((c : Thread nD τ).loc main_arg1)) transposes_S16x4096x128_S4096x16x128_1_0_2) shapeCasts_S4096x16x128_S65536x128 := by
  entry_read
  rfl
/-- The staged values, as the host lays them out. -/
theorem stagedV (c : Dev nD) : V m c main_v46 = shapeCast S65536x128 (transpose S4096x16x128 [1, 0, 2] (m ((c : Thread nD τ).loc main_arg2)) transposes_S16x4096x128_S4096x16x128_1_0_2) shapeCasts_S4096x16x128_S65536x128 := by
  entry_read
  rfl
/-- The buffers when the biases are gathered. -/
def mid (c : Dev nD) : (b : DevRef τ sig) → b.ty.Contents (Elt Ideal) :=
  StableHlo.after ([hostOps0, hostOps0_1, hostOps0_2, hostOps0_3].flatten ++ hostOps0_4.take 12) (fun b => m (c, b))
/-- The host's lines before the call, in two stretches. -/
theorem split (c : Dev nD) (b : Ref sig .tc) : V m c b = StableHlo.after (hostOps0_4.drop 12) (mid m c) (Proc.devRef .tc b) := by
  unfold mid
  rw [← StableHlo.after_append]
  rfl
/-- The first stretch gathers the biases. -/
theorem midB (c : Dev nD) : mid m c (Proc.devRef .tc main_v40) = bias (m ((c : Thread nD τ).loc main_arg3)) := by
  rfl
/-- The second stretch lays them out as the table. -/
theorem tableB (w : (b : DevRef τ sig) → b.ty.Contents (Elt Ideal)) : StableHlo.after (hostOps0_4.drop 12) w (Proc.devRef .tc main_v79) = table (w (Proc.devRef .tc main_v40)) := by
  rfl
/-- The staged biases. -/
theorem stagedB (c : Dev nD) : V m c main_v79 = table (bias (m ((c : Thread nD τ).loc main_arg3))) :=
  (split m c main_v79).trans ((tableB (mid m c)).trans (congrArg table (midB m c)))
/-- The staged sinks. -/
theorem stagedZ (c : Dev nD) : V m c main_v128 = sinkTable (m ((c : Thread nD τ).loc main_arg4)) := by
  entry_read
  rfl

/-- The staged queries: row `r` is time `r / 16` of sequence `r % 16`. -/
theorem queries_at (c : Dev nD) (r : Fin 65536) (l : Fin 512) :
    V m c main_v42 (ix2 r l) = m ((c : Thread nD τ).loc main_arg0) (ix3 ⟨r.val % 16, by omega⟩ ⟨r.val / 16, by omega⟩ l) := by
  rw [stagedQ]
  pointwise
  blk_ext
/-- The staged keys: row `r` is time `r / 16` of sequence `r % 16`. -/
theorem keys_at (c : Dev nD) (r : Fin 65536) (l : Fin 128) :
    V m c main_v44 (ix2 r l) = m ((c : Thread nD τ).loc main_arg1) (ix3 ⟨r.val % 16, by omega⟩ ⟨r.val / 16, by omega⟩ l) := by
  rw [stagedK]
  pointwise
  blk_ext
/-- The staged values: row `r` is time `r / 16` of sequence `r % 16`. -/
theorem values_at (c : Dev nD) (r : Fin 65536) (l : Fin 128) :
    V m c main_v46 (ix2 r l) = m ((c : Thread nD τ).loc main_arg2) (ix3 ⟨r.val % 16, by omega⟩ ⟨r.val / 16, by omega⟩ l) := by
  rw [stagedV]
  pointwise
  blk_ext
/-- The staged biases at an index. -/
theorem biases_at (c : Dev nD) (g : Fin 4) (key : Fin 192) (col : Fin 128) :
    V m c main_v79 (ix3 g key col) = biasRow (m ((c : Thread nD τ).loc main_arg3)) ⟨g.val / 2 * 4 + col.val / 64 * 2 + g.val % 2, by omega⟩ ⟨col.val % 64, Nat.mod_lt _ (by decide)⟩ key := by
  rw [stagedB]
  exact (table_at _ g key col).trans (bias_at _ _ _ _)
/-- The staged sinks at an index. -/
theorem sinks_at (c : Dev nD) (g : Fin 4) (col : Fin 128) :
    V m c main_v128 (ix3 g (0 : Fin 1) col) = m ((c : Thread nD τ).loc main_arg4) (ix1 ⟨g.val / 2 * 4 + col.val / 64 * 2 + g.val % 2, by omega⟩) := by
  rw [stagedZ]
  exact sink_at _ g col

/-- Where each window stands at a point. -/
theorem idx : ∀ t : Fin cfg0.N, win0_0.index t = ![t.val, 0] ∧ win0_1.index t = ![t.val, 1] ∧ win0_2.index t = ![t.val, 2] ∧ win0_3.index t = ![t.val, 3]
    ∧ win0_4.index t = ![t.val + 0 - 2, 0] ∧ win0_5.index t = ![t.val + 1 - 2, 0] ∧ win0_6.index t = ![t.val + 2 - 2, 0]
    ∧ win0_7.index t = ![t.val + 0 - 2, 0] ∧ win0_8.index t = ![t.val + 1 - 2, 0] ∧ win0_9.index t = ![t.val + 2 - 2, 0]
    ∧ win0_10.index t = ![0, 0, 0] ∧ win0_11.index t = ![0, 0, 0] ∧ win0_12.index t = ![t.val, 0] :=
  (by decide +kernel : ∀ t : Fin grid0.N, win0_0.index t = ![t.val, 0] ∧ win0_1.index t = ![t.val, 1] ∧ win0_2.index t = ![t.val, 2] ∧ win0_3.index t = ![t.val, 3]
    ∧ win0_4.index t = ![t.val + 0 - 2, 0] ∧ win0_5.index t = ![t.val + 1 - 2, 0] ∧ win0_6.index t = ![t.val + 2 - 2, 0]
    ∧ win0_7.index t = ![t.val + 0 - 2, 0] ∧ win0_8.index t = ![t.val + 1 - 2, 0] ∧ win0_9.index t = ![t.val + 2 - 2, 0]
    ∧ win0_10.index t = ![0, 0, 0] ∧ win0_11.index t = ![0, 0, 0] ∧ win0_12.index t = ![t.val, 0])
/-- A point of the grid is its chunk. -/
theorem coords : ∀ t : Fin cfg0.N, (grid0.coords t 0).val = t.val :=
  (by decide +kernel : ∀ t : Fin grid0.N, (grid0.coords t 0).val = t.val)

end Cert.AttHost
-- ==== Proof.AttPure.lean ====
module

public import proofs.«01_k».proof.Proof.AttSpec
public import proofs.«01_k».proof.Proof.Gen.KernelIdeal.Skeleton
public import Idealize.ShloMosaic.Lib.Pointwise
public import Idealize.ShloMosaic.Lib.WordCmp

@[expose] public section

set_option maxRecDepth 16384
set_option maxHeartbeats 1000000

noncomputable section

namespace Cert.AttPure

open Cert.KernelIdeal Cert.KernelIdeal.Gen Idealize.ShloMosaic Idealize.ShloMosaic.TcCoe Idealize.SL.Sem
open Cert.AttSpec (soft)

/-- A lane is in the lower half, as a bit. -/
theorem low_lane : ∀ l : Fin 128, IntOp.cmpi CmpIPredicate.slt (BitVec.ofNat 32 l.val) 64#32 = BitVec.ofBool (decide (l.val < 64)) := by decide +kernel

/-- A sum that keeps the lower lanes. -/
theorem sum_low (f : Fin 128 → EReal) :
    ∑ l : Fin 128, Scalar.select (IntOp.cmpi CmpIPredicate.slt (BitVec.ofNat 32 l.val) 64#32) (f l) 0 = ∑ d : Fin 64, f ⟨d.val, by omega⟩ := by
  simp only [low_lane]
  rw [Fin.sum_univ_two_halves 64 64 rfl]
  have e : ∑ k : Fin 64, Scalar.select (BitVec.ofBool (decide (64 + k.val < 64))) (f ⟨64 + k.val, by omega⟩) 0 = 0 :=
    Finset.sum_eq_zero fun k _ => by rw [decide_eq_false (by omega)]; rfl
  refine (congrArg₂ (· + ·) (Finset.sum_congr rfl fun k _ => ?_) e).trans (add_zero _)
  rw [decide_eq_true k.isLt]; rfl

/-- A sum that keeps the upper lanes. -/
theorem sum_high (f : Fin 128 → EReal) :
    ∑ l : Fin 128, Scalar.select (IntOp.xori (IntOp.cmpi CmpIPredicate.slt (BitVec.ofNat 32 l.val) 64#32) 1#1) (f l) 0 = ∑ d : Fin 64, f ⟨64 + d.val, by omega⟩ := by
  simp only [low_lane]
  rw [Fin.sum_univ_two_halves 64 64 rfl]
  have e : ∑ k : Fin 64, Scalar.select (IntOp.xori (BitVec.ofBool (decide (k.val < 64))) 1#1) (f ⟨k.val, by omega⟩) 0 = 0 :=
    Finset.sum_eq_zero fun k _ => by rw [decide_eq_true k.isLt]; rfl
  refine (congrArg₂ (· + ·) e (Finset.sum_congr rfl fun k _ => ?_)).trans (zero_add _)
  rw [decide_eq_false (show ¬ 64 + k.val < 64 by omega)]; rfl

section
variable (g : IVec S192x128 1) (x y w x1 x2 : FVec Ideal S64x128 .f32) (bb : FVec Ideal S1x192x128 .f32) (key : Fin 192) (col : Fin 128)
  (K : Fin 192 → Fin 128 → EReal) (hK : ∀ key l, k0_pay1 (F := Ideal) x y w (ix2 key l) = K key l)
  (Q : Fin 128 → Fin 128 → EReal)

/-- The scores of head group 0. -/
theorem scores0 (hK : ∀ key l, k0_pay1 (F := Ideal) x y w (ix2 key l) = K key l) (hQ : ∀ col l, k0_pay5 (F := Ideal) x1 x2 (ix2 col l) = Q col l) :
    k0_pay6 (F := Ideal) k0_pay22 g x y w x1 x2 bb (ix2 key col)
      = Scalar.select (g (ix2 key col)) ((∑ d : Fin 64, K key ⟨d.val, by omega⟩ * Q col ⟨d.val, by omega⟩) * Ideal.ofBits FTy.f32 0x3E000000#32 + bb (ix3 0 key col)) (Ideal.ofBits FTy.f32 0xFF800000#32) := by
  simp only [← hK, ← hQ]
  pointwise [k0_pay6, k0_pay22]
  rw [sum_low fun l => k0_pay1 (F := Ideal) x y w (ix2 key l) * k0_pay5 (F := Ideal) x1 x2 (ix2 col l)]
/-- The scores of head group 1. -/
theorem scores1 (hK : ∀ key l, k0_pay1 (F := Ideal) x y w (ix2 key l) = K key l) (hQ : ∀ col l, k0_pay5 (F := Ideal) x1 x2 (ix2 col l) = Q col l) :
    k0_pay7 (F := Ideal) k0_pay22 g (k0_pay3 x y w) (k0_pay5 x1 x2) (constantI S192x128 1 1#1) bb (ix2 key col)
      = Scalar.select (g (ix2 key col)) ((∑ d : Fin 64, K key ⟨d.val, by omega⟩ * Q col ⟨64 + d.val, by omega⟩) * Ideal.ofBits FTy.f32 0x3E000000#32 + bb (ix3 0 key col)) (Ideal.ofBits FTy.f32 0xFF800000#32) := by
  simp only [← hK, ← hQ]
  pointwise [k0_pay7, k0_pay22, k0_pay3]
  rw [sum_high fun l => k0_pay1 (F := Ideal) x y w (ix2 key ⟨(l.val + 128 - 64) % 128, Nat.mod_lt _ (by decide)⟩) * k0_pay5 (F := Ideal) x1 x2 (ix2 col l)]
  refine congrArg (fun s => Scalar.select _ (s * _ + _) _) (Finset.sum_congr rfl fun d _ => ?_)
  refine congrArg (fun l => k0_pay1 (F := Ideal) x y w (ix2 key l) * _) (Fin.ext ?_)
  have := d.isLt
  show (64 + d.val + 128 - 64) % 128 = d.val
  omega
/-- The scores of head group 2. -/
theorem scores2 (hK : ∀ key l, k0_pay1 (F := Ideal) x y w (ix2 key l) = K key l) (hQ : ∀ col l, k0_pay8 (F := Ideal) x1 x2 (ix2 col l) = Q col l) :
    k0_pay9 (F := Ideal) k0_pay22 g (k0_pay3 x y w) x1 x2 bb (ix2 key col)
      = Scalar.select (g (ix2 key col)) ((∑ d : Fin 64, K key ⟨64 + d.val, by omega⟩ * Q col ⟨d.val, by omega⟩) * Ideal.ofBits FTy.f32 0x3E000000#32 + bb (ix3 0 key col)) (Ideal.ofBits FTy.f32 0xFF800000#32) := by
  simp only [← hK, ← hQ]
  pointwise [k0_pay9, k0_pay22, k0_pay3]
  rw [sum_low fun l => k0_pay1 (F := Ideal) x y w (ix2 key ⟨(l.val + 128 - 64) % 128, Nat.mod_lt _ (by decide)⟩) * k0_pay8 (F := Ideal) x1 x2 (ix2 col l)]
  refine congrArg (fun s => Scalar.select _ (s * _ + _) _) (Finset.sum_congr rfl fun d _ => ?_)
  refine congrArg (fun l => k0_pay1 (F := Ideal) x y w (ix2 key l) * _) (Fin.ext ?_)
  have := d.isLt
  show (d.val + 128 - 64) % 128 = 64 + d.val
  omega
/-- The scores of head group 3. -/
theorem scores3 (hK : ∀ key l, k0_pay1 (F := Ideal) x y w (ix2 key l) = K key l) (hQ : ∀ col l, k0_pay8 (F := Ideal) x1 x2 (ix2 col l) = Q col l) :
    k0_pay11 (F := Ideal) g (k0_pay10 k0_pay22 (k0_pay1 x y w) x1 x2) bb (ix2 key col)
      = Scalar.select (g (ix2 key col)) ((∑ d : Fin 64, K key ⟨64 + d.val, by omega⟩ * Q col ⟨64 + d.val, by omega⟩) * Ideal.ofBits FTy.f32 0x3E000000#32 + bb (ix3 0 key col)) (Ideal.ofBits FTy.f32 0xFF800000#32) := by
  simp only [← hK, ← hQ]
  pointwise [k0_pay11, k0_pay10, k0_pay22]
  rw [sum_high fun l => k0_pay1 (F := Ideal) x y w (ix2 key l) * k0_pay8 (F := Ideal) x1 x2 (ix2 col l)]
end

/-- A key's bit, at a point of the grid. -/
theorem inside_at (i : grid0.Coords) (c : Fin 64) (hi : (i 0).val = c.val) (key : Fin 192) (col : Fin 128) :
    k0_pay23 i (ix2 key col) = BitVec.ofBool (decide (128 ≤ c.val * 64 + key.val)) := by
  pointwise [k0_pay23]
  rw [hi]
  exact AttSpec.inside_chunk c key

section
variable (s : FVec Ideal S192x128 .f32) (z : FVec Ideal S1x1x128 .f32) (key : Fin 192) (col : Fin 128)
/-- The weights of head group 0. -/
theorem weights0 : k0_pay12 (F := Ideal) s z (ix2 key col) = soft (fun k => s (ix2 k col)) (z (ix3 0 0 col)) key := by
  pointwise [k0_pay12]
  rfl
/-- The weights of head group 1. -/
theorem weights1 : k0_pay13 (F := Ideal) s z (ix2 key col) = soft (fun k => s (ix2 k col)) (z (ix3 0 0 col)) key := by
  pointwise [k0_pay13]
  rfl
/-- The weights of head group 2. -/
theorem weights2 : k0_pay17 (F := Ideal) (k0_pay14 z) (k0_pay15 s z) (k0_pay16 s z) (ix2 key col) = soft (fun k => s (ix2 k col)) (z (ix3 0 0 col)) key := by
  pointwise [k0_pay17, k0_pay14, k0_pay15, k0_pay16]
  rfl
/-- The weights of head group 3. -/
theorem weights3 : k0_pay18 (F := Ideal) s z (ix2 key col) = soft (fun k => s (ix2 k col)) (z (ix3 0 0 col)) key := by
  pointwise [k0_pay18]
  rfl
end

section
variable (x y w : FVec Ideal S64x128 .f32) (w0 w1 : FVec Ideal S192x128 .bf16) (r d : Fin 64)
  (V : Fin 192 → Fin 128 → EReal) (hV : ∀ key l, k0_pay2 (F := Ideal) x y w (ix2 key l) = V key l)
/-- Of two halves only the lower one counts at a lower lane. -/
theorem pick_low (f g : Fin 192 → EReal) (l : Fin 128) (hl : l.val < 64) :
    (∑ key : Fin 192, Scalar.select (IntOp.cmpi CmpIPredicate.slt (BitVec.ofNat 32 l.val) 64#32) (f key) 0)
      + ∑ key : Fin 192, Scalar.select (IntOp.xori (IntOp.cmpi CmpIPredicate.slt (BitVec.ofNat 32 l.val) 64#32) 1#1) (g key) 0 = ∑ key, f key := by
  rw [low_lane, decide_eq_true hl]
  refine (congrArg (_ + ·) (Finset.sum_eq_zero fun key _ => rfl)).trans (add_zero _)
/-- Of two halves only the upper one counts at an upper lane. -/
theorem pick_high (f g : Fin 192 → EReal) (l : Fin 128) (hl : ¬ l.val < 64) :
    (∑ key : Fin 192, Scalar.select (IntOp.cmpi CmpIPredicate.slt (BitVec.ofNat 32 l.val) 64#32) (f key) 0)
      + ∑ key : Fin 192, Scalar.select (IntOp.xori (IntOp.cmpi CmpIPredicate.slt (BitVec.ofNat 32 l.val) 64#32) 1#1) (g key) 0 = ∑ key, g key := by
  rw [low_lane, decide_eq_false hl]
  refine (congrArg (· + _) (Finset.sum_eq_zero fun key _ => rfl)).trans (zero_add _)

/-- Tile 0 at a lower lane: the values of key/value head 0 weighed by group 0. -/
theorem mix0_low (l : Fin 128) (hl : l.val < 64) : k0_pay20 (F := Ideal) k0_pay22 (k0_pay2 x y w) (k0_pay4 x y w) w0 w1 (ix3 (0 : Fin 1) r l)
    = ∑ key : Fin 192, k0_pay2 (F := Ideal) x y w (ix2 key l) * w0 (ix2 key ⟨r.val, by omega⟩) := by
  have hl' := l.isLt
  pointwise [k0_pay20, k0_pay19, k0_pay22, k0_pay4]
  refine (pick_low _ _ l hl).trans (Finset.sum_congr rfl fun key _ => ?_)
  rfl
/-- Tile 0 at an upper lane: the values of key/value head 0 weighed by group 1. -/
theorem mix0_high (l : Fin 128) (hl : ¬ l.val < 64) : k0_pay20 (F := Ideal) k0_pay22 (k0_pay2 x y w) (k0_pay4 x y w) w0 w1 (ix3 (0 : Fin 1) r l)
    = ∑ key : Fin 192, k0_pay2 (F := Ideal) x y w (ix2 key ⟨l.val - 64, by omega⟩) * w1 (ix2 key ⟨r.val, by omega⟩) := by
  have hl' := l.isLt
  pointwise [k0_pay20, k0_pay19, k0_pay22, k0_pay4]
  refine (pick_high _ _ l hl).trans (Finset.sum_congr rfl fun key _ => ?_)
  refine congrArg (fun n => k0_pay2 (F := Ideal) x y w (ix2 key n) * _) (Fin.ext ?_)
  show (l.val + 128 - 64) % 128 = l.val - 64
  omega
/-- Tile 1 at a lower lane: the values of key/value head 0 weighed by group 0. -/
theorem mix1_low (l : Fin 128) (hl : l.val < 64) : k0_pay24 (k0_pay21 (F := Ideal) k0_pay22 (k0_pay2 x y w) (k0_pay4 x y w) w0 w1) (ix3 (0 : Fin 1) r l)
    = ∑ key : Fin 192, k0_pay2 (F := Ideal) x y w (ix2 key l) * w0 (ix2 key ⟨64 + r.val, by omega⟩) := by
  have hl' := l.isLt
  pointwise [k0_pay24, k0_pay21, k0_pay19, k0_pay22, k0_pay4]
  refine (pick_low _ _ l hl).trans (Finset.sum_congr rfl fun key _ => ?_)
  rfl
/-- Tile 1 at an upper lane: the values of key/value head 0 weighed by group 1. -/
theorem mix1_high (l : Fin 128) (hl : ¬ l.val < 64) : k0_pay24 (k0_pay21 (F := Ideal) k0_pay22 (k0_pay2 x y w) (k0_pay4 x y w) w0 w1) (ix3 (0 : Fin 1) r l)
    = ∑ key : Fin 192, k0_pay2 (F := Ideal) x y w (ix2 key ⟨l.val - 64, by omega⟩) * w1 (ix2 key ⟨64 + r.val, by omega⟩) := by
  have hl' := l.isLt
  pointwise [k0_pay24, k0_pay21, k0_pay19, k0_pay22, k0_pay4]
  refine (pick_high _ _ l hl).trans (Finset.sum_congr rfl fun key _ => ?_)
  refine congrArg (fun n => k0_pay2 (F := Ideal) x y w (ix2 key n) * _) (Fin.ext ?_)
  show (l.val + 128 - 64) % 128 = l.val - 64
  omega
/-- Tile 2 at a lower lane: the values of key/value head 1 weighed by group 2. -/
theorem mix2_low (l : Fin 128) (hl : l.val < 64) : k0_pay26 (F := Ideal) (k0_pay2 x y w) (k0_pay4 x y w) w0 w1 (ix3 (0 : Fin 1) r l)
    = ∑ key : Fin 192, k0_pay2 (F := Ideal) x y w (ix2 key ⟨64 + l.val, by omega⟩) * w0 (ix2 key ⟨r.val, by omega⟩) := by
  have hl' := l.isLt
  pointwise [k0_pay26, k0_pay25, k0_pay22, k0_pay4]
  refine (pick_low _ _ l hl).trans (Finset.sum_congr rfl fun key _ => ?_)
  refine congrArg (fun n => k0_pay2 (F := Ideal) x y w (ix2 key n) * _) (Fin.ext ?_)
  show (l.val + 128 - 64) % 128 = 64 + l.val
  omega
/-- Tile 2 at an upper lane: the values of key/value head 1 weighed by group 3. -/
theorem mix2_high (l : Fin 128) (hl : ¬ l.val < 64) : k0_pay26 (F := Ideal) (k0_pay2 x y w) (k0_pay4 x y w) w0 w1 (ix3 (0 : Fin 1) r l)
    = ∑ key : Fin 192, k0_pay2 (F := Ideal) x y w (ix2 key l) * w1 (ix2 key ⟨r.val, by omega⟩) := by
  have hl' := l.isLt
  pointwise [k0_pay26, k0_pay25, k0_pay22, k0_pay4]
  refine (pick_high _ _ l hl).trans (Finset.sum_congr rfl fun key _ => ?_)
  rfl
/-- Tile 3 at a lower lane: the values of key/value head 1 weighed by group 2. -/
theorem mix3_low (l : Fin 128) (hl : l.val < 64) : k0_pay27 (F := Ideal) (k0_pay2 x y w) (k0_pay4 x y w) w0 w1 (ix3 (0 : Fin 1) r l)
    = ∑ key : Fin 192, k0_pay2 (F := Ideal) x y w (ix2 key ⟨64 + l.val, by omega⟩) * w0 (ix2 key ⟨64 + r.val, by omega⟩) := by
  have hl' := l.isLt
  pointwise [k0_pay27, k0_pay25, k0_pay22, k0_pay4]
  refine (pick_low _ _ l hl).trans (Finset.sum_congr rfl fun key _ => ?_)
  refine congrArg (fun n => k0_pay2 (F := Ideal) x y w (ix2 key n) * _) (Fin.ext ?_)
  show (l.val + 128 - 64) % 128 = 64 + l.val
  omega
/-- Tile 3 at an upper lane: the values of key/value head 1 weighed by group 3. -/
theorem mix3_high (l : Fin 128) (hl : ¬ l.val < 64) : k0_pay27 (F := Ideal) (k0_pay2 x y w) (k0_pay4 x y w) w0 w1 (ix3 (0 : Fin 1) r l)
    = ∑ key : Fin 192, k0_pay2 (F := Ideal) x y w (ix2 key l) * w1 (ix2 key ⟨64 + r.val, by omega⟩) := by
  have hl' := l.isLt
  pointwise [k0_pay27, k0_pay25, k0_pay22, k0_pay4]
  refine (pick_high _ _ l hl).trans (Finset.sum_congr rfl fun key _ => ?_)
  rfl
end

section
variable (x y w : FVec Ideal S64x128 .f32) (S : Fin 192 → Fin 128 → EReal)
  (hx : ∀ (r : Fin 64) n l, n.val = r.val → x (ix2 r l) = S n l) (hy : ∀ (r : Fin 64) n l, n.val = 64 + r.val → y (ix2 r l) = S n l)
  (hw : ∀ (r : Fin 64) n l, n.val = 128 + r.val → w (ix2 r l) = S n l)
include hx hy hw
/-- Three chunks of keys stacked. -/
theorem stack1 (key : Fin 192) (l : Fin 128) : k0_pay1 (F := Ideal) x y w (ix2 key l) = S key l := by
  have hk := key.isLt
  pointwise [k0_pay1]
  by_cases h0 : key.val < 64
  · refine (dif_pos h0).trans ?_
    exact hx ⟨key.val, h0⟩ key l rfl
  · refine (dif_neg h0).trans ?_
    by_cases h1 : key.val - 64 < 64
    · refine (dif_pos h1).trans (hy ⟨key.val - 64, h1⟩ key l (by show key.val = 64 + (key.val - 64); omega))
    · refine (dif_neg h1).trans (hw ⟨key.val - 64 - 64, by omega⟩ key l (by show key.val = 128 + (key.val - 64 - 64); omega))
/-- Three chunks of values stacked. -/
theorem stack2 (key : Fin 192) (l : Fin 128) : k0_pay2 (F := Ideal) x y w (ix2 key l) = S key l := by
  have hk := key.isLt
  pointwise [k0_pay2]
  by_cases h0 : key.val < 64
  · refine (dif_pos h0).trans ?_
    exact hx ⟨key.val, h0⟩ key l rfl
  · refine (dif_neg h0).trans ?_
    by_cases h1 : key.val - 64 < 64
    · refine (dif_pos h1).trans (hy ⟨key.val - 64, h1⟩ key l (by show key.val = 64 + (key.val - 64); omega))
    · refine (dif_neg h1).trans (hw ⟨key.val - 64 - 64, by omega⟩ key l (by show key.val = 128 + (key.val - 64 - 64); omega))
end
section
variable (x y : FVec Ideal S64x128 .f32) (S : Fin 128 → Fin 128 → EReal)
  (hx : ∀ (r : Fin 64) n l, n.val = r.val → x (ix2 r l) = S n l) (hy : ∀ (r : Fin 64) n l, n.val = 64 + r.val → y (ix2 r l) = S n l)
include hx hy
/-- Two query tiles stacked. -/
theorem stack5 (col l : Fin 128) : k0_pay5 (F := Ideal) x y (ix2 col l) = S col l := by
  have hk := col.isLt
  pointwise [k0_pay5]
  by_cases h0 : col.val < 64
  · refine (dif_pos h0).trans ?_
    exact hx ⟨col.val, h0⟩ col l rfl
  · refine (dif_neg h0).trans (hy ⟨col.val - 64, by omega⟩ col l (by show col.val = 64 + (col.val - 64); omega))
/-- The other two query tiles stacked. -/
theorem stack8 (col l : Fin 128) : k0_pay8 (F := Ideal) x y (ix2 col l) = S col l := by
  have hk := col.isLt
  pointwise [k0_pay8]
  by_cases h0 : col.val < 64
  · refine (dif_pos h0).trans ?_
    exact hx ⟨col.val, h0⟩ col l rfl
  · refine (dif_neg h0).trans (hy ⟨col.val - 64, by omega⟩ col l (by show col.val = 64 + (col.val - 64); omega))
end

end Cert.AttPure
-- ==== Proof.AttPoint.lean ====
module

public import proofs.«01_k».proof.Proof.AttPure
public import proofs.«01_k».proof.Proof.Body
public import Idealize.ShloMosaic.Lib.Pipeline.ValueKit

@[expose] public section

set_option maxRecDepth 16384
set_option maxHeartbeats 1000000

noncomputable section

namespace Cert.AttPoint

open Cert.KernelIdeal Cert.KernelIdeal.Gen Idealize.ShloMosaic Idealize.ShloMosaic.TcCoe Idealize.SL.Sem
open Cert.Att Cert.AttSpec

/-- Row `key` of a chunk's window, whole lanes. -/
def slab (x : (⟨3, ![16, 4096, 128]⟩ : Shape).Idx → EReal) (b : Fin 16) (c : Fin 64) (key : Fin 192) (l : Fin 128) : EReal :=
  x (ix3 b ⟨((c.val + key.val / 64 - 2) * 64 + key.val % 64) % 4096, Nat.mod_lt _ (by decide)⟩ l)
/-- Column `col` of key/value head `h`'s queries, whole lanes. -/
def cols (q : (⟨3, ![16, 4096, 512]⟩ : Shape).Idx → EReal) (b : Fin 16) (c : Fin 64) (h : Fin 2) (col l : Fin 128) : EReal :=
  q (ix3 b ⟨c.val * 64 + col.val % 64, by omega⟩ ⟨(2 * h.val + col.val / 64) * 128 + l.val, by omega⟩)

/-- What the operand blocks of chunk `c` hold. -/
structure Operands (q : (⟨3, ![16, 4096, 512]⟩ : Shape).Idx → EReal) (k v : (⟨3, ![16, 4096, 128]⟩ : Shape).Idx → EReal)
    (rb : (⟨2, ![32, 8]⟩ : Shape).Idx → EReal) (sk : (⟨1, ![8]⟩ : Shape).Idx → EReal) (c : Fin 64)
    (x1 x2 x3 x4 x5 x6 x7 x8 x9 x10 : Vec Ideal S1024x128 .f32) (x11 : Vec Ideal S4x192x128 .f32) (x12 : Vec Ideal S4x1x128 .f32) : Prop where
  q0 : ∀ (n : Fin 1024) (l : Fin 128), x1 (ix2 n l) = q (ix3 ⟨n.val % 16, by omega⟩ ⟨c.val * 64 + n.val / 16, by omega⟩ ⟨0 * 128 + l.val, by omega⟩)
  q1 : ∀ (n : Fin 1024) (l : Fin 128), x2 (ix2 n l) = q (ix3 ⟨n.val % 16, by omega⟩ ⟨c.val * 64 + n.val / 16, by omega⟩ ⟨1 * 128 + l.val, by omega⟩)
  q2 : ∀ (n : Fin 1024) (l : Fin 128), x3 (ix2 n l) = q (ix3 ⟨n.val % 16, by omega⟩ ⟨c.val * 64 + n.val / 16, by omega⟩ ⟨2 * 128 + l.val, by omega⟩)
  q3 : ∀ (n : Fin 1024) (l : Fin 128), x4 (ix2 n l) = q (ix3 ⟨n.val % 16, by omega⟩ ⟨c.val * 64 + n.val / 16, by omega⟩ ⟨3 * 128 + l.val, by omega⟩)
  k0 : ∀ (n : Fin 1024) (l : Fin 128), x5 (ix2 n l) = k (ix3 ⟨n.val % 16, by omega⟩ ⟨((c.val + 0 - 2) * 64 + n.val / 16) % 4096, Nat.mod_lt _ (by decide)⟩ l)
  k1 : ∀ (n : Fin 1024) (l : Fin 128), x6 (ix2 n l) = k (ix3 ⟨n.val % 16, by omega⟩ ⟨((c.val + 1 - 2) * 64 + n.val / 16) % 4096, Nat.mod_lt _ (by decide)⟩ l)
  k2 : ∀ (n : Fin 1024) (l : Fin 128), x7 (ix2 n l) = k (ix3 ⟨n.val % 16, by omega⟩ ⟨((c.val + 2 - 2) * 64 + n.val / 16) % 4096, Nat.mod_lt _ (by decide)⟩ l)
  v0 : ∀ (n : Fin 1024) (l : Fin 128), x8 (ix2 n l) = v (ix3 ⟨n.val % 16, by omega⟩ ⟨((c.val + 0 - 2) * 64 + n.val / 16) % 4096, Nat.mod_lt _ (by decide)⟩ l)
  v1 : ∀ (n : Fin 1024) (l : Fin 128), x9 (ix2 n l) = v (ix3 ⟨n.val % 16, by omega⟩ ⟨((c.val + 1 - 2) * 64 + n.val / 16) % 4096, Nat.mod_lt _ (by decide)⟩ l)
  v2 : ∀ (n : Fin 1024) (l : Fin 128), x10 (ix2 n l) = v (ix3 ⟨n.val % 16, by omega⟩ ⟨((c.val + 2 - 2) * 64 + n.val / 16) % 4096, Nat.mod_lt _ (by decide)⟩ l)
  bias : ∀ (g : Fin 4) (key : Fin 192) (col : Fin 128), x11 (ix3 g key col) = biasRow rb ⟨g.val / 2 * 4 + col.val / 64 * 2 + g.val % 2, by omega⟩ ⟨col.val % 64, Nat.mod_lt _ (by decide)⟩ key
  sink : ∀ (g : Fin 4) (col : Fin 128), x12 (ix3 g (0 : Fin 1) col) = sk (ix1 ⟨g.val / 2 * 4 + col.val / 64 * 2 + g.val % 2, by omega⟩)

theorem off1_eq : ∀ k, k0_off1 k = ![k.val, 0] := by decide
/-- A sequence's rows of a block, at an index. -/
theorem rows_at (x : Vec Ideal S1024x128 .f32) (b : Fin k0_t1_loop.trips) (r : Fin 64) (l : Fin 128) :
    rows x b (ix2 r l) = x (ix2 ⟨b.val + 16 * r.val, by have : b.val < 16 := b.isLt; omega⟩ l) := by
  unfold rows
  refine congrArg x ?_
  funext a
  refine Fin.ext ?_
  have e := congrFun (off1_eq b) a
  match a with
  | ⟨0, _⟩ => show k0_off1 b 0 + 16 * r.val = b.val + 16 * r.val; rw [off1_eq b]; rfl
  | ⟨1, _⟩ => show k0_off1 b 1 + 1 * l.val = l.val; rw [off1_eq b]; show 0 + 1 * l.val = l.val; omega

/-- Equal coordinates, equal index. -/
theorem ix3_congr {n0 n1 n2 : ℕ} {a a' : Fin n0} {d d' : Fin n1} {e e' : Fin n2} (h0 : a = a') (h1 : d = d') (h2 : e = e') :
    (ix3 a d e : (⟨3, ![n0, n1, n2]⟩ : Shape).Idx) = ix3 a' d' e' := by subst h0 h1 h2; rfl
/-- Equal scores and sinks, equal weights. -/
theorem soft_congr {s s' : Fin 192 → EReal} {z z' : EReal} (hs : ∀ key, s key = s' key) (hz : z = z') (key : Fin 192) : soft s z key = soft s' z' key := by
  rw [funext hs, hz]
/-- Equal places, equal weights. -/
theorem weight_congr {q : (⟨3, ![16, 4096, 512]⟩ : Shape).Idx → EReal} {k : (⟨3, ![16, 4096, 128]⟩ : Shape).Idx → EReal}
    {rb : (⟨2, ![32, 8]⟩ : Shape).Idx → EReal} {sk : (⟨1, ![8]⟩ : Shape).Idx → EReal} {b : Fin 16} {c : Fin 64} {h : Fin 2} {g g' : Fin 4} {r r' : Fin 64} {n n' : Fin 8}
    (hg : g = g') (hr : r = r') (hn : n = n') (key : Fin 192) :
    soft (scores q k rb b c h g r) (sk (ix1 n)) key = soft (scores q k rb b c h g' r') (sk (ix1 n')) key := by subst hg hr hn; rfl
/-- Equal heads, equal values. -/
theorem place_congr {q : (⟨3, ![16, 4096, 512]⟩ : Shape).Idx → EReal} {k v : (⟨3, ![16, 4096, 128]⟩ : Shape).Idx → EReal}
    {rb : (⟨2, ![32, 8]⟩ : Shape).Idx → EReal} {sk : (⟨1, ![8]⟩ : Shape).Idx → EReal} {b : Fin 16} {c : Fin 64} {h h' : Fin 2} {g g' : Fin 4} {r d : Fin 64}
    (hh : h = h') (hg : g = g') : attended q k v rb sk b c h g r d = attended q k v rb sk b c h' g' r d := by subst hh hg; rfl
/-- Equal lanes, equal values. -/
theorem lane_congr {q : (⟨3, ![16, 4096, 512]⟩ : Shape).Idx → EReal} {k v : (⟨3, ![16, 4096, 128]⟩ : Shape).Idx → EReal}
    {rb : (⟨2, ![32, 8]⟩ : Shape).Idx → EReal} {sk : (⟨1, ![8]⟩ : Shape).Idx → EReal} {b : Fin 16} {c : Fin 64} {h h' : Fin 2} {g g' : Fin 4} {r d d' : Fin 64}
    (hh : h = h') (hg : g = g') (hd : d = d') : attended q k v rb sk b c h g r d = attended q k v rb sk b c h' g' r d' := by subst hh hg hd; rfl
/-- A group's slab of the bias table, at an index. -/
theorem slabB_at (x11 : Vec Ideal S4x192x128 .f32) (g : Fin 4) (hin) (key : Fin 192) (col : Fin 128) :
    biasAt x11 (Rect.unit (s := S4x192x128) ![g.val, 0, 0] S1x192x128.size hin).toLoadRect (ix3 (0 : Fin 1) key col) = x11 (ix3 g key col) := by
  refine congrArg x11 ?_
  funext a
  refine Fin.ext ?_
  match a with
  | ⟨0, _⟩ => show g.val + 1 * 0 = g.val; omega
  | ⟨1, _⟩ => show 0 + 1 * key.val = key.val; omega
  | ⟨2, _⟩ => show 0 + 1 * col.val = col.val; omega
/-- A group's row of the sink table, at an index. -/
theorem slabZ_at (x12 : Vec Ideal S4x1x128 .f32) (g : Fin 4) (hin) (col : Fin 128) :
    sinkAt x12 (Rect.unit (s := S4x1x128) ![g.val, 0, 0] S1x1x128.size hin).toLoadRect (ix3 (0 : Fin 1) (0 : Fin 1) col) = x12 (ix3 g (0 : Fin 1) col) := by
  refine congrArg x12 ?_
  funext a
  refine Fin.ext ?_
  match a with
  | ⟨0, _⟩ => show g.val + 1 * 0 = g.val; omega
  | ⟨1, _⟩ => rfl
  | ⟨2, _⟩ => show 0 + 1 * col.val = col.val; omega

/-- The block spread from the collected tiles, at an index. -/
theorem spread_at (X : Vec Ideal S4x1024x128 .f32) (n : Fin 1024) (l : Fin 512) :
    spread (F := Ideal) X (ix2 n l) = X (ix3 ⟨l.val / 128, by omega⟩ n ⟨l.val % 128, Nat.mod_lt _ (by decide)⟩) := by
  unfold spread
  canon_tiles x h
  · idx_vars x
    pointwise [k0_pay31]
    refine congrArg X ?_
    funext e
    refine Fin.ext ?_
    match e with
    | ⟨0, _⟩ => show 3 = l.val / 128; omega
    | ⟨1, _⟩ => show x0.val = n.val; omega
    | ⟨2, _⟩ => show x1.val = l.val % 128; omega
  · idx_vars x
    pointwise [k0_pay30]
    refine congrArg X ?_
    funext e
    refine Fin.ext ?_
    match e with
    | ⟨0, _⟩ => show 2 = l.val / 128; omega
    | ⟨1, _⟩ => show x0.val = n.val; omega
    | ⟨2, _⟩ => show x1.val = l.val % 128; omega
  · idx_vars x
    pointwise [k0_pay29]
    refine congrArg X ?_
    funext e
    refine Fin.ext ?_
    match e with
    | ⟨0, _⟩ => show 1 = l.val / 128; omega
    | ⟨1, _⟩ => show x0.val = n.val; omega
    | ⟨2, _⟩ => show x1.val = l.val % 128; omega
  · idx_vars x
    pointwise [k0_pay28]
    refine congrArg X ?_
    funext e
    refine Fin.ext ?_
    match e with
    | ⟨0, _⟩ => show 0 = l.val / 128; omega
    | ⟨1, _⟩ => show x0.val = n.val; omega
    | ⟨2, _⟩ => show x1.val = l.val % 128; omega

section
variable {q : (⟨3, ![16, 4096, 512]⟩ : Shape).Idx → EReal} {k v : (⟨3, ![16, 4096, 128]⟩ : Shape).Idx → EReal}
    {rb : (⟨2, ![32, 8]⟩ : Shape).Idx → EReal} {sk : (⟨1, ![8]⟩ : Shape).Idx → EReal} {c : Fin 64}
    {x1 x2 x3 x4 x5 x6 x7 x8 x9 x10 : Vec Ideal S1024x128 .f32} {x11 : Vec Ideal S4x192x128 .f32} {x12 : Vec Ideal S4x1x128 .f32}
    (H : Operands q k v rb sk c x1 x2 x3 x4 x5 x6 x7 x8 x9 x10 x11 x12) (i : grid0.Coords) (hi : (i 0).val = c.val)
    (b : Fin k0_t1_loop.trips)
include H

/-- The stacked keys. -/
theorem keys (key : Fin 192) (l : Fin 128) : k0_pay1 (F := Ideal) (rows x5 b) (rows x6 b) (rows x7 b) (ix2 key l) = slab k (b : Fin 16) c key l := by
  have hb : b.val < 16 := b.isLt
  refine AttPure.stack1 _ _ _ (slab k (b : Fin 16) c) (fun r n l hn => ?_) (fun r n l hn => ?_) (fun r n l hn => ?_) key l
  · rw [rows_at, H.k0]
    unfold slab
    refine congrArg k (congrArg₂ (fun a d => ix3 a d l) (Fin.ext ?_) (Fin.ext ?_))
    · show (b.val + 16 * r.val) % 16 = b.val
      omega
    · show ((c.val + 0 - 2) * 64 + (b.val + 16 * r.val) / 16) % 4096 = ((c.val + n.val / 64 - 2) * 64 + n.val % 64) % 4096
      rw [show (b.val + 16 * r.val) / 16 = r.val by omega, show n.val / 64 = 0 by omega, show n.val % 64 = r.val by omega]
  · rw [rows_at, H.k1]
    unfold slab
    refine congrArg k (congrArg₂ (fun a d => ix3 a d l) (Fin.ext ?_) (Fin.ext ?_))
    · show (b.val + 16 * r.val) % 16 = b.val
      omega
    · show ((c.val + 1 - 2) * 64 + (b.val + 16 * r.val) / 16) % 4096 = ((c.val + n.val / 64 - 2) * 64 + n.val % 64) % 4096
      rw [show (b.val + 16 * r.val) / 16 = r.val by omega, show n.val / 64 = 1 by omega, show n.val % 64 = r.val by omega]
  · rw [rows_at, H.k2]
    unfold slab
    refine congrArg k (congrArg₂ (fun a d => ix3 a d l) (Fin.ext ?_) (Fin.ext ?_))
    · show (b.val + 16 * r.val) % 16 = b.val
      omega
    · show ((c.val + 2 - 2) * 64 + (b.val + 16 * r.val) / 16) % 4096 = ((c.val + n.val / 64 - 2) * 64 + n.val % 64) % 4096
      rw [show (b.val + 16 * r.val) / 16 = r.val by omega, show n.val / 64 = 2 by omega, show n.val % 64 = r.val by omega]
/-- The stacked values. -/
theorem values (key : Fin 192) (l : Fin 128) : k0_pay2 (F := Ideal) (rows x8 b) (rows x9 b) (rows x10 b) (ix2 key l) = slab v (b : Fin 16) c key l := by
  have hb : b.val < 16 := b.isLt
  refine AttPure.stack2 _ _ _ (slab v (b : Fin 16) c) (fun r n l hn => ?_) (fun r n l hn => ?_) (fun r n l hn => ?_) key l
  · rw [rows_at, H.v0]
    unfold slab
    refine congrArg v (congrArg₂ (fun a d => ix3 a d l) (Fin.ext ?_) (Fin.ext ?_))
    · show (b.val + 16 * r.val) % 16 = b.val
      omega
    · show ((c.val + 0 - 2) * 64 + (b.val + 16 * r.val) / 16) % 4096 = ((c.val + n.val / 64 - 2) * 64 + n.val % 64) % 4096
      rw [show (b.val + 16 * r.val) / 16 = r.val by omega, show n.val / 64 = 0 by omega, show n.val % 64 = r.val by omega]
  · rw [rows_at, H.v1]
    unfold slab
    refine congrArg v (congrArg₂ (fun a d => ix3 a d l) (Fin.ext ?_) (Fin.ext ?_))
    · show (b.val + 16 * r.val) % 16 = b.val
      omega
    · show ((c.val + 1 - 2) * 64 + (b.val + 16 * r.val) / 16) % 4096 = ((c.val + n.val / 64 - 2) * 64 + n.val % 64) % 4096
      rw [show (b.val + 16 * r.val) / 16 = r.val by omega, show n.val / 64 = 1 by omega, show n.val % 64 = r.val by omega]
  · rw [rows_at, H.v2]
    unfold slab
    refine congrArg v (congrArg₂ (fun a d => ix3 a d l) (Fin.ext ?_) (Fin.ext ?_))
    · show (b.val + 16 * r.val) % 16 = b.val
      omega
    · show ((c.val + 2 - 2) * 64 + (b.val + 16 * r.val) / 16) % 4096 = ((c.val + n.val / 64 - 2) * 64 + n.val % 64) % 4096
      rw [show (b.val + 16 * r.val) / 16 = r.val by omega, show n.val / 64 = 2 by omega, show n.val % 64 = r.val by omega]
/-- The stacked queries of key/value head 0. -/
theorem queries0 (col l : Fin 128) : k0_pay5 (F := Ideal) (rows x1 b) (rows x2 b) (ix2 col l) = cols q (b : Fin 16) c 0 col l := by
  have hb : b.val < 16 := b.isLt
  refine AttPure.stack5 _ _ (cols q (b : Fin 16) c 0) (fun r n l hn => ?_) (fun r n l hn => ?_) col l
  · rw [rows_at, H.q0]
    unfold cols
    refine congrArg q (ix3_congr (Fin.ext ?_) (Fin.ext ?_) (Fin.ext ?_))
    · show (b.val + 16 * r.val) % 16 = b.val
      omega
    · show c.val * 64 + (b.val + 16 * r.val) / 16 = c.val * 64 + n.val % 64
      omega
    · show 0 * 128 + l.val = (2 * 0 + n.val / 64) * 128 + l.val
      omega
  · rw [rows_at, H.q1]
    unfold cols
    refine congrArg q (ix3_congr (Fin.ext ?_) (Fin.ext ?_) (Fin.ext ?_))
    · show (b.val + 16 * r.val) % 16 = b.val
      omega
    · show c.val * 64 + (b.val + 16 * r.val) / 16 = c.val * 64 + n.val % 64
      omega
    · show 1 * 128 + l.val = (2 * 0 + n.val / 64) * 128 + l.val
      omega
/-- The stacked queries of key/value head 1. -/
theorem queries1 (col l : Fin 128) : k0_pay8 (F := Ideal) (rows x3 b) (rows x4 b) (ix2 col l) = cols q (b : Fin 16) c 1 col l := by
  have hb : b.val < 16 := b.isLt
  refine AttPure.stack8 _ _ (cols q (b : Fin 16) c 1) (fun r n l hn => ?_) (fun r n l hn => ?_) col l
  · rw [rows_at, H.q2]
    unfold cols
    refine congrArg q (ix3_congr (Fin.ext ?_) (Fin.ext ?_) (Fin.ext ?_))
    · show (b.val + 16 * r.val) % 16 = b.val
      omega
    · show c.val * 64 + (b.val + 16 * r.val) / 16 = c.val * 64 + n.val % 64
      omega
    · show 2 * 128 + l.val = (2 * 1 + n.val / 64) * 128 + l.val
      omega
  · rw [rows_at, H.q3]
    unfold cols
    refine congrArg q (ix3_congr (Fin.ext ?_) (Fin.ext ?_) (Fin.ext ?_))
    · show (b.val + 16 * r.val) % 16 = b.val
      omega
    · show c.val * 64 + (b.val + 16 * r.val) / 16 = c.val * 64 + n.val % 64
      omega
    · show 3 * 128 + l.val = (2 * 1 + n.val / 64) * 128 + l.val
      omega
include hi
/-- The weights of head group 0. -/
theorem weights0 (key : Fin 192) (col : Fin 128) : w0 (F := Ideal) i x1 x2 x5 x6 x7 x11 x12 b (ix2 key col)
    = soft (scores q k rb (b : Fin 16) c 0 ⟨col.val / 64 * 2 + 0, by omega⟩ ⟨col.val % 64, Nat.mod_lt _ (by decide)⟩) (sk (ix1 ⟨0 * 4 + (col.val / 64 * 2 + 0), by omega⟩)) key := by
  have hc := col.isLt
  unfold w0
  refine (AttPure.weights0 _ _ key col).trans ?_
  refine soft_congr (fun key => ?_) ?_ key
  · refine (AttPure.scores0 _ _ _ _ _ _ _ key col (slab k (b : Fin 16) c) (cols q (b : Fin 16) c 0) (keys H b) (queries0 H b)).trans ?_
    rw [AttPure.inside_at i c hi]
    unfold scores score
    by_cases hk : 128 ≤ c.val * 64 + key.val
    · rw [if_pos hk, decide_eq_true hk]
      refine congrArg₂ (fun s t => s * _ + t) (Finset.sum_congr rfl fun d _ => congrArg₂ (· * ·) ?_ ?_) ?_
      · refine congrArg k (ix3_congr rfl rfl (Fin.ext ?_))
        have := d.isLt
        show d.val = 0 * 64 + d.val
        omega
      · refine congrArg q (ix3_congr rfl rfl (Fin.ext ?_))
        have := d.isLt
        show (2 * 0 + col.val / 64) * 128 + d.val = 0 * 256 + (col.val / 64 * 2 + 0) * 64 + d.val
        omega
      · refine (slabB_at x11 0 _ key col).trans ((H.bias 0 key col).trans ?_)
        refine congrArg (fun n => biasRow rb n _ key) (Fin.ext ?_)
        show 0 / 2 * 4 + col.val / 64 * 2 + 0 % 2 = 0 * 4 + (col.val / 64 * 2 + 0)
        omega
    · rw [if_neg hk, decide_eq_false hk]
      exact ofBits_least
  · refine (slabZ_at x12 0 _ col).trans ((H.sink 0 col).trans ?_)
    refine congrArg (fun n => sk (ix1 n)) (Fin.ext ?_)
    show 0 / 2 * 4 + col.val / 64 * 2 + 0 % 2 = 0 * 4 + (col.val / 64 * 2 + 0)
    omega
/-- The weights of head group 1. -/
theorem weights1 (key : Fin 192) (col : Fin 128) : w1 (F := Ideal) i x1 x2 x5 x6 x7 x11 x12 b (ix2 key col)
    = soft (scores q k rb (b : Fin 16) c 0 ⟨col.val / 64 * 2 + 1, by omega⟩ ⟨col.val % 64, Nat.mod_lt _ (by decide)⟩) (sk (ix1 ⟨0 * 4 + (col.val / 64 * 2 + 1), by omega⟩)) key := by
  have hc := col.isLt
  unfold w1
  refine (AttPure.weights1 _ _ key col).trans ?_
  refine soft_congr (fun key => ?_) ?_ key
  · refine (AttPure.scores1 _ _ _ _ _ _ _ key col (slab k (b : Fin 16) c) (cols q (b : Fin 16) c 0) (keys H b) (queries0 H b)).trans ?_
    rw [AttPure.inside_at i c hi]
    unfold scores score
    by_cases hk : 128 ≤ c.val * 64 + key.val
    · rw [if_pos hk, decide_eq_true hk]
      refine congrArg₂ (fun s t => s * _ + t) (Finset.sum_congr rfl fun d _ => congrArg₂ (· * ·) ?_ ?_) ?_
      · refine congrArg k (ix3_congr rfl rfl (Fin.ext ?_))
        have := d.isLt
        show d.val = 0 * 64 + d.val
        omega
      · refine congrArg q (ix3_congr rfl rfl (Fin.ext ?_))
        have := d.isLt
        show (2 * 0 + col.val / 64) * 128 + (64 + d.val) = 0 * 256 + (col.val / 64 * 2 + 1) * 64 + d.val
        omega
      · refine (slabB_at x11 1 _ key col).trans ((H.bias 1 key col).trans ?_)
        refine congrArg (fun n => biasRow rb n _ key) (Fin.ext ?_)
        show 1 / 2 * 4 + col.val / 64 * 2 + 1 % 2 = 0 * 4 + (col.val / 64 * 2 + 1)
        omega
    · rw [if_neg hk, decide_eq_false hk]
      exact ofBits_least
  · refine (slabZ_at x12 1 _ col).trans ((H.sink 1 col).trans ?_)
    refine congrArg (fun n => sk (ix1 n)) (Fin.ext ?_)
    show 1 / 2 * 4 + col.val / 64 * 2 + 1 % 2 = 0 * 4 + (col.val / 64 * 2 + 1)
    omega
/-- The weights of head group 2. -/
theorem weights2 (key : Fin 192) (col : Fin 128) : w2 (F := Ideal) i x3 x4 x5 x6 x7 x11 x12 b (ix2 key col)
    = soft (scores q k rb (b : Fin 16) c 1 ⟨col.val / 64 * 2 + 0, by omega⟩ ⟨col.val % 64, Nat.mod_lt _ (by decide)⟩) (sk (ix1 ⟨1 * 4 + (col.val / 64 * 2 + 0), by omega⟩)) key := by
  have hc := col.isLt
  unfold w2 s2
  refine (AttPure.weights2 _ _ key col).trans ?_
  refine soft_congr (fun key => ?_) ?_ key
  · refine (AttPure.scores2 _ _ _ _ _ _ _ key col (slab k (b : Fin 16) c) (cols q (b : Fin 16) c 1) (keys H b) (queries1 H b)).trans ?_
    rw [AttPure.inside_at i c hi]
    unfold scores score
    by_cases hk : 128 ≤ c.val * 64 + key.val
    · rw [if_pos hk, decide_eq_true hk]
      refine congrArg₂ (fun s t => s * _ + t) (Finset.sum_congr rfl fun d _ => congrArg₂ (· * ·) ?_ ?_) ?_
      · refine congrArg k (ix3_congr rfl rfl (Fin.ext ?_))
        have := d.isLt
        show 64 + d.val = 1 * 64 + d.val
        omega
      · refine congrArg q (ix3_congr rfl rfl (Fin.ext ?_))
        have := d.isLt
        show (2 * 1 + col.val / 64) * 128 + d.val = 1 * 256 + (col.val / 64 * 2 + 0) * 64 + d.val
        omega
      · refine (slabB_at x11 2 _ key col).trans ((H.bias 2 key col).trans ?_)
        refine congrArg (fun n => biasRow rb n _ key) (Fin.ext ?_)
        show 2 / 2 * 4 + col.val / 64 * 2 + 2 % 2 = 1 * 4 + (col.val / 64 * 2 + 0)
        omega
    · rw [if_neg hk, decide_eq_false hk]
      exact ofBits_least
  · refine (slabZ_at x12 2 _ col).trans ((H.sink 2 col).trans ?_)
    refine congrArg (fun n => sk (ix1 n)) (Fin.ext ?_)
    show 2 / 2 * 4 + col.val / 64 * 2 + 2 % 2 = 1 * 4 + (col.val / 64 * 2 + 0)
    omega
/-- The weights of head group 3. -/
theorem weights3 (key : Fin 192) (col : Fin 128) : w3 (F := Ideal) i x3 x4 x5 x6 x7 x11 x12 b (ix2 key col)
    = soft (scores q k rb (b : Fin 16) c 1 ⟨col.val / 64 * 2 + 1, by omega⟩ ⟨col.val % 64, Nat.mod_lt _ (by decide)⟩) (sk (ix1 ⟨1 * 4 + (col.val / 64 * 2 + 1), by omega⟩)) key := by
  have hc := col.isLt
  unfold w3
  refine (AttPure.weights3 _ _ key col).trans ?_
  refine soft_congr (fun key => ?_) ?_ key
  · refine (AttPure.scores3 _ _ _ _ _ _ _ key col (slab k (b : Fin 16) c) (cols q (b : Fin 16) c 1) (keys H b) (queries1 H b)).trans ?_
    rw [AttPure.inside_at i c hi]
    unfold scores score
    by_cases hk : 128 ≤ c.val * 64 + key.val
    · rw [if_pos hk, decide_eq_true hk]
      refine congrArg₂ (fun s t => s * _ + t) (Finset.sum_congr rfl fun d _ => congrArg₂ (· * ·) ?_ ?_) ?_
      · refine congrArg k (ix3_congr rfl rfl (Fin.ext ?_))
        have := d.isLt
        show 64 + d.val = 1 * 64 + d.val
        omega
      · refine congrArg q (ix3_congr rfl rfl (Fin.ext ?_))
        have := d.isLt
        show (2 * 1 + col.val / 64) * 128 + (64 + d.val) = 1 * 256 + (col.val / 64 * 2 + 1) * 64 + d.val
        omega
      · refine (slabB_at x11 3 _ key col).trans ((H.bias 3 key col).trans ?_)
        refine congrArg (fun n => biasRow rb n _ key) (Fin.ext ?_)
        show 3 / 2 * 4 + col.val / 64 * 2 + 3 % 2 = 1 * 4 + (col.val / 64 * 2 + 1)
        omega
    · rw [if_neg hk, decide_eq_false hk]
      exact ofBits_least
  · refine (slabZ_at x12 3 _ col).trans ((H.sink 3 col).trans ?_)
    refine congrArg (fun n => sk (ix1 n)) (Fin.ext ?_)
    show 3 / 2 * 4 + col.val / 64 * 2 + 3 % 2 = 1 * 4 + (col.val / 64 * 2 + 1)
    omega
/-- Tile 0 at an index. -/
theorem tile0_at (r : Fin 64) (l : Fin 128) : tile0 (F := Ideal) i x1 x2 x5 x6 x7 x8 x9 x10 x11 x12 b (ix3 (0 : Fin 1) r l)
    = attended q k v rb sk (b : Fin 16) c 0 ⟨0 * 2 + l.val / 64, by omega⟩ r ⟨l.val % 64, Nat.mod_lt _ (by decide)⟩ := by
  have hr := r.isLt
  have hl' := l.isLt
  unfold tile0 vv vr attended
  by_cases hl : l.val < 64
  · refine (AttPure.mix0_low _ _ _ _ _ r l hl).trans (Finset.sum_congr rfl fun key _ => ?_)
    rw [values H b, weights0 H i hi b]
    refine congrArg₂ (· * ·) (congrArg v (ix3_congr rfl rfl (Fin.ext ?_))) (weight_congr (Fin.ext ?_) (Fin.ext ?_) (Fin.ext ?_) key)
    · show l.val = 0 * 64 + l.val % 64
      omega
    · show (r.val) / 64 * 2 + 0 = 0 * 2 + l.val / 64
      omega
    · show (r.val) % 64 = r.val
      omega
    · show 0 * 4 + ((r.val) / 64 * 2 + 0) = 0 * 4 + (0 * 2 + l.val / 64)
      omega
  · refine (AttPure.mix0_high _ _ _ _ _ r l hl).trans (Finset.sum_congr rfl fun key _ => ?_)
    rw [values H b, weights1 H i hi b]
    refine congrArg₂ (· * ·) (congrArg v (ix3_congr rfl rfl (Fin.ext ?_))) (weight_congr (Fin.ext ?_) (Fin.ext ?_) (Fin.ext ?_) key)
    · show l.val - 64 = 0 * 64 + l.val % 64
      omega
    · show (r.val) / 64 * 2 + 1 = 0 * 2 + l.val / 64
      omega
    · show (r.val) % 64 = r.val
      omega
    · show 0 * 4 + ((r.val) / 64 * 2 + 1) = 0 * 4 + (0 * 2 + l.val / 64)
      omega
/-- Tile 1 at an index. -/
theorem tile1_at (r : Fin 64) (l : Fin 128) : tile1 (F := Ideal) i x1 x2 x5 x6 x7 x8 x9 x10 x11 x12 b (ix3 (0 : Fin 1) r l)
    = attended q k v rb sk (b : Fin 16) c 0 ⟨1 * 2 + l.val / 64, by omega⟩ r ⟨l.val % 64, Nat.mod_lt _ (by decide)⟩ := by
  have hr := r.isLt
  have hl' := l.isLt
  unfold tile1 vv vr attended
  by_cases hl : l.val < 64
  · refine (AttPure.mix1_low _ _ _ _ _ r l hl).trans (Finset.sum_congr rfl fun key _ => ?_)
    rw [values H b, weights0 H i hi b]
    refine congrArg₂ (· * ·) (congrArg v (ix3_congr rfl rfl (Fin.ext ?_))) (weight_congr (Fin.ext ?_) (Fin.ext ?_) (Fin.ext ?_) key)
    · show l.val = 0 * 64 + l.val % 64
      omega
    · show (64 + r.val) / 64 * 2 + 0 = 1 * 2 + l.val / 64
      omega
    · show (64 + r.val) % 64 = r.val
      omega
    · show 0 * 4 + ((64 + r.val) / 64 * 2 + 0) = 0 * 4 + (1 * 2 + l.val / 64)
      omega
  · refine (AttPure.mix1_high _ _ _ _ _ r l hl).trans (Finset.sum_congr rfl fun key _ => ?_)
    rw [values H b, weights1 H i hi b]
    refine congrArg₂ (· * ·) (congrArg v (ix3_congr rfl rfl (Fin.ext ?_))) (weight_congr (Fin.ext ?_) (Fin.ext ?_) (Fin.ext ?_) key)
    · show l.val - 64 = 0 * 64 + l.val % 64
      omega
    · show (64 + r.val) / 64 * 2 + 1 = 1 * 2 + l.val / 64
      omega
    · show (64 + r.val) % 64 = r.val
      omega
    · show 0 * 4 + ((64 + r.val) / 64 * 2 + 1) = 0 * 4 + (1 * 2 + l.val / 64)
      omega
/-- Tile 2 at an index. -/
theorem tile2_at (r : Fin 64) (l : Fin 128) : tile2 (F := Ideal) i x3 x4 x5 x6 x7 x8 x9 x10 x11 x12 b (ix3 (0 : Fin 1) r l)
    = attended q k v rb sk (b : Fin 16) c 1 ⟨0 * 2 + l.val / 64, by omega⟩ r ⟨l.val % 64, Nat.mod_lt _ (by decide)⟩ := by
  have hr := r.isLt
  have hl' := l.isLt
  unfold tile2 vv vr attended
  by_cases hl : l.val < 64
  · refine (AttPure.mix2_low _ _ _ _ _ r l hl).trans (Finset.sum_congr rfl fun key _ => ?_)
    rw [values H b, weights2 H i hi b]
    refine congrArg₂ (· * ·) (congrArg v (ix3_congr rfl rfl (Fin.ext ?_))) (weight_congr (Fin.ext ?_) (Fin.ext ?_) (Fin.ext ?_) key)
    · show 64 + l.val = 1 * 64 + l.val % 64
      omega
    · show (r.val) / 64 * 2 + 0 = 0 * 2 + l.val / 64
      omega
    · show (r.val) % 64 = r.val
      omega
    · show 1 * 4 + ((r.val) / 64 * 2 + 0) = 1 * 4 + (0 * 2 + l.val / 64)
      omega
  · refine (AttPure.mix2_high _ _ _ _ _ r l hl).trans (Finset.sum_congr rfl fun key _ => ?_)
    rw [values H b, weights3 H i hi b]
    refine congrArg₂ (· * ·) (congrArg v (ix3_congr rfl rfl (Fin.ext ?_))) (weight_congr (Fin.ext ?_) (Fin.ext ?_) (Fin.ext ?_) key)
    · show l.val = 1 * 64 + l.val % 64
      omega
    · show (r.val) / 64 * 2 + 1 = 0 * 2 + l.val / 64
      omega
    · show (r.val) % 64 = r.val
      omega
    · show 1 * 4 + ((r.val) / 64 * 2 + 1) = 1 * 4 + (0 * 2 + l.val / 64)
      omega
/-- Tile 3 at an index. -/
theorem tile3_at (r : Fin 64) (l : Fin 128) : tile3 (F := Ideal) i x3 x4 x5 x6 x7 x8 x9 x10 x11 x12 b (ix3 (0 : Fin 1) r l)
    = attended q k v rb sk (b : Fin 16) c 1 ⟨1 * 2 + l.val / 64, by omega⟩ r ⟨l.val % 64, Nat.mod_lt _ (by decide)⟩ := by
  have hr := r.isLt
  have hl' := l.isLt
  unfold tile3 vv vr attended
  by_cases hl : l.val < 64
  · refine (AttPure.mix3_low _ _ _ _ _ r l hl).trans (Finset.sum_congr rfl fun key _ => ?_)
    rw [values H b, weights2 H i hi b]
    refine congrArg₂ (· * ·) (congrArg v (ix3_congr rfl rfl (Fin.ext ?_))) (weight_congr (Fin.ext ?_) (Fin.ext ?_) (Fin.ext ?_) key)
    · show 64 + l.val = 1 * 64 + l.val % 64
      omega
    · show (64 + r.val) / 64 * 2 + 0 = 1 * 2 + l.val / 64
      omega
    · show (64 + r.val) % 64 = r.val
      omega
    · show 1 * 4 + ((64 + r.val) / 64 * 2 + 0) = 1 * 4 + (1 * 2 + l.val / 64)
      omega
  · refine (AttPure.mix3_high _ _ _ _ _ r l hl).trans (Finset.sum_congr rfl fun key _ => ?_)
    rw [values H b, weights3 H i hi b]
    refine congrArg₂ (· * ·) (congrArg v (ix3_congr rfl rfl (Fin.ext ?_))) (weight_congr (Fin.ext ?_) (Fin.ext ?_) (Fin.ext ?_) key)
    · show l.val = 1 * 64 + l.val % 64
      omega
    · show (64 + r.val) / 64 * 2 + 1 = 1 * 2 + l.val / 64
      omega
    · show (64 + r.val) % 64 = r.val
      omega
    · show 1 * 4 + ((64 + r.val) / 64 * 2 + 1) = 1 * 4 + (1 * 2 + l.val / 64)
      omega

/-- The collected tiles at an index. -/
theorem collected_at (T : Fin 4) (n : Fin 1024) (l : Fin 128) : collected (F := Ideal) i x1 x2 x3 x4 x5 x6 x7 x8 x9 x10 x11 x12 (ix3 T n l)
    = attended q k v rb sk ⟨n.val % 16, by omega⟩ c ⟨T.val / 2, by omega⟩ ⟨T.val % 2 * 2 + l.val / 64, by omega⟩ ⟨n.val / 16, by omega⟩ ⟨l.val % 64, Nat.mod_lt _ (by decide)⟩ := by
  match T with
  | ⟨0, _⟩ =>
    have e : collected (F := Ideal) i x1 x2 x3 x4 x5 x6 x7 x8 x9 x10 x11 x12 (ix3 (0 : Fin 4) n l) = tile0 (F := Ideal) i x1 x2 x5 x6 x7 x8 x9 x10 x11 x12 ⟨n.val % 16, Nat.mod_lt _ (by decide)⟩ (ix3 (0 : Fin 1) (⟨n.val / 16, by omega⟩ : Fin 64) l) := by
      unfold collected
      rfl
    refine e.trans ((tile0_at H i hi ⟨n.val % 16, Nat.mod_lt _ (by decide)⟩ ⟨n.val / 16, by omega⟩ l).trans ?_)
    refine place_congr (Fin.ext ?_) (Fin.ext ?_)
    · show 0 = 0 / 2
      omega
    · show 0 * 2 + l.val / 64 = 0 % 2 * 2 + l.val / 64
      omega
  | ⟨1, _⟩ =>
    have e : collected (F := Ideal) i x1 x2 x3 x4 x5 x6 x7 x8 x9 x10 x11 x12 (ix3 (1 : Fin 4) n l) = tile1 (F := Ideal) i x1 x2 x5 x6 x7 x8 x9 x10 x11 x12 ⟨n.val % 16, Nat.mod_lt _ (by decide)⟩ (ix3 (0 : Fin 1) (⟨n.val / 16, by omega⟩ : Fin 64) l) := by
      unfold collected
      rfl
    refine e.trans ((tile1_at H i hi ⟨n.val % 16, Nat.mod_lt _ (by decide)⟩ ⟨n.val / 16, by omega⟩ l).trans ?_)
    refine place_congr (Fin.ext ?_) (Fin.ext ?_)
    · show 0 = 1 / 2
      omega
    · show 1 * 2 + l.val / 64 = 1 % 2 * 2 + l.val / 64
      omega
  | ⟨2, _⟩ =>
    have e : collected (F := Ideal) i x1 x2 x3 x4 x5 x6 x7 x8 x9 x10 x11 x12 (ix3 (2 : Fin 4) n l) = tile2 (F := Ideal) i x3 x4 x5 x6 x7 x8 x9 x10 x11 x12 ⟨n.val % 16, Nat.mod_lt _ (by decide)⟩ (ix3 (0 : Fin 1) (⟨n.val / 16, by omega⟩ : Fin 64) l) := by
      unfold collected
      rfl
    refine e.trans ((tile2_at H i hi ⟨n.val % 16, Nat.mod_lt _ (by decide)⟩ ⟨n.val / 16, by omega⟩ l).trans ?_)
    refine place_congr (Fin.ext ?_) (Fin.ext ?_)
    · show 1 = 2 / 2
      omega
    · show 0 * 2 + l.val / 64 = 2 % 2 * 2 + l.val / 64
      omega
  | ⟨3, _⟩ =>
    have e : collected (F := Ideal) i x1 x2 x3 x4 x5 x6 x7 x8 x9 x10 x11 x12 (ix3 (3 : Fin 4) n l) = tile3 (F := Ideal) i x3 x4 x5 x6 x7 x8 x9 x10 x11 x12 ⟨n.val % 16, Nat.mod_lt _ (by decide)⟩ (ix3 (0 : Fin 1) (⟨n.val / 16, by omega⟩ : Fin 64) l) := by
      unfold collected
      rfl
    refine e.trans ((tile3_at H i hi ⟨n.val % 16, Nat.mod_lt _ (by decide)⟩ ⟨n.val / 16, by omega⟩ l).trans ?_)
    refine place_congr (Fin.ext ?_) (Fin.ext ?_)
    · show 1 = 3 / 2
      omega
    · show 1 * 2 + l.val / 64 = 3 % 2 * 2 + l.val / 64
      omega

/-- The output block at an index. -/
theorem block_at (n : Fin 1024) (l : Fin 512) : outBlk (F := Ideal) i x1 x2 x3 x4 x5 x6 x7 x8 x9 x10 x11 x12 (ix2 n l)
    = attended q k v rb sk ⟨n.val % 16, by omega⟩ c ⟨l.val / 256, by omega⟩ ⟨l.val / 64 % 4, Nat.mod_lt _ (by decide)⟩ ⟨n.val / 16, by omega⟩ ⟨l.val % 64, Nat.mod_lt _ (by decide)⟩ := by
  refine (spread_at _ n l).trans ((collected_at H i hi _ n _).trans ?_)
  refine lane_congr (Fin.ext ?_) (Fin.ext ?_) (Fin.ext ?_)
  · show l.val / 128 / 2 = l.val / 256
    omega
  · show l.val / 128 % 2 * 2 + l.val % 128 / 64 = l.val / 64 % 4
    omega
  · show l.val % 128 % 64 = l.val % 64
    omega
end

end Cert.AttPoint
-- ==== Proof.AttRef.lean ====
module

public import proofs.«01_k».proof.Proof.Gen.ReferenceIdeal.Run
public import Idealize.ShloMosaic.Lib.Pointwise
public import proofs.«01_k».proof.Proof.AttSpec
public import Idealize.ShloMosaic.Lib.WordCmp
public import Idealize.ShloMosaic.Lib.ValueIdxCore

@[expose] public section

set_option maxRecDepth 16384
set_option maxHeartbeats 1000000

noncomputable section

namespace Cert.AttRef

open Cert.ReferenceIdeal Cert.ReferenceIdeal.Gen Cert.ReferenceIdeal.Value Idealize.ShloMosaic Idealize.ShloMosaic.TcCoe Idealize.SL.Sem

/-- The position of each key of each chunk's window. -/
def kpos : IVec S64x192 32 :=
  addi (broadcastInDim S64x192 ![0, 1] bcast_S64x1_S64x192_0_1 (subi (muli (broadcastInDim S64x1 ![0] bcast_S64_S64x1_0 (iotaInDim S64 32 0)) (broadcastInDim S64x1 ![] bcast_S_S64x1 (constantI S_ 32 64#32))) (broadcastInDim S64x1 ![] bcast_S_S64x1 (constantI S_ 32 128#32)))) (broadcastInDim S64x192 ![0, 1] bcast_S1x192_S64x192_0_1 (broadcastInDim S1x192 ![1] bcast_S192_S1x192_1 (iotaInDim S192 32 0)))
/-- The offset from each query to each key of its window. -/
def rel : IVec S64x64x192 32 :=
  subi (broadcastInDim S64x64x192 ![0, 1, 2] bcast_S64x1x192_S64x64x192_0_1_2 (broadcastInDim S64x1x192 ![0, 2] bcast_S64x192_S64x1x192_0_2 kpos)) (broadcastInDim S64x64x192 ![0, 1, 2] bcast_S64x64x1_S64x64x192_0_1_2 (broadcastInDim S64x64x1 ![0, 1] bcast_S64x64_S64x64x1_0_1 (addi (broadcastInDim S64x64 ![0, 1] bcast_S64x1_S64x64_0_1 (muli (broadcastInDim S64x1 ![0] bcast_S64_S64x1_0 (iotaInDim S64 32 0)) (broadcastInDim S64x1 ![] bcast_S_S64x1 (constantI S_ 32 64#32)))) (broadcastInDim S64x64 ![0, 1] bcast_S1x64_S64x64_0_1 (broadcastInDim S1x64 ![1] bcast_S64_S1x64_1 (iotaInDim S64 32 0))))))
/-- Whether each key of a window lies at a position of the sequence. -/
def valid : IVec S64x64x192 1 :=
  broadcastInDim S64x64x192 ![0, 1, 2] bcast_S64x1x192_S64x64x192_0_1_2 (broadcastInDim S64x1x192 ![0, 2] bcast_S64x192_S64x1x192_0_2 (cmpi .sge kpos (broadcastInDim S64x192 ![] bcast_S_S64x192 (constantI S_ 32 0#32))))
/-- The bias row each offset reads. -/
def bucket (r : IVec S64x64x192 32) : IVec S64x64x192 32 :=
  addi (id (select (cmpi .sgt r (broadcastInDim S64x64x192 ![] bcast_S_S64x64x192 (constantI S_ 32 0#32))) (broadcastInDim S64x64x192 ![] bcast_S_S64x64x192 (constantI S_ 32 16#32)) (broadcastInDim S64x64x192 ![] bcast_S_S64x64x192 (constantI S_ 32 0#32)))) (select (cmpi .slt (absi r) (broadcastInDim S64x64x192 ![] bcast_S_S64x64x192 (constantI S_ 32 8#32))) (absi r) (minsi (addi (broadcastInDim S64x64x192 ![] bcast_S_S64x64x192 (constantI S_ 32 8#32)) (fptosi 32 (mulf (Host.divf (F := Ideal) (Host.log (Host.divf (sitofp .f32 (maxsi (absi r) (broadcastInDim S64x64x192 ![] bcast_S_S64x64x192 (constantI S_ 32 1#32)))) (broadcastInDim S64x64x192 ![] bcast_S_S64x64x192 (constant S_ .f32 0x41000000#32)))) (broadcastInDim S64x64x192 ![] bcast_S_S64x64x192 (constant S_ .f32 0x40317218#32))) (broadcastInDim S64x64x192 ![] bcast_S_S64x64x192 (constant S_ .f32 0x41000000#32))))) (broadcastInDim S64x64x192 ![] bcast_S_S64x64x192 (constantI S_ 32 15#32))))
/-- The same with negative rows wrapped. -/
def wrapped (b : IVec S64x64x192 32) : IVec S64x64x192x1 32 :=
  broadcastInDim S64x64x192x1 ![0, 1, 2] bcast_S64x64x192_S64x64x192x1_0_1_2 (select (cmpi .slt b (broadcastInDim S64x64x192 ![] bcast_S_S64x64x192 (constantI S_ 32 0#32))) (addi b (broadcastInDim S64x64x192 ![] bcast_S_S64x64x192 (constantI S_ 32 32#32))) b)
/-- The bias of each head at each offset. -/
def bias (rb : FVec Ideal S32x8 .f32) : FVec Ideal S64x64x192x8 .f32 :=
  Host.gather gather_S32x8_S64x64x192x1_S64x64x192x8_3_0_n_n_0_3_18 rb (wrapped (bucket rel))
/-- The windows of the keys or the values. -/
def band (x : FVec Ideal S16x4096x128 .f32) : FVec Ideal S16x64x192x2x64 .f32 :=
  have p : FVec Ideal S16x66x64x2x64 .f32 := shapeCast _ (pad S16x4224x2x64 ![0, 128, 0, 0] ![0, 0, 0, 0] ![0, 0, 0, 0] (shapeCast _ x shapeCasts_S16x4096x128_S16x4096x2x64) (sitofp (F := Ideal) .f32 (constantI S_ 32 0#32)) pads_S16x4096x2x64_S16x4224x2x64_000_12800_000_000 h_S_) shapeCasts_S16x4224x2x64_S16x66x64x2x64
  concatenate S16x64x192x2x64 2 [⟨S16x64x64x2x64, (extractStridedSlice S16x64x64x2x64 ![0, 0, 0, 0, 0] p slices_S16x66x64x2x64_S16x64x64x2x64_0_0_0_0_0 : FVec Ideal S16x64x64x2x64 .f32)⟩, ⟨S16x64x64x2x64, (extractStridedSlice S16x64x64x2x64 ![0, 1, 0, 0, 0] p slices_S16x66x64x2x64_S16x64x64x2x64_0_1_0_0_0 : FVec Ideal S16x64x64x2x64 .f32)⟩, ⟨S16x64x64x2x64, (extractStridedSlice S16x64x64x2x64 ![0, 2, 0, 0, 0] p slices_S16x66x64x2x64_S16x64x64x2x64_0_2_0_0_0 : FVec Ideal S16x64x64x2x64 .f32)⟩] concatenates_S16x64x64x2x64_S16x64x64x2x64_S16x64x64x2x64_S16x64x192x2x64_d2
/-- The scaled products of queries and keys. -/
def dots (q : FVec Ideal S16x4096x512 .f32) (k : FVec Ideal S16x4096x128 .f32) : FVec Ideal S16x64x2x4x64x192 .f32 :=
  mulf (transpose S16x64x2x4x64x192 [0, 1, 2, 5, 4, 3] (Host.dotGeneral dot_S16x64x192x2x64_S16x64x64x2x4x64_S16x64x2x192x64x4_4_5_2_24_013_013 none (band k) (shapeCast _ (shapeCast _ (shapeCast _ q shapeCasts_S16x4096x512_S16x4096x8x64) shapeCasts_S16x4096x8x64_S16x64x64x8x64) shapeCasts_S16x64x64x8x64_S16x64x64x2x4x64)) transposes_S16x64x2x192x64x4_S16x64x2x4x64x192_0_1_2_5_4_3) (broadcastInDim S16x64x2x4x64x192 ![] bcast_S_S16x64x2x4x64x192 (constant S_ .f32 0x3E000000#32))
/-- The scores: products plus bias where the key lies in the sequence, negative infinity elsewhere. -/
def score (q : FVec Ideal S16x4096x512 .f32) (k : FVec Ideal S16x4096x128 .f32) (rb : FVec Ideal S32x8 .f32) : FVec Ideal S16x64x2x4x64x192 .f32 :=
  select (broadcastInDim S16x64x2x4x64x192 ![1, 2, 3, 4, 5] bcast_S64x1x1x64x192_S16x64x2x4x64x192_1_2_3_4_5 (broadcastInDim S64x1x1x64x192 ![0, 3, 4] bcast_S64x64x192_S64x1x1x64x192_0_3_4 valid))
    (addf (dots q k) (broadcastInDim S16x64x2x4x64x192 ![0, 1, 2, 3, 4, 5] bcast_S1x64x2x4x64x192_S16x64x2x4x64x192_0_1_2_3_4_5 (broadcastInDim S1x64x2x4x64x192 ![1, 2, 3, 4, 5] bcast_S64x2x4x64x192_S1x64x2x4x64x192_1_2_3_4_5 (shapeCast S64x2x4x64x192 (transpose S64x8x64x192 [0, 3, 1, 2] (bias rb) transposes_S64x64x192x8_S64x8x64x192_0_3_1_2) shapeCasts_S64x8x64x192_S64x2x4x64x192))))
    (broadcastInDim S16x64x2x4x64x192 ![] bcast_S_S16x64x2x4x64x192 (id (constant S_ .f32 0xFF800000#32)))
/-- The sink logits, laid over the score axes. -/
def sinks (sk : FVec Ideal S8 .f32) : FVec Ideal S16x64x2x4x64x1 .f32 :=
  broadcastInDim S16x64x2x4x64x1 ![0, 1, 2, 3, 4, 5] bcast_S1x1x2x4x1x1_S16x64x2x4x64x1_0_1_2_3_4_5 (shapeCast S1x1x2x4x1x1 sk shapeCasts_S8_S1x1x2x4x1x1)
/-- The largest score of each query, the sink among them. -/
def top (s : FVec Ideal S16x64x2x4x64x192 .f32) (z : FVec Ideal S16x64x2x4x64x1 .f32) : FVec Ideal S16x64x2x4x64x1 .f32 :=
  maximumf (broadcastInDim S16x64x2x4x64x1 ![0, 1, 2, 3, 4] bcast_S16x64x2x4x64_S16x64x2x4x64x1_0_1_2_3_4 (Host.reduce FloatOps.maximumf s (constant S_ .f32 0xFF800000#32) reducesTo_S16x64x2x4x64x192_S16x64x2x4x64_d5 h_S_)) z
/-- The exponentials of the scores less the largest. -/
def expo (s : FVec Ideal S16x64x2x4x64x192 .f32) (t : FVec Ideal S16x64x2x4x64x1 .f32) : FVec Ideal S16x64x2x4x64x192 .f32 :=
  Host.exp (subf s (broadcastInDim S16x64x2x4x64x192 ![0, 1, 2, 3, 4, 5] bcast_S16x64x2x4x64x1_S16x64x2x4x64x192_0_1_2_3_4_5 t))
/-- The softmax weights. -/
def prob (e : FVec Ideal S16x64x2x4x64x192 .f32) (t z : FVec Ideal S16x64x2x4x64x1 .f32) : FVec Ideal S16x64x2x4x64x192 .f32 :=
  Host.divf e (broadcastInDim S16x64x2x4x64x192 ![0, 1, 2, 3, 4, 5] bcast_S16x64x2x4x64x1_S16x64x2x4x64x192_0_1_2_3_4_5 (addf (broadcastInDim S16x64x2x4x64x1 ![0, 1, 2, 3, 4] bcast_S16x64x2x4x64_S16x64x2x4x64x1_0_1_2_3_4 (Host.reduceAdd e (constant S_ .f32 0x00000000#32) reducesTo_S16x64x2x4x64x192_S16x64x2x4x64_d5 h_S_)) (Host.exp (subf z t))))
/-- The weighted sums of the values, laid out by time. -/
def mixed (p : FVec Ideal S16x64x2x4x64x192 .f32) (v : FVec Ideal S16x4096x128 .f32) : FVec Ideal S65536x512 .bf16 :=
  truncf .bf16 (shapeCast S65536x512 (transpose S4096x16x512 [1, 0, 2] (shapeCast S16x4096x512 (shapeCast S16x64x64x512 (transpose S16x64x64x2x4x64 [0, 1, 5, 2, 4, 3] (Host.dotGeneral dot_S16x64x192x2x64_S16x64x2x4x64x192_S16x64x2x64x4x64_2_5_4_34_013_012 none (band v) p) transposes_S16x64x2x64x4x64_S16x64x64x2x4x64_0_1_5_2_4_3) shapeCasts_S16x64x64x2x4x64_S16x64x64x512) shapeCasts_S16x64x64x512_S16x4096x512) transposes_S16x4096x512_S4096x16x512_1_0_2) shapeCasts_S4096x16x512_S65536x512) bitsLt_bf16_f32
/-- The reference's result from its five arguments. -/
def whole (q : FVec Ideal S16x4096x512 .f32) (k v : FVec Ideal S16x4096x128 .f32) (rb : FVec Ideal S32x8 .f32) (sk : FVec Ideal S8 .f32) : FVec Ideal S65536x512 .bf16 :=
  have s := score q k rb
  have z := sinks sk
  have t := top s z
  mixed (prob (expo s t) t z) v

/-- The reference's result is the composition of the stages above. -/
theorem result_eq (m : (ℓ : Loc nD τ sig) → Buf (Elt Ideal) ℓ) (c : Dev nD) :
    res_main_v106 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v106; rfl

open Cert.AttSpec (chunkRow queryRow biasRow scores attended peak total soft)

/-- The offsets are those within the window. -/
theorem rel_at (c q : Fin 64) (key : Fin 192) : rel (ix3 c q key) = AttSpec.offset q key := by
  pointwise [rel, kpos]
  exact AttSpec.offset_abs c q key
/-- A key is inside the sequence from position 128 of the padded one on. -/
theorem valid_at (c q : Fin 64) (key : Fin 192) : valid (ix3 c q key) = BitVec.ofBool (decide (128 ≤ c.val * 64 + key.val)) := by
  pointwise [valid, kpos]
  exact AttSpec.inside_abs c key
/-- The bias row at an index. -/
theorem wrapped_at (c q : Fin 64) (key : Fin 192) : wrapped (bucket rel) (ix4 c q key 0) = AttSpec.row (AttSpec.offset q key) := by
  rw [← rel_at c q key]
  pointwise [wrapped, bucket, id]
  rfl
/-- The gather of whole rows of a table, read at an index. -/
theorem gather_at (x : FVec Ideal S32x8 .f32) (i : IVec S64x64x192x1 32) (c q : Fin 64) (key : Fin 192) (h : Fin 8) :
    Host.gather gather_S32x8_S64x64x192x1_S64x64x192x8_3_0_n_n_0_3_18 x i (ix4 c q key h)
      = x (ix2 ⟨min (i (ix4 c q key 0)).toInt.toNat 31, by omega⟩ h) := by
  unfold Host.gather
  congr 1
  funext a
  refine Fin.ext ?_
  match a with
  | ⟨0, _⟩ =>
    show GatherDims.start gather_S32x8_S64x64x192x1_S64x64x192x8_3_0_n_n_0_3_18 _ i 0 + GatherDims.batchCoord gather_S32x8_S64x64x192x1_S64x64x192x8_3_0_n_n_0_3_18 _ 0 + GatherDims.offCoord gather_S32x8_S64x64x192x1_S64x64x192x8_3_0_n_n_0_3_18 _ 0 = min (i (ix4 c q key 0)).toInt.toNat 31
    rw [GatherDims.batchCoord_eq_zero _ _ _ (by decide), GatherDims.offCoord_eq_zero _ _ _ (by decide)]
    simp only [Nat.add_zero]
    unfold GatherDims.start
    rw [dif_pos (by decide)]
    have e : GatherDims.siIdx gather_S32x8_S64x64x192x1_S64x64x192x8_3_0_n_n_0_3_18 (ix4 c q key h) ⟨List.idxOf (0 : Fin 2) (GatherDims.startIndexMap gather_S32x8_S64x64x192x1_S64x64x192x8_3_0_n_n_0_3_18), by decide⟩ = ix4 c q key 0 := by
      funext b; refine Fin.ext ?_
      match b with
      | ⟨0, _⟩ => rfl
      | ⟨1, _⟩ => rfl
      | ⟨2, _⟩ => rfl
      | ⟨3, _⟩ => rfl
    exact congrArg (fun j => min (i j).toInt.toNat 31) e
  | ⟨1, _⟩ =>
    show GatherDims.start gather_S32x8_S64x64x192x1_S64x64x192x8_3_0_n_n_0_3_18 _ i 1 + GatherDims.batchCoord gather_S32x8_S64x64x192x1_S64x64x192x8_3_0_n_n_0_3_18 _ 1 + GatherDims.offCoord gather_S32x8_S64x64x192x1_S64x64x192x8_3_0_n_n_0_3_18 _ 1 = h.val
    rw [GatherDims.batchCoord_eq_zero _ _ _ (by decide)]
    unfold GatherDims.start
    rw [dif_neg (by decide)]
    simp only [Nat.zero_add, Nat.add_zero]
    unfold GatherDims.offCoord
    rw [dif_pos (by decide)]
    rfl
/-- The bias at an index. -/
theorem bias_at (rb : FVec Ideal S32x8 .f32) (c q : Fin 64) (key : Fin 192) (h : Fin 8) : bias rb (ix4 c q key h) = biasRow rb h q key := by
  refine (gather_at rb _ c q key h).trans ?_
  unfold biasRow
  refine congrArg (fun n => rb (ix2 n h)) (Fin.ext ?_)
  show min _ 31 = min _ 31
  rw [wrapped_at]
/-- The windows at an index: the chunk's row, or zero before the sequence. -/
theorem band_at (x : FVec Ideal S16x4096x128 .f32) (b : Fin 16) (c : Fin 64) (key : Fin 192) (h : Fin 2) (d : Fin 64) :
    band x (ix5 b c key h d) = if 128 ≤ c.val * 64 + key.val then chunkRow x b h (c.val + key.val / 64 - 2) ⟨key.val % 64, Nat.mod_lt _ (by decide)⟩ d else 0 := by
  have hc := c.isLt
  have hk := key.isLt
  pointwise [band]
  unfold chunkRow
  have z : FloatOps.sitofp (F := Ideal) FTy.f32 (0#32) = (0 : EReal) := AttSpec.zero_word
  by_cases hv : 128 ≤ c.val * 64 + key.val
  · rw [if_pos hv]
    split_ifs <;> first | omega | (refine congrArg x ?_; refine congrArg₂ (ix3 b) (Fin.ext ?_) rfl; show _ = _ % 4096; dsimp only; omega)
  · refine Eq.trans ?_ (if_neg hv).symm
    split_ifs <;> first | omega | exact z
/-- The scaled products at an index. -/
theorem dots_at (q : FVec Ideal S16x4096x512 .f32) (k : FVec Ideal S16x4096x128 .f32) (b : Fin 16) (c : Fin 64) (h : Fin 2) (g : Fin 4) (r : Fin 64) (key : Fin 192) :
    dots q k (ix6 b c h g r key) = (∑ d : Fin 64, band k (ix5 b c key h d) * queryRow q b c h g r d) * Ideal.ofBits FTy.f32 0x3E000000#32 := by
  pointwise [dots]
  rfl
/-- The scores at an index. -/
theorem score_at (q : FVec Ideal S16x4096x512 .f32) (k : FVec Ideal S16x4096x128 .f32) (rb : FVec Ideal S32x8 .f32) (b : Fin 16) (c : Fin 64) (h : Fin 2) (g : Fin 4) (r : Fin 64) (key : Fin 192) :
    score q k rb (ix6 b c h g r key) = scores q k rb b c h g r key := by
  pointwise [score, id]
  rw [valid_at, dots_at, bias_at]
  unfold scores AttSpec.score
  by_cases hk : 128 ≤ c.val * 64 + key.val
  · rw [if_pos hk, decide_eq_true hk]
    refine congrArg (· + _) (congrArg (· * _) (Finset.sum_congr rfl fun d _ => ?_))
    rw [band_at, if_pos hk]
  · rw [if_neg hk, decide_eq_false hk]
    exact AttSpec.ofBits_least
/-- The sinks at an index. -/
theorem sinks_at (sk : FVec Ideal S8 .f32) (b : Fin 16) (c : Fin 64) (h : Fin 2) (g : Fin 4) (r : Fin 64) :
    sinks sk (ix6 b c h g r 0) = sk (ix1 ⟨h.val * 4 + g.val, by omega⟩) := by
  pointwise [sinks]

section
variable {n0 n1 n2 n3 n4 n5 : Nat}
/-- The indices of six axes that drop to one of five by losing the last. -/
theorem drop_last (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ k : Fin n5, ix6 a b c d e k = i := by
  constructor
  · intro w
    refine ⟨i 5, ?_⟩
    funext x; refine Fin.ext ?_
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x; refine Fin.ext ?_
    match x with
    | ⟨0, _⟩ => rfl
    | ⟨1, _⟩ => rfl
    | ⟨2, _⟩ => rfl
    | ⟨3, _⟩ => rfl
    | ⟨4, _⟩ => rfl
/-- The largest over the last of six axes. -/
theorem fold_last {u : Shape} (h : (⟨6, ![n0, n1, n2, n3, n4, n5]⟩ : Shape).ReducesTo [5] ⟨5, ![n0, n1, n2, n3, n4]⟩) (hu : 0 < u.numel) (a : Fin n0) (b : Fin n1) (c : Fin n2) (d : Fin n3) (e : Fin n4)
    (v : FVec Ideal ⟨6, ![n0, n1, n2, n3, n4, n5]⟩ .f32) (x : FVec Ideal u .f32) (w : EReal) (hx : x (Shape.Idx.first hu) = w) :
    Host.reduce FloatOps.maximumf v x h hu (ix5 a b c d e) = Finset.univ.fold max w fun k : Fin n5 => (v (ix6 a b c d e k) : EReal) := by
  rw [Host.reduce_eq_fold, hx]
  exact Finset.fold_filter_eq_fold_of_fiber _ _ (fun k : Fin n5 => ix6 a b c d e k) (fun _ _ w => congrFun w 5) (drop_last h a b c d e) _ v
/-- The sum over the last of six axes. -/
theorem sum_last {u : Shape} (h : (⟨6, ![n0, n1, n2, n3, n4, n5]⟩ : Shape).ReducesTo [5] ⟨5, ![n0, n1, n2, n3, n4]⟩) (hu : 0 < u.numel) (a : Fin n0) (b : Fin n1) (c : Fin n2) (d : Fin n3) (e : Fin n4)
    (v : FVec Ideal ⟨6, ![n0, n1, n2, n3, n4, n5]⟩ .f32) (x : FVec Ideal u .f32) (hx : x (Shape.Idx.first hu) = (0 : EReal)) :
    Host.reduceAdd v x h hu (ix5 a b c d e) = ∑ k : Fin n5, (v (ix6 a b c d e k) : EReal) := by
  have w := Finset.sum_filter_eq_sum_of_fiber (M := EReal) _ (fun k : Fin n5 => ix6 a b c d e k) (fun _ _ w => congrFun w 5) (drop_last h a b c d e) v
  refine Eq.trans (b := x (Shape.Idx.first hu) + _) rfl ?_
  refine (congrArg (x (Shape.Idx.first hu) + ·) w).trans ?_
  rw [hx, zero_add]
end

/-- The largest score along the keys. -/
theorem fold_here (s : FVec Ideal S16x64x2x4x64x192 .f32) (b : Fin 16) (c : Fin 64) (h : Fin 2) (g : Fin 4) (r : Fin 64) :
    Host.reduce FloatOps.maximumf s (constant S_ .f32 0xFF800000#32) reducesTo_S16x64x2x4x64x192_S16x64x2x4x64_d5 h_S_ (ix5 b c h g r)
      = Finset.univ.fold max (Ideal.ofBits FTy.f32 0xFF800000#32) fun k : Fin 192 => (s (ix6 b c h g r k) : EReal) := by
  exact fold_last _ _ b c h g r s _ _ (by pointwise)
/-- A value per query, laid over the score axes. -/
theorem spread_at (G : FVec Ideal S16x64x2x4x64 .f32) (z : FVec Ideal S16x64x2x4x64x1 .f32) (b : Fin 16) (c : Fin 64) (h : Fin 2) (g : Fin 4) (r : Fin 64) :
    maximumf (broadcastInDim S16x64x2x4x64x1 ![0, 1, 2, 3, 4] bcast_S16x64x2x4x64_S16x64x2x4x64x1_0_1_2_3_4 G) z (ix6 b c h g r 0) = max (G (ix5 b c h g r)) (z (ix6 b c h g r 0)) := by
  pointwise
/-- The largest score at an index, from the largest along the keys. -/
theorem top_from (s : FVec Ideal S16x64x2x4x64x192 .f32) (z : FVec Ideal S16x64x2x4x64x1 .f32) (b : Fin 16) (c : Fin 64) (h : Fin 2) (g : Fin 4) (r : Fin 64) (w : EReal)
    (e : Host.reduce FloatOps.maximumf s (constant S_ .f32 0xFF800000#32) reducesTo_S16x64x2x4x64x192_S16x64x2x4x64_d5 h_S_ (ix5 b c h g r) = w) :
    top s z (ix6 b c h g r 0) = max w (z (ix6 b c h g r 0)) := by
  unfold top
  rw [spread_at, e]
/-- The largest score at an index. -/
theorem top_at (s : FVec Ideal S16x64x2x4x64x192 .f32) (z : FVec Ideal S16x64x2x4x64x1 .f32) (b : Fin 16) (c : Fin 64) (h : Fin 2) (g : Fin 4) (r : Fin 64) :
    top s z (ix6 b c h g r 0) = peak (fun key => s (ix6 b c h g r key)) (z (ix6 b c h g r 0)) := by
  exact top_from s z b c h g r _ (fold_here s b c h g r)
/-- The exponentials at an index. -/
theorem expo_at (s : FVec Ideal S16x64x2x4x64x192 .f32) (t : FVec Ideal S16x64x2x4x64x1 .f32) (b : Fin 16) (c : Fin 64) (h : Fin 2) (g : Fin 4) (r : Fin 64) (key : Fin 192) :
    expo s t (ix6 b c h g r key) = Ideal.exp (s (ix6 b c h g r key) - t (ix6 b c h g r 0)) := by
  pointwise [expo]
/-- The weights at an index. -/
theorem prob_at (e : FVec Ideal S16x64x2x4x64x192 .f32) (t z : FVec Ideal S16x64x2x4x64x1 .f32) (b : Fin 16) (c : Fin 64) (h : Fin 2) (g : Fin 4) (r : Fin 64) (key : Fin 192) :
    prob e t z (ix6 b c h g r key) = Ideal.div (e (ix6 b c h g r key)) ((∑ x : Fin 192, e (ix6 b c h g r x)) + Ideal.exp (z (ix6 b c h g r 0) - t (ix6 b c h g r 0))) := by
  unfold prob
  generalize hG : Host.reduceAdd e (constant S_ .f32 0x00000000#32) reducesTo_S16x64x2x4x64x192_S16x64x2x4x64_d5 h_S_ = G
  pointwise
  rw [← hG, sum_last _ _ b c h g r e _ (by pointwise)]
/-- The mixed values at an index. -/
theorem mixed_at (p : FVec Ideal S16x64x2x4x64x192 .f32) (v : FVec Ideal S16x4096x128 .f32) (n : Fin 65536) (l : Fin 512) :
    mixed p v (ix2 n l) = ∑ key : Fin 192, band v (ix5 ⟨n.val % 16, by omega⟩ ⟨n.val / 16 / 64, by omega⟩ key ⟨l.val / 256, by omega⟩ ⟨l.val % 64, by omega⟩)
      * p (ix6 ⟨n.val % 16, by omega⟩ ⟨n.val / 16 / 64, by omega⟩ ⟨l.val / 256, by omega⟩ ⟨l.val / 64 % 4, by omega⟩ ⟨n.val / 16 % 64, by omega⟩ key) := by
  pointwise [mixed]
/-- The reference's result at an index is the attention's value. -/
theorem whole_at (q : FVec Ideal S16x4096x512 .f32) (k v : FVec Ideal S16x4096x128 .f32) (rb : FVec Ideal S32x8 .f32) (sk : FVec Ideal S8 .f32) (n : Fin 65536) (l : Fin 512) :
    whole q k v rb sk (ix2 n l) = attended q k v rb sk ⟨n.val % 16, by omega⟩ ⟨n.val / 16 / 64, by omega⟩ ⟨l.val / 256, by omega⟩ ⟨l.val / 64 % 4, by omega⟩ ⟨n.val / 16 % 64, by omega⟩ ⟨l.val % 64, by omega⟩ := by
  unfold whole
  refine (mixed_at _ _ n l).trans ?_
  generalize (⟨n.val % 16, by omega⟩ : Fin 16) = b
  generalize (⟨n.val / 16 / 64, by omega⟩ : Fin 64) = c
  generalize (⟨l.val / 256, by omega⟩ : Fin 2) = h
  generalize (⟨l.val / 64 % 4, by omega⟩ : Fin 4) = g
  generalize (⟨n.val / 16 % 64, by omega⟩ : Fin 64) = r
  generalize (⟨l.val % 64, by omega⟩ : Fin 64) = d
  unfold attended
  refine Eq.trans ?_ (AttSpec.window_sum (fun n t => chunkRow v b h n t d) c.val (scores q k rb b c h g r) _ fun key hk => ?_).symm
  · refine Finset.sum_congr rfl fun key _ => congrArg₂ (· * ·) (band_at v b c key h d) ?_
    have ht : top (score q k rb) (sinks sk) (ix6 b c h g r 0) = peak (scores q k rb b c h g r) (sk (ix1 ⟨h.val * 4 + g.val, by omega⟩)) := by
      rw [top_at, sinks_at]
      exact congrArg (fun f => peak f _) (funext fun key => score_at q k rb b c h g r key)
    rw [prob_at, sinks_at, ht, expo_at, ht, score_at]
    unfold soft total
    refine congrArg (fun w => Ideal.div _ (w + _)) (Finset.sum_congr rfl fun x _ => ?_)
    rw [expo_at, ht, score_at]
  · unfold scores AttSpec.score
    rw [if_neg (by omega)]
end Cert.AttRef
-- ==== Proof.Attention.lean ====
module

public import proofs.«01_k».proof.Defs
public import proofs.«01_k».proof.Proof.AttHost
public import proofs.«01_k».proof.Proof.AttPoint
public import proofs.«01_k».proof.Proof.AttRef

@[expose] public section

set_option maxRecDepth 16384
set_option maxHeartbeats 1000000

noncomputable section

namespace Cert.Attention

open Cert.KernelIdeal Cert.KernelIdeal.Gen Idealize.ShloMosaic Idealize.ShloMosaic.TcCoe Idealize.SL.Sem
open Cert.Att Cert.AttPoint Cert.AttHost
open Idealize.ShloMosaic.Pipeline (Dat)

variable (m : (ℓ : Loc nD τ sig) → Buf (Elt Ideal) ℓ)

/-- The query block of window 0, at an index. -/
theorem q0 (c : Dev nD) (t : Fin cfg0.N) (n : Fin 1024) (l : Fin 128) : iblk m c 0 t (ix2 n l)
    = m ((c : Thread nD τ).loc main_arg0) (ix3 ⟨n.val % 16, by omega⟩ ⟨t.val * 64 + n.val / 16, by have : t.val < 64 := t.isLt; omega⟩ ⟨0 * 128 + l.val, by omega⟩) := by
  have ht : t.val < 64 := t.isLt
  have e : iblk m c 0 t (ix2 n l) = V m c main_v42 (ix2 (⟨t.val * 1024 + n.val, by omega⟩ : Fin 65536) (⟨0 * 128 + l.val, by omega⟩ : Fin 512)) := by
    blk_ext [iblk, idx t]
  refine e.trans ((queries_at m c _ _).trans (congrArg _ (ix3_congr (Fin.ext ?_) (Fin.ext ?_) rfl)))
  · show (t.val * 1024 + n.val) % 16 = n.val % 16
    omega
  · show (t.val * 1024 + n.val) / 16 = t.val * 64 + n.val / 16
    omega
/-- The query block of window 1, at an index. -/
theorem q1 (c : Dev nD) (t : Fin cfg0.N) (n : Fin 1024) (l : Fin 128) : iblk m c 1 t (ix2 n l)
    = m ((c : Thread nD τ).loc main_arg0) (ix3 ⟨n.val % 16, by omega⟩ ⟨t.val * 64 + n.val / 16, by have : t.val < 64 := t.isLt; omega⟩ ⟨1 * 128 + l.val, by omega⟩) := by
  have ht : t.val < 64 := t.isLt
  have e : iblk m c 1 t (ix2 n l) = V m c main_v42 (ix2 (⟨t.val * 1024 + n.val, by omega⟩ : Fin 65536) (⟨1 * 128 + l.val, by omega⟩ : Fin 512)) := by
    blk_ext [iblk, idx t]
  refine e.trans ((queries_at m c _ _).trans (congrArg _ (ix3_congr (Fin.ext ?_) (Fin.ext ?_) rfl)))
  · show (t.val * 1024 + n.val) % 16 = n.val % 16
    omega
  · show (t.val * 1024 + n.val) / 16 = t.val * 64 + n.val / 16
    omega
/-- The query block of window 2, at an index. -/
theorem q2 (c : Dev nD) (t : Fin cfg0.N) (n : Fin 1024) (l : Fin 128) : iblk m c 2 t (ix2 n l)
    = m ((c : Thread nD τ).loc main_arg0) (ix3 ⟨n.val % 16, by omega⟩ ⟨t.val * 64 + n.val / 16, by have : t.val < 64 := t.isLt; omega⟩ ⟨2 * 128 + l.val, by omega⟩) := by
  have ht : t.val < 64 := t.isLt
  have e : iblk m c 2 t (ix2 n l) = V m c main_v42 (ix2 (⟨t.val * 1024 + n.val, by omega⟩ : Fin 65536) (⟨2 * 128 + l.val, by omega⟩ : Fin 512)) := by
    blk_ext [iblk, idx t]
  refine e.trans ((queries_at m c _ _).trans (congrArg _ (ix3_congr (Fin.ext ?_) (Fin.ext ?_) rfl)))
  · show (t.val * 1024 + n.val) % 16 = n.val % 16
    omega
  · show (t.val * 1024 + n.val) / 16 = t.val * 64 + n.val / 16
    omega
/-- The query block of window 3, at an index. -/
theorem q3 (c : Dev nD) (t : Fin cfg0.N) (n : Fin 1024) (l : Fin 128) : iblk m c 3 t (ix2 n l)
    = m ((c : Thread nD τ).loc main_arg0) (ix3 ⟨n.val % 16, by omega⟩ ⟨t.val * 64 + n.val / 16, by have : t.val < 64 := t.isLt; omega⟩ ⟨3 * 128 + l.val, by omega⟩) := by
  have ht : t.val < 64 := t.isLt
  have e : iblk m c 3 t (ix2 n l) = V m c main_v42 (ix2 (⟨t.val * 1024 + n.val, by omega⟩ : Fin 65536) (⟨3 * 128 + l.val, by omega⟩ : Fin 512)) := by
    blk_ext [iblk, idx t]
  refine e.trans ((queries_at m c _ _).trans (congrArg _ (ix3_congr (Fin.ext ?_) (Fin.ext ?_) rfl)))
  · show (t.val * 1024 + n.val) % 16 = n.val % 16
    omega
  · show (t.val * 1024 + n.val) / 16 = t.val * 64 + n.val / 16
    omega
/-- The key block of window 4, at an index. -/
theorem k0 (c : Dev nD) (t : Fin cfg0.N) (n : Fin 1024) (l : Fin 128) : iblk m c 4 t (ix2 n l)
    = m ((c : Thread nD τ).loc main_arg1) (ix3 ⟨n.val % 16, by omega⟩ ⟨((t.val + 0 - 2) * 64 + n.val / 16) % 4096, Nat.mod_lt _ (by decide)⟩ l) := by
  have ht : t.val < 64 := t.isLt
  have e : iblk m c 4 t (ix2 n l) = V m c main_v44 (ix2 (⟨(t.val + 0 - 2) * 1024 + n.val, by omega⟩ : Fin 65536) l) := by
    blk_ext [iblk, idx t]
  refine e.trans ((keys_at m c _ _).trans (congrArg _ (ix3_congr (Fin.ext ?_) (Fin.ext ?_) rfl)))
  · show ((t.val + 0 - 2) * 1024 + n.val) % 16 = n.val % 16
    omega
  · show ((t.val + 0 - 2) * 1024 + n.val) / 16 = ((t.val + 0 - 2) * 64 + n.val / 16) % 4096
    omega
/-- The key block of window 5, at an index. -/
theorem k1 (c : Dev nD) (t : Fin cfg0.N) (n : Fin 1024) (l : Fin 128) : iblk m c 5 t (ix2 n l)
    = m ((c : Thread nD τ).loc main_arg1) (ix3 ⟨n.val % 16, by omega⟩ ⟨((t.val + 1 - 2) * 64 + n.val / 16) % 4096, Nat.mod_lt _ (by decide)⟩ l) := by
  have ht : t.val < 64 := t.isLt
  have e : iblk m c 5 t (ix2 n l) = V m c main_v44 (ix2 (⟨(t.val + 1 - 2) * 1024 + n.val, by omega⟩ : Fin 65536) l) := by
    blk_ext [iblk, idx t]
  refine e.trans ((keys_at m c _ _).trans (congrArg _ (ix3_congr (Fin.ext ?_) (Fin.ext ?_) rfl)))
  · show ((t.val + 1 - 2) * 1024 + n.val) % 16 = n.val % 16
    omega
  · show ((t.val + 1 - 2) * 1024 + n.val) / 16 = ((t.val + 1 - 2) * 64 + n.val / 16) % 4096
    omega
/-- The key block of window 6, at an index. -/
theorem k2 (c : Dev nD) (t : Fin cfg0.N) (n : Fin 1024) (l : Fin 128) : iblk m c 6 t (ix2 n l)
    = m ((c : Thread nD τ).loc main_arg1) (ix3 ⟨n.val % 16, by omega⟩ ⟨((t.val + 2 - 2) * 64 + n.val / 16) % 4096, Nat.mod_lt _ (by decide)⟩ l) := by
  have ht : t.val < 64 := t.isLt
  have e : iblk m c 6 t (ix2 n l) = V m c main_v44 (ix2 (⟨(t.val + 2 - 2) * 1024 + n.val, by omega⟩ : Fin 65536) l) := by
    blk_ext [iblk, idx t]
  refine e.trans ((keys_at m c _ _).trans (congrArg _ (ix3_congr (Fin.ext ?_) (Fin.ext ?_) rfl)))
  · show ((t.val + 2 - 2) * 1024 + n.val) % 16 = n.val % 16
    omega
  · show ((t.val + 2 - 2) * 1024 + n.val) / 16 = ((t.val + 2 - 2) * 64 + n.val / 16) % 4096
    omega
/-- The value block of window 7, at an index. -/
theorem v0 (c : Dev nD) (t : Fin cfg0.N) (n : Fin 1024) (l : Fin 128) : iblk m c 7 t (ix2 n l)
    = m ((c : Thread nD τ).loc main_arg2) (ix3 ⟨n.val % 16, by omega⟩ ⟨((t.val + 0 - 2) * 64 + n.val / 16) % 4096, Nat.mod_lt _ (by decide)⟩ l) := by
  have ht : t.val < 64 := t.isLt
  have e : iblk m c 7 t (ix2 n l) = V m c main_v46 (ix2 (⟨(t.val + 0 - 2) * 1024 + n.val, by omega⟩ : Fin 65536) l) := by
    blk_ext [iblk, idx t]
  refine e.trans ((values_at m c _ _).trans (congrArg _ (ix3_congr (Fin.ext ?_) (Fin.ext ?_) rfl)))
  · show ((t.val + 0 - 2) * 1024 + n.val) % 16 = n.val % 16
    omega
  · show ((t.val + 0 - 2) * 1024 + n.val) / 16 = ((t.val + 0 - 2) * 64 + n.val / 16) % 4096
    omega
/-- The value block of window 8, at an index. -/
theorem v1 (c : Dev nD) (t : Fin cfg0.N) (n : Fin 1024) (l : Fin 128) : iblk m c 8 t (ix2 n l)
    = m ((c : Thread nD τ).loc main_arg2) (ix3 ⟨n.val % 16, by omega⟩ ⟨((t.val + 1 - 2) * 64 + n.val / 16) % 4096, Nat.mod_lt _ (by decide)⟩ l) := by
  have ht : t.val < 64 := t.isLt
  have e : iblk m c 8 t (ix2 n l) = V m c main_v46 (ix2 (⟨(t.val + 1 - 2) * 1024 + n.val, by omega⟩ : Fin 65536) l) := by
    blk_ext [iblk, idx t]
  refine e.trans ((values_at m c _ _).trans (congrArg _ (ix3_congr (Fin.ext ?_) (Fin.ext ?_) rfl)))
  · show ((t.val + 1 - 2) * 1024 + n.val) % 16 = n.val % 16
    omega
  · show ((t.val + 1 - 2) * 1024 + n.val) / 16 = ((t.val + 1 - 2) * 64 + n.val / 16) % 4096
    omega
/-- The value block of window 9, at an index. -/
theorem v2 (c : Dev nD) (t : Fin cfg0.N) (n : Fin 1024) (l : Fin 128) : iblk m c 9 t (ix2 n l)
    = m ((c : Thread nD τ).loc main_arg2) (ix3 ⟨n.val % 16, by omega⟩ ⟨((t.val + 2 - 2) * 64 + n.val / 16) % 4096, Nat.mod_lt _ (by decide)⟩ l) := by
  have ht : t.val < 64 := t.isLt
  have e : iblk m c 9 t (ix2 n l) = V m c main_v46 (ix2 (⟨(t.val + 2 - 2) * 1024 + n.val, by omega⟩ : Fin 65536) l) := by
    blk_ext [iblk, idx t]
  refine e.trans ((values_at m c _ _).trans (congrArg _ (ix3_congr (Fin.ext ?_) (Fin.ext ?_) rfl)))
  · show ((t.val + 2 - 2) * 1024 + n.val) % 16 = n.val % 16
    omega
  · show ((t.val + 2 - 2) * 1024 + n.val) / 16 = ((t.val + 2 - 2) * 64 + n.val / 16) % 4096
    omega
/-- The block of biases, at an index. -/
theorem biases (c : Dev nD) (t : Fin cfg0.N) (g : Fin 4) (key : Fin 192) (col : Fin 128) : iblk m c 10 t (ix3 g key col)
    = AttSpec.biasRow (m ((c : Thread nD τ).loc main_arg3)) ⟨g.val / 2 * 4 + col.val / 64 * 2 + g.val % 2, by omega⟩ ⟨col.val % 64, Nat.mod_lt _ (by decide)⟩ key := by
  have e : iblk m c 10 t (ix3 g key col) = V m c main_v79 (ix3 g key col) := by
    blk_ext [iblk, idx t]
  exact e.trans (biases_at m c g key col)
/-- The block of sinks, at an index. -/
theorem sinks (c : Dev nD) (t : Fin cfg0.N) (g : Fin 4) (col : Fin 128) : iblk m c 11 t (ix3 g (0 : Fin 1) col)
    = m ((c : Thread nD τ).loc main_arg4) (ix1 ⟨g.val / 2 * 4 + col.val / 64 * 2 + g.val % 2, by omega⟩) := by
  have e : iblk m c 11 t (ix3 g (0 : Fin 1) col) = V m c main_v128 (ix3 g (0 : Fin 1) col) := by
    blk_ext [iblk, idx t]
  exact e.trans (sinks_at m c g col)

/-- A point's operand blocks are those of its chunk. -/
theorem operands (c : Dev nD) (t : Fin cfg0.N) : Operands (m ((c : Thread nD τ).loc main_arg0)) (m ((c : Thread nD τ).loc main_arg1)) (m ((c : Thread nD τ).loc main_arg2)) (m ((c : Thread nD τ).loc main_arg3)) (m ((c : Thread nD τ).loc main_arg4)) (t : Fin 64)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  q0 := q0 m c t
  q1 := q1 m c t
  q2 := q2 m c t
  q3 := q3 m c t
  k0 := k0 m c t
  k1 := k1 m c t
  k2 := k2 m c t
  v0 := v0 m c t
  v1 := v1 m c t
  v2 := v2 m c t
  bias := biases m c t
  sink := sinks m c t

/-- The attention of every row: row `r` is query time `r / 16` of sequence `r % 16`. -/
def result (q : FVec Ideal S16x4096x512 .f32) (k v : FVec Ideal S16x4096x128 .f32) (rb : FVec Ideal S32x8 .f32) (sk : FVec Ideal S8 .f32) : FVec Ideal S65536x512 .bf16 :=
  fun i => AttRef.whole q k v rb sk (ix2 (i 0 : Fin 65536) (i 1 : Fin 512))

/-- Equal places, equal values. -/
theorem at_congr {q : (⟨3, ![16, 4096, 512]⟩ : Shape).Idx → EReal} {k v : (⟨3, ![16, 4096, 128]⟩ : Shape).Idx → EReal}
    {rb : (⟨2, ![32, 8]⟩ : Shape).Idx → EReal} {sk : (⟨1, ![8]⟩ : Shape).Idx → EReal} {b b' : Fin 16} {c c' : Fin 64} {h : Fin 2} {g : Fin 4} {r r' d : Fin 64}
    (hb : b = b') (hc : c = c') (hr : r = r') : AttSpec.attended q k v rb sk b c h g r d = AttSpec.attended q k v rb sk b' c' h g r' d := by subst hb hc hr; rfl

/-- What a point writes is the attention at its place. -/
theorem point (c : Dev nD) (t : Fin cfg0.N) (y) : outBlk (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
    = result (m ((c : Thread nD τ).loc main_arg0)) (m ((c : Thread nD τ).loc main_arg1)) (m ((c : Thread nD τ).loc main_arg2)) (m ((c : Thread nD τ).loc main_arg3)) (m ((c : Thread nD τ).loc main_arg4)) (((cfg0.win 12).blk t).view.emb y) := by
  have ht : t.val < 64 := t.isLt
  idx_vars y
  refine (block_at (operands m c t) (grid0.coords t) (coords t) _ _).trans ?_
  have e : ((cfg0.win 12).blk t).view.emb (ix2 y0 y1) = ix2 (⟨t.val * 1024 + y0.val, by omega⟩ : Fin 65536) y1 := by
    blk_ext [idx t]
  rw [e]
  unfold result
  refine Eq.trans ?_ (AttRef.whole_at _ _ _ _ _ _ _).symm
  refine at_congr (Fin.ext ?_) (Fin.ext ?_) (Fin.ext ?_)
  · show y0.val % 16 = (t.val * 1024 + y0.val) % 16
    omega
  · show t.val = (t.val * 1024 + y0.val) / 16 / 64
    omega
  · show y0.val / 16 = (t.val * 1024 + y0.val) / 16 % 64
    omega

/-- The array after the run is the attention. -/
theorem final (c : Dev nD) : (dats m 0 c).arrAt 12 (cfgs 0).N
    = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after_12]
  exact point m c t y

/-- The run leaves the attention and the arguments. -/
theorem run (g : Dev nD → PrngReg) : θ_run defs (onTc (τ := τ) (main (F := Ideal))) ⟨m, fun _ => 0, g⟩ (fun r => ∀ c : Dev nD,
      r.2.mem ((c.tc : Thread nD τ).loc main_v129) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 12).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m g)

/-- The attention computed chunk by chunk is the attention of the plain program. -/
theorem algebraic : Cert.algebraic_KernelIdeal_ReferenceIdeal := by
  intro m g m' g' _ hag
  refine ⟨_, run m g, ?_⟩
  refine (θ_run _ _ _).mono (fun r h c => ⟨(h c).1.trans ?_, (h c).2⟩) (Cert.ReferenceIdeal.Value.run m' g')
  refine (AttRef.result_eq m' c).trans ?_
  rw [(hag c).1, (hag c).2.1, (hag c).2.2.1, (hag c).2.2.2.1, (hag c).2.2.2.2]
  exact funext fun i => by idx_vars i; rfl

end Cert.Attention
-- ==== Proof.In2.lean ====
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Claim

@[expose] public section

set_option maxRecDepth 16384
set_option maxHeartbeats 1000000

noncomputable section

namespace Cert.In2

open Cert.Kernel2Ideal Cert.Kernel2Ideal.Gen Idealize.ShloMosaic Idealize.ShloMosaic.TcCoe Idealize.SL.Sem
open Idealize.ShloMosaic.Pipeline (Dat)

/-- Row `r` of the product, time by time and sequence by sequence within a time, at column `j`. -/
def prod (x : FVec Ideal S16x4096x1024 .f32) (w : FVec Ideal S1024x1280 .f32) (r : Fin 65536) (j : Fin 1280) : EReal :=
  ∑ k : Fin 1024, x (ix3 ⟨r.val % 16, by omega⟩ ⟨r.val / 16, by omega⟩ k) * w (ix2 k j)

variable (m : (ℓ : Loc nD τ sig) → Buf (Elt Ideal) ℓ)

/-- Where each window stands at a point: the rows move with the point, the weights do not. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![t.val, 0])

/-- The staged rows, as the host lays them out. -/
theorem staged (c : Dev nD) : V m c main_v1 = shapeCast S65536x1024 (transpose S4096x16x1024 [1, 0, 2] (m ((c : Thread nD τ).loc main_arg0)) transposes_S16x4096x1024_S4096x16x1024_1_0_2) shapeCasts_S4096x16x1024_S65536x1024 := by
  entry_read
  rfl

/-- The staged rows: row `r` is the input at time `r / 16` of sequence `r % 16`. -/
theorem rows_at (c : Dev nD) (r : Fin 65536) (k : Fin 1024) :
    V m c main_v1 (ix2 r k) = m ((c : Thread nD τ).loc main_arg0) (ix3 ⟨r.val % 16, by omega⟩ ⟨r.val / 16, by omega⟩ k) := by
  rw [staged]
  pointwise
  blk_ext

/-- The staged weights are the weights. -/
theorem weights (c : Dev nD) : V m c main_v2 = m ((c : Thread nD τ).loc main_arg1) := by
  entry_read
  rfl

/-- A block of the product, at an index of the block, is the product at the block's place. -/
theorem prod_at (c : Dev nD) (t : Fin cfg0.N) (y : S512x1280.Idx) :
    k0_pay1 (iblk m c 0 t) (iblk m c 1 t) y
      = prod (m ((c : Thread nD τ).loc main_arg0)) (m ((c : Thread nD τ).loc main_arg1)) ⟨t.val * 512 + (y 0).val, by idx_bounds; omega⟩ (y 1) := by
  have e0 : ∀ k : Fin 1024, iblk m c 0 t (ix2 (y 0) k) = V m c main_v1 (ix2 ⟨t.val * 512 + (y 0).val, by idx_bounds; omega⟩ k) := by
    intro k
    blk_ext [iblk, idx t]
  have e1 : ∀ k : Fin 1024, iblk m c 1 t (ix2 k (y 1)) = V m c main_v2 (ix2 k (y 1)) := by
    intro k
    blk_ext [iblk, idx t]
  pointwise [k0_pay1]
  unfold prod
  refine Finset.sum_congr rfl fun k _ => ?_
  exact congrArg₂ (· * ·) ((e0 k).trans (rows_at m c _ k)) ((e1 k).trans (congrFun (weights m c) _))

/-- Columns 0 to 512 of the product. -/
def cols2 (x : FVec Ideal S16x4096x1024 .f32) (w : FVec Ideal S1024x1280 .f32) : FVec Ideal S65536x512 .f32 :=
  fun i => prod x w (i 0) ⟨0 + (i 1).val, Nat.lt_of_lt_of_le (Nat.add_lt_add_left (i 1).isLt 0) (by decide)⟩

/-- What a point writes through window 2. -/
theorem point2 (c : Dev nD) (t : Fin cfg0.N) (y) : k0_pay2 (iblk m c 0 t) (iblk m c 1 t) y
    = cols2 (m ((c : Thread nD τ).loc main_arg0)) (m ((c : Thread nD τ).loc main_arg1)) (((cfg0.win 2).blk t).view.emb y) := by
  pointwise [k0_pay2]
  refine (prod_at m c t _).trans ?_
  unfold cols2
  refine congrArg₂ (prod _ _) (Fin.ext ?_) (Fin.ext ?_)
  · blk_simp [idx t]
    try omega
  · blk_simp [idx t]
    try omega

/-- The array of window 2 after the run: columns 0 to 512 of the product. -/
theorem final2 (c : Dev nD) : (dats m 0 c).arrAt 2 (cfgs 0).N
    = cols2 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

/-- Columns 512 to 1024 of the product. -/
def cols3 (x : FVec Ideal S16x4096x1024 .f32) (w : FVec Ideal S1024x1280 .f32) : FVec Ideal S65536x512 .f32 :=
  fun i => prod x w (i 0) ⟨512 + (i 1).val, Nat.lt_of_lt_of_le (Nat.add_lt_add_left (i 1).isLt 512) (by decide)⟩

/-- What a point writes through window 3. -/
theorem point3 (c : Dev nD) (t : Fin cfg0.N) (y) : k0_pay3 (iblk m c 0 t) (iblk m c 1 t) y
    = cols3 (m ((c : Thread nD τ).loc main_arg0)) (m ((c : Thread nD τ).loc main_arg1)) (((cfg0.win 3).blk t).view.emb y) := by
  pointwise [k0_pay3]
  refine (prod_at m c t _).trans ?_
  unfold cols3
  refine congrArg₂ (prod _ _) (Fin.ext ?_) (Fin.ext ?_)
  · blk_simp [idx t]
    try omega
  · blk_simp [idx t]
    try omega

/-- The array of window 3 after the run: columns 512 to 1024 of the product. -/
theorem final3 (c : Dev nD) : (dats m 0 c).arrAt 3 (cfgs 0).N
    = cols3 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- Columns 1024 to 1152 of the product. -/
def cols4 (x : FVec Ideal S16x4096x1024 .f32) (w : FVec Ideal S1024x1280 .f32) : FVec Ideal S65536x128 .f32 :=
  fun i => prod x w (i 0) ⟨1024 + (i 1).val, Nat.lt_of_lt_of_le (Nat.add_lt_add_left (i 1).isLt 1024) (by decide)⟩

/-- What a point writes through window 4. -/
theorem point4 (c : Dev nD) (t : Fin cfg0.N) (y) : k0_pay4 (iblk m c 0 t) (iblk m c 1 t) y
    = cols4 (m ((c : Thread nD τ).loc main_arg0)) (m ((c : Thread nD τ).loc main_arg1)) (((cfg0.win 4).blk t).view.emb y) := by
  pointwise [k0_pay4]
  refine (prod_at m c t _).trans ?_
  unfold cols4
  refine congrArg₂ (prod _ _) (Fin.ext ?_) (Fin.ext ?_)
  · blk_simp [idx t]
    try omega
  · blk_simp [idx t]
    try omega

/-- The array of window 4 after the run: columns 1024 to 1152 of the product. -/
theorem final4 (c : Dev nD) : (dats m 0 c).arrAt 4 (cfgs 0).N
    = cols4 (m ((c : Thread nD τ).loc main_arg0)) (m ((c : Thread nD τ).loc main_arg1)) := by
  refine (dats m 0 c).arrAt_eq_of_covers 4 _ (by decide +kernel) fun t _ y => ?_
  blk_simp
  rw [after0_4]; frame_out
  exact point4 m c t y

/-- Columns 1152 to 1280 of the product. -/
def cols5 (x : FVec Ideal S16x4096x1024 .f32) (w : FVec Ideal S1024x1280 .f32) : FVec Ideal S65536x128 .f32 :=
  fun i => prod x w (i 0) ⟨1152 + (i 1).val, Nat.lt_of_lt_of_le (Nat.add_lt_add_left (i 1).isLt 1152) (by decide)⟩

/-- What a point writes through window 5. -/
theorem point5 (c : Dev nD) (t : Fin cfg0.N) (y) : k0_pay5 (iblk m c 0 t) (iblk m c 1 t) y
    = cols5 (m ((c : Thread nD τ).loc main_arg0)) (m ((c : Thread nD τ).loc main_arg1)) (((cfg0.win 5).blk t).view.emb y) := by
  pointwise [k0_pay5]
  refine (prod_at m c t _).trans ?_
  unfold cols5
  refine congrArg₂ (prod _ _) (Fin.ext ?_) (Fin.ext ?_)
  · blk_simp [idx t]
    try omega
  · blk_simp [idx t]
    try omega

/-- The array of window 5 after the run: columns 1152 to 1280 of the product. -/
theorem final5 (c : Dev nD) : (dats m 0 c).arrAt 5 (cfgs 0).N
    = cols5 (m ((c : Thread nD τ).loc main_arg0)) (m ((c : Thread nD τ).loc main_arg1)) := by
  refine (dats m 0 c).arrAt_eq_of_covers 5 _ (by decide +kernel) fun t _ y => ?_
  blk_simp
  rw [after0_5]; frame_out
  exact point5 m c t y

/-- What a buffer the last lines write holds after the run. -/
theorem tail (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := rfl

/-- The last lines find window 4's array as the run left it. -/
theorem arr4 (c : Dev nD) : (Pipeline.withArrays (cfgs 0).spec c (V0 m c) fun w => (dats m 0 c).arrAt w (cfgs 0).N) (Proc.devRef .tc main_v3_2)
    = (dats m 0 c).arrAt 4 (cfgs 0).N :=
  Pipeline.withArrays_arr (cfgs 0).spec launch0.win.arr_inj c _ _ 4

/-- The keys of the last times, as the last lines lay them out. -/
theorem keys_of (c : Dev nD) : Pipeline.afterTail₀ cfgs (dats m) 0 (V0 m) [hostOps1] c main_v7
    = shapeCast _ (transpose S16x128x128 [1, 0, 2] (shapeCast S128x16x128 (extractStridedSlice S2048x128 ![63488, 0] ((dats m 0 c).arrAt 4 (cfgs 0).N) slices_S65536x128_S2048x128_63488_0) shapeCasts_S2048x128_S128x16x128) transposes_S128x16x128_S16x128x128_1_0_2) shapeCasts_S16x128x128_S16x128x2x64 := by
  rw [tail]
  after_results
  rw [arr4 m c]
  rfl

/-- They are the plain program's. -/
theorem keys_eq (x : FVec Ideal S16x4096x1024 .f32) (w : FVec Ideal S1024x1280 .f32) :
    shapeCast S16x128x2x64 (transpose S16x128x128 [1, 0, 2] (shapeCast S128x16x128 (extractStridedSlice S2048x128 ![63488, 0] (cols4 x w) slices_S65536x128_S2048x128_63488_0) shapeCasts_S2048x128_S128x16x128) transposes_S128x16x128_S16x128x128_1_0_2) shapeCasts_S16x128x128_S16x128x2x64
      = extractStridedSlice Cert.Reference2Ideal.S16x128x2x64 ![0, 3968, 0, 0] (shapeCast _ (extractStridedSlice Cert.Reference2Ideal.S16x4096x128 ![0, 0, 1024] (Host.dotGeneral Cert.Reference2Ideal.dot_S16x4096x1024_S1024x1280_S16x4096x1280_2_0_01_1_n_n none x w) Cert.Reference2Ideal.Gen.slices_S16x4096x1280_S16x4096x128_0_0_1024) Cert.Reference2Ideal.Gen.shapeCasts_S16x4096x128_S16x4096x2x64) Cert.Reference2Ideal.Gen.slices_S16x4096x2x64_S16x128x2x64_0_3968_0_0 := by
  funext j
  pointwise
  unfold cols4 prod
  refine Finset.sum_congr rfl fun k _ => congrArg₂ (· * ·) ?_ ?_
  · blk_ext
  · blk_ext

/-- The last lines find window 5's array as the run left it. -/
theorem arr5 (c : Dev nD) : (Pipeline.withArrays (cfgs 0).spec c (V0 m c) fun w => (dats m 0 c).arrAt w (cfgs 0).N) (Proc.devRef .tc main_v3_3)
    = (dats m 0 c).arrAt 5 (cfgs 0).N :=
  Pipeline.withArrays_arr (cfgs 0).spec launch0.win.arr_inj c _ _ 5

/-- The values of the last times, as the last lines lay them out. -/
theorem values_of (c : Dev nD) : Pipeline.afterTail₀ cfgs (dats m) 0 (V0 m) [hostOps1] c main_v11
    = shapeCast _ (transpose S16x128x128 [1, 0, 2] (shapeCast S128x16x128 (extractStridedSlice S2048x128 ![63488, 0] ((dats m 0 c).arrAt 5 (cfgs 0).N) slices_S65536x128_S2048x128_63488_0) shapeCasts_S2048x128_S128x16x128) transposes_S128x16x128_S16x128x128_1_0_2) shapeCasts_S16x128x128_S16x128x2x64 := by
  rw [tail]
  after_results
  rw [arr5 m c]
  rfl

/-- They are the plain program's. -/
theorem values_eq (x : FVec Ideal S16x4096x1024 .f32) (w : FVec Ideal S1024x1280 .f32) :
    shapeCast S16x128x2x64 (transpose S16x128x128 [1, 0, 2] (shapeCast S128x16x128 (extractStridedSlice S2048x128 ![63488, 0] (cols5 x w) slices_S65536x128_S2048x128_63488_0) shapeCasts_S2048x128_S128x16x128) transposes_S128x16x128_S16x128x128_1_0_2) shapeCasts_S16x128x128_S16x128x2x64
      = extractStridedSlice Cert.Reference2Ideal.S16x128x2x64 ![0, 3968, 0, 0] (shapeCast _ (extractStridedSlice Cert.Reference2Ideal.S16x4096x128 ![0, 0, 1152] (Host.dotGeneral Cert.Reference2Ideal.dot_S16x4096x1024_S1024x1280_S16x4096x1280_2_0_01_1_n_n none x w) Cert.Reference2Ideal.Gen.slices_S16x4096x1280_S16x4096x128_0_0_1152) Cert.Reference2Ideal.Gen.shapeCasts_S16x4096x128_S16x4096x2x64) Cert.Reference2Ideal.Gen.slices_S16x4096x2x64_S16x128x2x64_0_3968_0_0 := by
  funext j
  pointwise
  unfold cols5 prod
  refine Finset.sum_congr rfl fun k _ => congrArg₂ (· * ·) ?_ ?_
  · blk_ext
  · blk_ext

/-- After the run, the keys of the last times are the plain program's. -/
theorem keys_run (c : Dev nD) : Pipeline.afterTail₀ cfgs (dats m) 0 (V0 m) [hostOps1] c main_v7
    = extractStridedSlice Cert.Reference2Ideal.S16x128x2x64 ![0, 3968, 0, 0] (shapeCast _ (extractStridedSlice Cert.Reference2Ideal.S16x4096x128 ![0, 0, 1024] (Host.dotGeneral (F := Ideal) (φ₁ := .f32) (φ₂ := .f32) Cert.Reference2Ideal.dot_S16x4096x1024_S1024x1280_S16x4096x1280_2_0_01_1_n_n none (m ((c : Thread nD τ).loc main_arg0)) (m ((c : Thread nD τ).loc main_arg1))) Cert.Reference2Ideal.Gen.slices_S16x4096x1280_S16x4096x128_0_0_1024) Cert.Reference2Ideal.Gen.shapeCasts_S16x4096x128_S16x4096x2x64) Cert.Reference2Ideal.Gen.slices_S16x4096x2x64_S16x128x2x64_0_3968_0_0 := by
  rw [keys_of m c, final4 m c]; exact keys_eq _ _

/-- After the run, the values of the last times are the plain program's. -/
theorem values_run (c : Dev nD) : Pipeline.afterTail₀ cfgs (dats m) 0 (V0 m) [hostOps1] c main_v11
    = extractStridedSlice Cert.Reference2Ideal.S16x128x2x64 ![0, 3968, 0, 0] (shapeCast _ (extractStridedSlice Cert.Reference2Ideal.S16x4096x128 ![0, 0, 1152] (Host.dotGeneral (F := Ideal) (φ₁ := .f32) (φ₂ := .f32) Cert.Reference2Ideal.dot_S16x4096x1024_S1024x1280_S16x4096x1280_2_0_01_1_n_n none (m ((c : Thread nD τ).loc main_arg0)) (m ((c : Thread nD τ).loc main_arg1))) Cert.Reference2Ideal.Gen.slices_S16x4096x1280_S16x4096x128_0_0_1152) Cert.Reference2Ideal.Gen.shapeCasts_S16x4096x128_S16x4096x2x64) Cert.Reference2Ideal.Gen.slices_S16x4096x2x64_S16x128x2x64_0_3968_0_0 := by
  rw [values_of m c, final5 m c]; exact values_eq _ _

/-- The columns of window 2 are the plain program's. -/
theorem cols2_eq (x : FVec Ideal S16x4096x1024 .f32) (w : FVec Ideal S1024x1280 .f32) :
    cols2 x w = shapeCast _ (transpose Cert.Reference2Ideal.S4096x16x512 [1, 0, 2] (extractStridedSlice Cert.Reference2Ideal.S16x4096x512 ![0, 0, 0] (Host.dotGeneral Cert.Reference2Ideal.dot_S16x4096x1024_S1024x1280_S16x4096x1280_2_0_01_1_n_n none x w) Cert.Reference2Ideal.Gen.slices_S16x4096x1280_S16x4096x512_0_0_0) Cert.Reference2Ideal.Gen.transposes_S16x4096x512_S4096x16x512_1_0_2) Cert.Reference2Ideal.Gen.shapeCasts_S4096x16x512_S65536x512 := by
  funext j
  pointwise
  unfold cols2 prod
  refine Finset.sum_congr rfl fun k _ => congrArg₂ (· * ·) ?_ ?_
  · blk_ext
  · blk_ext

/-- The columns of window 3 are the plain program's. -/
theorem cols3_eq (x : FVec Ideal S16x4096x1024 .f32) (w : FVec Ideal S1024x1280 .f32) :
    cols3 x w = shapeCast _ (transpose Cert.Reference2Ideal.S4096x16x512 [1, 0, 2] (extractStridedSlice Cert.Reference2Ideal.S16x4096x512 ![0, 0, 512] (Host.dotGeneral Cert.Reference2Ideal.dot_S16x4096x1024_S1024x1280_S16x4096x1280_2_0_01_1_n_n none x w) Cert.Reference2Ideal.Gen.slices_S16x4096x1280_S16x4096x512_0_0_512) Cert.Reference2Ideal.Gen.transposes_S16x4096x512_S4096x16x512_1_0_2) Cert.Reference2Ideal.Gen.shapeCasts_S4096x16x512_S65536x512 := by
  funext j
  pointwise
  unfold cols3 prod
  refine Finset.sum_congr rfl fun k _ => congrArg₂ (· * ·) ?_ ?_
  · blk_ext
  · blk_ext

/-- The projection, row block by row block, is that of the plain program. -/
theorem algebraic : Cert.algebraic_Kernel2Ideal_Reference2Ideal := by
  intro m g m' g' _ hag
  refine ⟨_, _, _, _, (θ_run defs _ _).mono (fun r h c => ⟨((h c).1 2).trans ((final2 m c).trans (cols2_eq _ _)), ((h c).1 3).trans ((final3 m c).trans (cols3_eq _ _)),
    ((h c).2 main_v7 (Pipeline.mem_restRefs_of main_v7 (by decide) (by decide))).trans (keys_run m c),
    ((h c).2 main_v11 (Pipeline.mem_restRefs_of main_v11 (by decide) (by decide))).trans (values_run m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m g), ?_⟩
  · refine (θ_run _ _ _).mono (fun r h c => ?_) (Cert.Reference2Ideal.Value.run m' g')
    have h' := h c
    rw [(hag c).1, (hag c).2] at h'
    rw [(hag c).1, (hag c).2]
    exact h'

end Cert.In2

end
-- ==== Proof.In3.lean ====
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

set_option maxRecDepth 16384
set_option maxHeartbeats 1000000

noncomputable section

namespace Cert.In3

open Cert.Kernel3Ideal Cert.Kernel3Ideal.Gen Idealize.ShloMosaic Idealize.ShloMosaic.TcCoe Idealize.SL.Sem
open Idealize.ShloMosaic.Pipeline (Dat)

/-- Row `r` of the product, time by time and sequence by sequence within a time, at column `j`. -/
def prod (x : FVec Ideal S16x4096x1024 .f32) (w : FVec Ideal S1024x2816 .f32) (r : Fin 65536) (j : Fin 2816) : EReal :=
  ∑ k : Fin 1024, x (ix3 ⟨r.val % 16, by omega⟩ ⟨r.val / 16, by omega⟩ k) * w (ix2 k j)

variable (m : (ℓ : Loc nD τ sig) → Buf (Elt Ideal) ℓ)

/-- Where each window stands at a point: the rows move with the point, the weights do not. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- The staged rows, as the host lays them out. -/
theorem staged (c : Dev nD) : V m c main_v1 = shapeCast S65536x1024 (transpose S4096x16x1024 [1, 0, 2] (m ((c : Thread nD τ).loc main_arg0)) transposes_S16x4096x1024_S4096x16x1024_1_0_2) shapeCasts_S4096x16x1024_S65536x1024 := by
  entry_read
  rfl

/-- The staged rows: row `r` is the input at time `r / 16` of sequence `r % 16`. -/
theorem rows_at (c : Dev nD) (r : Fin 65536) (k : Fin 1024) :
    V m c main_v1 (ix2 r k) = m ((c : Thread nD τ).loc main_arg0) (ix3 ⟨r.val % 16, by omega⟩ ⟨r.val / 16, by omega⟩ k) := by
  rw [staged]
  pointwise
  blk_ext

/-- The staged weights are the weights. -/
theorem weights (c : Dev nD) : V m c main_v2 = m ((c : Thread nD τ).loc main_arg1) := by
  entry_read
  rfl

/-- A block of the product, at an index of the block, is the product at the block's place. -/
theorem prod_at (c : Dev nD) (t : Fin cfg0.N) (y : S512x2816.Idx) :
    k0_pay1 (iblk m c 0 t) (iblk m c 1 t) y
      = prod (m ((c : Thread nD τ).loc main_arg0)) (m ((c : Thread nD τ).loc main_arg1)) ⟨t.val * 512 + (y 0).val, by idx_bounds; omega⟩ (y 1) := by
  have e0 : ∀ k : Fin 1024, iblk m c 0 t (ix2 (y 0) k) = V m c main_v1 (ix2 ⟨t.val * 512 + (y 0).val, by idx_bounds; omega⟩ k) := by
    intro k
    blk_ext [iblk, idx t]
  have e1 : ∀ k : Fin 1024, iblk m c 1 t (ix2 k (y 1)) = V m c main_v2 (ix2 k (y 1)) := by
    intro k
    blk_ext [iblk, idx t]
  pointwise [k0_pay1]
  unfold prod
  refine Finset.sum_congr rfl fun k _ => ?_
  exact congrArg₂ (· * ·) ((e0 k).trans (rows_at m c _ k)) ((e1 k).trans (congrFun (weights m c) _))

/-- Columns 0 to 2560 of the product. -/
def cols2 (x : FVec Ideal S16x4096x1024 .f32) (w : FVec Ideal S1024x2816 .f32) : FVec Ideal S65536x2560 .f32 :=
  fun i => prod x w (i 0) ⟨0 + (i 1).val, Nat.lt_of_lt_of_le (Nat.add_lt_add_left (i 1).isLt 0) (by decide)⟩

/-- What a point writes through window 2. -/
theorem point2 (c : Dev nD) (t : Fin cfg0.N) (y) : k0_pay2 (iblk m c 0 t) (iblk m c 1 t) y
    = cols2 (m ((c : Thread nD τ).loc main_arg0)) (m ((c : Thread nD τ).loc main_arg1)) (((cfg0.win 2).blk t).view.emb y) := by
  pointwise [k0_pay2]
  refine (prod_at m c t _).trans ?_
  unfold cols2
  refine congrArg₂ (prod _ _) (Fin.ext ?_) (Fin.ext ?_)
  · blk_simp [idx t]
    try omega
  · blk_simp [idx t]
    try omega

/-- The array of window 2 after the run: columns 0 to 2560 of the product. -/
theorem final2 (c : Dev nD) : (dats m 0 c).arrAt 2 (cfgs 0).N
    = cols2 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

/-- Columns 2560 to 2816 of the product. -/
def cols3 (x : FVec Ideal S16x4096x1024 .f32) (w : FVec Ideal S1024x2816 .f32) : FVec Ideal S65536x256 .f32 :=
  fun i => prod x w (i 0) ⟨2560 + (i 1).val, Nat.lt_of_lt_of_le (Nat.add_lt_add_left (i 1).isLt 2560) (by decide)⟩

/-- What a point writes through window 3. -/
theorem point3 (c : Dev nD) (t : Fin cfg0.N) (y) : k0_pay3 (iblk m c 0 t) (iblk m c 1 t) y
    = cols3 (m ((c : Thread nD τ).loc main_arg0)) (m ((c : Thread nD τ).loc main_arg1)) (((cfg0.win 3).blk t).view.emb y) := by
  pointwise [k0_pay3]
  refine (prod_at m c t _).trans ?_
  unfold cols3
  refine congrArg₂ (prod _ _) (Fin.ext ?_) (Fin.ext ?_)
  · blk_simp [idx t]
    try omega
  · blk_simp [idx t]
    try omega

/-- The array of window 3 after the run: columns 2560 to 2816 of the product. -/
theorem final3 (c : Dev nD) : (dats m 0 c).arrAt 3 (cfgs 0).N
    = cols3 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- What a buffer the last lines write holds after the run. -/
theorem tail (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := rfl

/-- The last lines find window 2's array as the run left it. -/
theorem arr2 (c : Dev nD) : (Pipeline.withArrays (cfgs 0).spec c (V0 m c) fun w => (dats m 0 c).arrAt w (cfgs 0).N) (Proc.devRef .tc main_v3_0)
    = (dats m 0 c).arrAt 2 (cfgs 0).N :=
  Pipeline.withArrays_arr (cfgs 0).spec launch0.win.arr_inj c _ _ 2

/-- The last lines find window 3's array as the run left it. -/
theorem arr3 (c : Dev nD) : (Pipeline.withArrays (cfgs 0).spec c (V0 m c) fun w => (dats m 0 c).arrAt w (cfgs 0).N) (Proc.devRef .tc main_v3_1)
    = (dats m 0 c).arrAt 3 (cfgs 0).N :=
  Pipeline.withArrays_arr (cfgs 0).spec launch0.win.arr_inj c _ _ 3

/-- The rows of the last time, as the last lines cut them out. -/
theorem last_of (c : Dev nD) : Pipeline.afterTail₀ cfgs (dats m) 0 (V0 m) [hostOps1] c main_v10
    = extractStridedSlice S16x2560 ![65520, 0] ((dats m 0 c).arrAt 2 (cfgs 0).N) slices_S65536x2560_S16x2560_65520_0 := by
  rw [tail]
  after_results
  rw [arr2 m c]

/-- They are the plain program's. -/
theorem last_eq (x : FVec Ideal S16x4096x1024 .f32) (w : FVec Ideal S1024x2816 .f32) :
    extractStridedSlice S16x2560 ![65520, 0] (cols2 x w) slices_S65536x2560_S16x2560_65520_0 = shapeCast _ (extractStridedSlice Cert.Reference3Ideal.S16x1x2560 ![0, 4095, 0] (extractStridedSlice Cert.Reference3Ideal.S16x4096x2560 ![0, 0, 0] (Host.dotGeneral (F := Ideal) (φ₁ := .f32) (φ₂ := .f32) Cert.Reference3Ideal.dot_S16x4096x1024_S1024x2816_S16x4096x2816_2_0_01_1_n_n none x w) Cert.Reference3Ideal.Gen.slices_S16x4096x2816_S16x4096x2560_0_0_0) Cert.Reference3Ideal.Gen.slices_S16x4096x2560_S16x1x2560_0_4095_0) Cert.Reference3Ideal.Gen.shapeCasts_S16x1x2560_S16x2560 := by
  funext j
  pointwise
  unfold cols2 prod
  refine Finset.sum_congr rfl fun k _ => congrArg₂ (· * ·) ?_ ?_
  · blk_ext
  · blk_ext

/-- The columns kept for the next step, as the last lines lay them out. -/
theorem kept_of (c : Dev nD) : Pipeline.afterTail₀ cfgs (dats m) 0 (V0 m) [hostOps1] c main_v9
    = transpose S16x15x256 [1, 0, 2] (shapeCast S15x16x256 (extractStridedSlice S240x256 ![65552, 0] (concatenate S65792x256 0 [⟨S16x256, broadcastInDim S16x256 ![] bcast_S_S16x256 (constant (F := Ideal) S_ .f32 0x00000000#32)⟩, ⟨S240x256, broadcastInDim S240x256 ![] bcast_S_S240x256 (constant (F := Ideal) S_ .f32 0x00000000#32)⟩, ⟨S65536x256, (dats m 0 c).arrAt 3 (cfgs 0).N⟩] concatenates_S16x256_S240x256_S65536x256_S65792x256_d0) slices_S65792x256_S240x256_65552_0) shapeCasts_S240x256_S15x16x256) transposes_S15x16x256_S16x15x256_1_0_2 := by
  rw [tail]
  rw [← arr3 m c]
  generalize (Pipeline.withArrays (cfgs 0).spec c (V0 m c) fun w => (dats m 0 c).arrAt w (cfgs 0).N) = W
  rfl

/-- They are the plain program's. -/
theorem kept_eq (x : FVec Ideal S16x4096x1024 .f32) (w : FVec Ideal S1024x2816 .f32) :
    transpose S16x15x256 [1, 0, 2] (shapeCast S15x16x256 (extractStridedSlice S240x256 ![65552, 0] (concatenate S65792x256 0 [⟨S16x256, broadcastInDim S16x256 ![] bcast_S_S16x256 (constant (F := Ideal) S_ .f32 0x00000000#32)⟩, ⟨S240x256, broadcastInDim S240x256 ![] bcast_S_S240x256 (constant (F := Ideal) S_ .f32 0x00000000#32)⟩, ⟨S65536x256, cols3 x w⟩] concatenates_S16x256_S240x256_S65536x256_S65792x256_d0) slices_S65792x256_S240x256_65552_0) shapeCasts_S240x256_S15x16x256) transposes_S15x16x256_S16x15x256_1_0_2 = extractStridedSlice Cert.Reference3Ideal.S16x15x256 ![0, 4096, 0] (concatenate Cert.Reference3Ideal.S16x4111x256 1 [⟨Cert.Reference3Ideal.S16x15x256, (broadcastInDim Cert.Reference3Ideal.S16x15x256 ![] Cert.Reference3Ideal.Gen.bcast_S_S16x15x256 (constant (F := Ideal) Cert.Reference3Ideal.S_ .f32 0x00000000#32))⟩, ⟨Cert.Reference3Ideal.S16x4096x256, (extractStridedSlice Cert.Reference3Ideal.S16x4096x256 ![0, 0, 2560] (Host.dotGeneral (F := Ideal) (φ₁ := .f32) (φ₂ := .f32) Cert.Reference3Ideal.dot_S16x4096x1024_S1024x2816_S16x4096x2816_2_0_01_1_n_n none x w) Cert.Reference3Ideal.Gen.slices_S16x4096x2816_S16x4096x256_0_0_2560)⟩] Cert.Reference3Ideal.Gen.concatenates_S16x15x256_S16x4096x256_S16x4111x256_d1) Cert.Reference3Ideal.Gen.slices_S16x4111x256_S16x15x256_0_4096_0 := by
  funext j
  pointwise
  rw [dif_neg (by omega), dif_neg (by omega), dif_neg (by omega)]
  unfold cols3 prod
  refine Finset.sum_congr rfl fun k _ => congrArg₂ (· * ·) ?_ ?_
  · blk_ext
  · blk_ext

/-- The columns of window 2 are the plain program's. -/
theorem cols2_eq (x : FVec Ideal S16x4096x1024 .f32) (w : FVec Ideal S1024x2816 .f32) :
    cols2 x w = shapeCast _ (transpose Cert.Reference3Ideal.S4096x16x2560 [1, 0, 2] (extractStridedSlice Cert.Reference3Ideal.S16x4096x2560 ![0, 0, 0] (Host.dotGeneral Cert.Reference3Ideal.dot_S16x4096x1024_S1024x2816_S16x4096x2816_2_0_01_1_n_n none x w) Cert.Reference3Ideal.Gen.slices_S16x4096x2816_S16x4096x2560_0_0_0) Cert.Reference3Ideal.Gen.transposes_S16x4096x2560_S4096x16x2560_1_0_2) Cert.Reference3Ideal.Gen.shapeCasts_S4096x16x2560_S65536x2560 := by
  funext j
  pointwise
  unfold cols2 prod
  refine Finset.sum_congr rfl fun k _ => congrArg₂ (· * ·) ?_ ?_
  · blk_ext
  · blk_ext

/-- After the run these are the plain program's. -/
theorem last_run (c : Dev nD) : Pipeline.afterTail₀ cfgs (dats m) 0 (V0 m) [hostOps1] c main_v10
    = shapeCast _ (extractStridedSlice Cert.Reference3Ideal.S16x1x2560 ![0, 4095, 0] (extractStridedSlice Cert.Reference3Ideal.S16x4096x2560 ![0, 0, 0] (Host.dotGeneral (F := Ideal) (φ₁ := .f32) (φ₂ := .f32) Cert.Reference3Ideal.dot_S16x4096x1024_S1024x2816_S16x4096x2816_2_0_01_1_n_n none (m ((c : Thread nD τ).loc main_arg0)) (m ((c : Thread nD τ).loc main_arg1))) Cert.Reference3Ideal.Gen.slices_S16x4096x2816_S16x4096x2560_0_0_0) Cert.Reference3Ideal.Gen.slices_S16x4096x2560_S16x1x2560_0_4095_0) Cert.Reference3Ideal.Gen.shapeCasts_S16x1x2560_S16x2560 := by
  rw [last_of m c, final2 m c]; exact last_eq _ _

/-- After the run these are the plain program's. -/
theorem kept_run (c : Dev nD) : Pipeline.afterTail₀ cfgs (dats m) 0 (V0 m) [hostOps1] c main_v9
    = extractStridedSlice Cert.Reference3Ideal.S16x15x256 ![0, 4096, 0] (concatenate Cert.Reference3Ideal.S16x4111x256 1 [⟨Cert.Reference3Ideal.S16x15x256, (broadcastInDim Cert.Reference3Ideal.S16x15x256 ![] Cert.Reference3Ideal.Gen.bcast_S_S16x15x256 (constant (F := Ideal) Cert.Reference3Ideal.S_ .f32 0x00000000#32))⟩, ⟨Cert.Reference3Ideal.S16x4096x256, (extractStridedSlice Cert.Reference3Ideal.S16x4096x256 ![0, 0, 2560] (Host.dotGeneral (F := Ideal) (φ₁ := .f32) (φ₂ := .f32) Cert.Reference3Ideal.dot_S16x4096x1024_S1024x2816_S16x4096x2816_2_0_01_1_n_n none (m ((c : Thread nD τ).loc main_arg0)) (m ((c : Thread nD τ).loc main_arg1))) Cert.Reference3Ideal.Gen.slices_S16x4096x2816_S16x4096x256_0_0_2560)⟩] Cert.Reference3Ideal.Gen.concatenates_S16x15x256_S16x4096x256_S16x4111x256_d1) Cert.Reference3Ideal.Gen.slices_S16x4111x256_S16x15x256_0_4096_0 := by
  rw [kept_of m c, final3 m c]; exact kept_eq _ _

/-- The projection, row block by row block, is that of the plain program. -/
theorem algebraic : Cert.algebraic_Kernel3Ideal_Reference3Ideal := by
  intro m g m' g' _ hag
  refine ⟨_, _, _, (θ_run defs _ _).mono (fun r h c => ⟨((h c).1 2).trans ((final2 m c).trans (cols2_eq _ _)),
    ((h c).2 main_v10 (Pipeline.mem_restRefs_of main_v10 (by decide) (by decide))).trans (last_run m c),
    ((h c).2 main_v9 (Pipeline.mem_restRefs_of main_v9 (by decide) (by decide))).trans (kept_run m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m g), ?_⟩
  · refine (θ_run _ _ _).mono (fun r h c => ?_) (Cert.Reference3Ideal.Value.run m' g')
    have h' := h c
    rw [(hag c).1, (hag c).2] at h'
    rw [(hag c).1, (hag c).2]
    exact h'

end Cert.In3

end
-- ==== Proof.Out4.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384
set_option maxHeartbeats 1000000

noncomputable section

namespace Cert.Out4

open Cert.Kernel4Ideal Cert.Kernel4Ideal.Gen Idealize.ShloMosaic Idealize.ShloMosaic.TcCoe Idealize.SL.Sem
open Idealize.ShloMosaic.Pipeline (Dat)

/-! ## The layer norm of a block of rows, and of all rows -/

/-- What the kernel normalises: the scaled input plus the two products. -/
def blockSum (v0 : FVec Ideal S512x512 .bf16) (v1 : FVec Ideal S512x1024 .bf16) (v4 : FVec Ideal S512x512 .bf16)
    (v5 : FVec Ideal S512x1024 .bf16) (v9 : FVec Ideal S512x1024 .f32) : FVec Ideal S512x1024 .f32 :=
  addf (mulf (broadcast S512x1024 (Scalar.ofBits .f32 0x3FD744FD#32)) v9)
    (addf (matmul dot_S512x512_S512x1024_S512x1024_1_0_0_1_n_n none v0 (shapeCast S512x1024 v1 shapeCasts_S512x1024_S512x1024) (constant S512x1024 .f32 0x00000000#32))
      (matmul dot_S512x512_S512x1024_S512x1024_1_0_0_1_n_n none v4 (shapeCast S512x1024 v5 shapeCasts_S512x1024_S512x1024) (constant S512x1024 .f32 0x00000000#32)))

/-- The rows of a block less their means. -/
def blockCentred (v12 : FVec Ideal S512x1024 .f32) : FVec Ideal S512x1024 .f32 :=
  subf v12 (broadcastTo S512x1024 (divf (shapeCast S512x1 (multiReduction .add [1] S512 v12 0x00000000#32 reduces_S512x1024_S512 (.inl rfl) rfl) shapeCasts_S512_S512x1)
    (broadcast S512x1 (Scalar.ofBits .f32 0x44800000#32))) broadcasts_S512x1_S512x1024)

/-- The layer norm of a block from its centred rows. -/
def blockNorm (v22 : FVec Ideal S512x1024 .f32) (v13 v15 : FVec Ideal S1x1024 .f32) : FVec Ideal S512x1024 .f32 :=
  addf (mulf (mulf v22 (broadcastTo S512x1024 (rsqrt (addf (divf (shapeCast S512x1 (multiReduction .add [1] S512 (mulf v22 v22) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024))
    (broadcastTo S512x1024 (shapeCast S1x1024 v13 shapeCasts_S1x1024_S1x1024) broadcasts_S1x1024_S512x1024))
    (broadcastTo S512x1024 (shapeCast S1x1024 v15 shapeCasts_S1x1024_S1x1024) broadcasts_S1x1024_S512x1024)

/-- The kernel's block is the layer norm of its sum. -/
theorem pay_eq (v0 v1 v4 v5 v9 v13 v15) :
    k0_pay1 (F := Ideal) v0 v1 v4 v5 v9 v13 v15 = blockNorm (blockCentred (blockSum v0 v1 v4 v5 v9)) v13 v15 := rfl

/-- What the plain program normalises. -/
def sum (a : FVec Ideal S65536x512 .bf16) (b : FVec Ideal S65536x512 .bf16) (w : FVec Ideal S1024x1024 .f32)
    (x : FVec Ideal S65536x1024 .f32) : FVec Ideal S65536x1024 .f32 :=
  addf (mulf (broadcastInDim S65536x1024 ![] Cert.Reference4Ideal.Gen.bcast_S_S65536x1024 (constant Cert.Reference4Ideal.S_ .f32 0x3FD744FD#32)) x)
    (Host.dotGeneral Cert.Reference4Ideal.dot_S65536x1024_S1024x1024_S65536x1024_1_0_0_1_n_n none
      (concatenate S65536x1024 1 [⟨S65536x512, (extf .f32 a Cert.Reference4Ideal.Gen.bitsLt_bf16_f32)⟩, ⟨S65536x512, (extf .f32 b Cert.Reference4Ideal.Gen.bitsLt_bf16_f32)⟩] Cert.Reference4Ideal.Gen.concatenates_S65536x512_S65536x512_S65536x1024_d1) w)

/-- The rows less their means. -/
def centred (s : FVec Ideal S65536x1024 .f32) : FVec Ideal S65536x1024 .f32 :=
  subf s (broadcastInDim S65536x1024 ![0, 1] Cert.Reference4Ideal.Gen.bcast_S65536x1_S65536x1024_0_1 (Host.divf (broadcastInDim Cert.Reference4Ideal.S65536x1 ![0] Cert.Reference4Ideal.Gen.bcast_S65536_S65536x1_0 (Host.reduceAdd s (constant Cert.Reference4Ideal.S_ .f32 0x00000000#32) Cert.Reference4Ideal.Gen.reducesTo_S65536x1024_S65536_d1 Cert.Reference4Ideal.Gen.h_S_)) (broadcastInDim Cert.Reference4Ideal.S65536x1 ![] Cert.Reference4Ideal.Gen.bcast_S_S65536x1 (constant Cert.Reference4Ideal.S_ .f32 0x44800000#32))))

/-- The layer norm from the centred rows. -/
def norm (d : FVec Ideal S65536x1024 .f32) (g b : FVec Ideal S1024 .f32) : FVec Ideal S65536x1024 .f32 :=
  addf (mulf (mulf d (broadcastInDim S65536x1024 ![0, 1] Cert.Reference4Ideal.Gen.bcast_S65536x1_S65536x1024_0_1 (Host.rsqrt (addf (Host.divf (broadcastInDim Cert.Reference4Ideal.S65536x1 ![0] Cert.Reference4Ideal.Gen.bcast_S65536_S65536x1_0 (Host.reduceAdd (mulf d d) (constant Cert.Reference4Ideal.S_ .f32 0x00000000#32) Cert.Reference4Ideal.Gen.reducesTo_S65536x1024_S65536_d1 Cert.Reference4Ideal.Gen.h_S_)) (broadcastInDim Cert.Reference4Ideal.S65536x1 ![] Cert.Reference4Ideal.Gen.bcast_S_S65536x1 (constant Cert.Reference4Ideal.S_ .f32 0x44800000#32))) (broadcastInDim Cert.Reference4Ideal.S65536x1 ![] Cert.Reference4Ideal.Gen.bcast_S_S65536x1 (constant Cert.Reference4Ideal.S_ .f32 0x3727C5AC#32))))))
    (broadcastInDim S65536x1024 ![0, 1] Cert.Reference4Ideal.Gen.bcast_S1x1024_S65536x1024_0_1 (broadcastInDim S1x1024 ![1] Cert.Reference4Ideal.Gen.bcast_S1024_S1x1024_1 g)))
    (broadcastInDim S65536x1024 ![0, 1] Cert.Reference4Ideal.Gen.bcast_S1x1024_S65536x1024_0_1 (broadcastInDim S1x1024 ![1] Cert.Reference4Ideal.Gen.bcast_S1024_S1x1024_1 b))

/-- The plain program's result. -/
theorem res_eq (m : (ℓ : Loc Cert.Reference4Ideal.nD Cert.Reference4Ideal.τ Cert.Reference4Ideal.sig) → Buf (Elt Ideal) ℓ) (c : Dev nD) :
    Cert.Reference4Ideal.Value.res_main_v30 m c = norm (centred (sum (m ((c.tc : Thread nD τ).loc Cert.Reference4Ideal.main_arg0)) (m ((c.tc : Thread nD τ).loc Cert.Reference4Ideal.main_arg1))
      (m ((c.tc : Thread nD τ).loc Cert.Reference4Ideal.main_arg2)) (m ((c.tc : Thread nD τ).loc Cert.Reference4Ideal.main_arg3)))) (m ((c.tc : Thread nD τ).loc Cert.Reference4Ideal.main_arg4)) (m ((c.tc : Thread nD τ).loc Cert.Reference4Ideal.main_arg5)) := rfl

variable (m : (ℓ : Loc nD τ sig) → Buf (Elt Ideal) ℓ)

/-- Where each window stands at a point: the rows move with the point, the weights do not. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0])

/-- The sum of a block is the sum at the block's rows. -/
theorem sum_at (c : Dev nD) (t : Fin cfg0.N) (y) : blockSum (iblk m c 0 t) (iblk m c 2 t) (iblk m c 1 t) (iblk m c 3 t) (iblk m c 4 t) y
    = sum (m ((c : Thread nD τ).loc main_arg0)) (m ((c : Thread nD τ).loc main_arg1)) (m ((c : Thread nD τ).loc main_arg2))
        (m ((c : Thread nD τ).loc main_arg3)) (((cfg0.win 7).blk t).view.emb y) := by
  pointwise [blockSum, sum]
  blk_point [iblk, V, idx t]

/-- The centred rows of a block are the centred rows at its place. -/
theorem centred_at (c : Dev nD) (t : Fin cfg0.N) (y) : blockCentred (blockSum (iblk m c 0 t) (iblk m c 2 t) (iblk m c 1 t) (iblk m c 3 t) (iblk m c 4 t)) y
    = centred (sum (m ((c : Thread nD τ).loc main_arg0)) (m ((c : Thread nD τ).loc main_arg1)) (m ((c : Thread nD τ).loc main_arg2))
        (m ((c : Thread nD τ).loc main_arg3))) (((cfg0.win 7).blk t).view.emb y) := by
  pointwise [blockCentred, centred]
  simp only [sum_at]
  blk_point [iblk, V, idx t]

/-- What a point writes is the layer norm at the rows the point holds. -/
theorem point (c : Dev nD) (t : Fin cfg0.N) (y) : k0_pay1 (iblk m c 0 t) (iblk m c 2 t) (iblk m c 1 t) (iblk m c 3 t) (iblk m c 4 t) (iblk m c 5 t) (iblk m c 6 t) y
    = norm (centred (sum (m ((c : Thread nD τ).loc main_arg0)) (m ((c : Thread nD τ).loc main_arg1)) (m ((c : Thread nD τ).loc main_arg2))
        (m ((c : Thread nD τ).loc main_arg3)))) (m ((c : Thread nD τ).loc main_arg4)) (m ((c : Thread nD τ).loc main_arg5)) (((cfg0.win 7).blk t).view.emb y) := by
  rw [pay_eq]
  pointwise [blockNorm, norm]
  simp only [centred_at]
  blk_point [iblk, V, idx t]

/-- The array after the run is the layer norm of the sum. -/
theorem final (c : Dev nD) : (dats m 0 c).arrAt 7 (cfgs 0).N
    = norm (centred (sum (m ((c : Thread nD τ).loc main_arg0)) (m ((c : Thread nD τ).loc main_arg1)) (m ((c : Thread nD τ).loc main_arg2))
        (m ((c : Thread nD τ).loc main_arg3)))) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point m c t y

/-- The projection with its residual and layer norm, row block by row block, is that of the plain program. -/
theorem algebraic : Cert.algebraic_Kernel4Ideal_Reference4Ideal := by
  intro m g m' g' _ hag
  refine ⟨_, (θ_run defs _ _).mono (fun r h c => ⟨(h c).1.trans (final m c), (h c).2⟩) (Value.run_blocks m g), ?_⟩
  refine (θ_run _ _ _).mono (fun r h c => ⟨(h c).1.trans ?_, (h c).2⟩) (Cert.Reference4Ideal.Value.run m' g')
  obtain ⟨h0, h1, h2, h3, h4, h5⟩ := hag c
  rw [res_eq, h0, h1, h2, h3, h4, h5]

end Cert.Out4

end
-- ==== Proof.Out5.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384
set_option maxHeartbeats 1000000

noncomputable section

namespace Cert.Out5

open Cert.Kernel5Ideal Cert.Kernel5Ideal.Gen Idealize.ShloMosaic Idealize.ShloMosaic.TcCoe Idealize.SL.Sem
open Idealize.ShloMosaic.Pipeline (Dat)

/-! ## The layer norm of a block of rows, and of all rows -/

/-- What the kernel normalises: the scaled input plus the two products. -/
def blockSum (v0 : FVec Ideal S512x768 .bf16) (v1 : FVec Ideal S768x1024 .bf16) (v4 : FVec Ideal S512x256 .bf16)
    (v5 : FVec Ideal S256x1024 .bf16) (v9 : FVec Ideal S512x1024 .f32) : FVec Ideal S512x1024 .f32 :=
  addf (mulf (broadcast S512x1024 (Scalar.ofBits .f32 0x3FD744FD#32)) v9)
    (addf (matmul dot_S512x768_S768x1024_S512x1024_1_0_0_1_n_n none v0 (shapeCast S768x1024 v1 shapeCasts_S768x1024_S768x1024) (constant S512x1024 .f32 0x00000000#32))
      (matmul dot_S512x256_S256x1024_S512x1024_1_0_0_1_n_n none v4 (shapeCast S256x1024 v5 shapeCasts_S256x1024_S256x1024) (constant S512x1024 .f32 0x00000000#32)))

/-- The rows of a block less their means. -/
def blockCentred (v12 : FVec Ideal S512x1024 .f32) : FVec Ideal S512x1024 .f32 :=
  subf v12 (broadcastTo S512x1024 (divf (shapeCast S512x1 (multiReduction .add [1] S512 v12 0x00000000#32 reduces_S512x1024_S512 (.inl rfl) rfl) shapeCasts_S512_S512x1)
    (broadcast S512x1 (Scalar.ofBits .f32 0x44800000#32))) broadcasts_S512x1_S512x1024)

/-- The layer norm of a block from its centred rows. -/
def blockNorm (v22 : FVec Ideal S512x1024 .f32) (v13 v15 : FVec Ideal S1x1024 .f32) : FVec Ideal S512x1024 .f32 :=
  addf (mulf (mulf v22 (broadcastTo S512x1024 (rsqrt (addf (divf (shapeCast S512x1 (multiReduction .add [1] S512 (mulf v22 v22) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024))
    (broadcastTo S512x1024 (shapeCast S1x1024 v13 shapeCasts_S1x1024_S1x1024) broadcasts_S1x1024_S512x1024))
    (broadcastTo S512x1024 (shapeCast S1x1024 v15 shapeCasts_S1x1024_S1x1024) broadcasts_S1x1024_S512x1024)

/-- The kernel's block is the layer norm of its sum. -/
theorem pay_eq (v0 v1 v4 v5 v9 v13 v15) :
    k0_pay1 (F := Ideal) v0 v1 v4 v5 v9 v13 v15 = blockNorm (blockCentred (blockSum v0 v1 v4 v5 v9)) v13 v15 := rfl

/-- What the plain program normalises. -/
def sum (a : FVec Ideal S65536x768 .bf16) (b : FVec Ideal S65536x256 .bf16) (w : FVec Ideal S1024x1024 .f32)
    (x : FVec Ideal S65536x1024 .f32) : FVec Ideal S65536x1024 .f32 :=
  addf (mulf (broadcastInDim S65536x1024 ![] Cert.Reference5Ideal.Gen.bcast_S_S65536x1024 (constant Cert.Reference5Ideal.S_ .f32 0x3FD744FD#32)) x)
    (Host.dotGeneral Cert.Reference5Ideal.dot_S65536x1024_S1024x1024_S65536x1024_1_0_0_1_n_n none
      (concatenate S65536x1024 1 [⟨S65536x768, (extf .f32 a Cert.Reference5Ideal.Gen.bitsLt_bf16_f32)⟩, ⟨S65536x256, (extf .f32 b Cert.Reference5Ideal.Gen.bitsLt_bf16_f32)⟩] Cert.Reference5Ideal.Gen.concatenates_S65536x768_S65536x256_S65536x1024_d1) w)

/-- The rows less their means. -/
def centred (s : FVec Ideal S65536x1024 .f32) : FVec Ideal S65536x1024 .f32 :=
  subf s (broadcastInDim S65536x1024 ![0, 1] Cert.Reference5Ideal.Gen.bcast_S65536x1_S65536x1024_0_1 (Host.divf (broadcastInDim Cert.Reference5Ideal.S65536x1 ![0] Cert.Reference5Ideal.Gen.bcast_S65536_S65536x1_0 (Host.reduceAdd s (constant Cert.Reference5Ideal.S_ .f32 0x00000000#32) Cert.Reference5Ideal.Gen.reducesTo_S65536x1024_S65536_d1 Cert.Reference5Ideal.Gen.h_S_)) (broadcastInDim Cert.Reference5Ideal.S65536x1 ![] Cert.Reference5Ideal.Gen.bcast_S_S65536x1 (constant Cert.Reference5Ideal.S_ .f32 0x44800000#32))))

/-- The layer norm from the centred rows. -/
def norm (d : FVec Ideal S65536x1024 .f32) (g b : FVec Ideal S1024 .f32) : FVec Ideal S65536x1024 .f32 :=
  addf (mulf (mulf d (broadcastInDim S65536x1024 ![0, 1] Cert.Reference5Ideal.Gen.bcast_S65536x1_S65536x1024_0_1 (Host.rsqrt (addf (Host.divf (broadcastInDim Cert.Reference5Ideal.S65536x1 ![0] Cert.Reference5Ideal.Gen.bcast_S65536_S65536x1_0 (Host.reduceAdd (mulf d d) (constant Cert.Reference5Ideal.S_ .f32 0x00000000#32) Cert.Reference5Ideal.Gen.reducesTo_S65536x1024_S65536_d1 Cert.Reference5Ideal.Gen.h_S_)) (broadcastInDim Cert.Reference5Ideal.S65536x1 ![] Cert.Reference5Ideal.Gen.bcast_S_S65536x1 (constant Cert.Reference5Ideal.S_ .f32 0x44800000#32))) (broadcastInDim Cert.Reference5Ideal.S65536x1 ![] Cert.Reference5Ideal.Gen.bcast_S_S65536x1 (constant Cert.Reference5Ideal.S_ .f32 0x3727C5AC#32))))))
    (broadcastInDim S65536x1024 ![0, 1] Cert.Reference5Ideal.Gen.bcast_S1x1024_S65536x1024_0_1 (broadcastInDim S1x1024 ![1] Cert.Reference5Ideal.Gen.bcast_S1024_S1x1024_1 g)))
    (broadcastInDim S65536x1024 ![0, 1] Cert.Reference5Ideal.Gen.bcast_S1x1024_S65536x1024_0_1 (broadcastInDim S1x1024 ![1] Cert.Reference5Ideal.Gen.bcast_S1024_S1x1024_1 b))

/-- The plain program's result. -/
theorem res_eq (m : (ℓ : Loc Cert.Reference5Ideal.nD Cert.Reference5Ideal.τ Cert.Reference5Ideal.sig) → Buf (Elt Ideal) ℓ) (c : Dev nD) :
    Cert.Reference5Ideal.Value.res_main_v30 m c = norm (centred (sum (m ((c.tc : Thread nD τ).loc Cert.Reference5Ideal.main_arg0)) (m ((c.tc : Thread nD τ).loc Cert.Reference5Ideal.main_arg1))
      (m ((c.tc : Thread nD τ).loc Cert.Reference5Ideal.main_arg2)) (m ((c.tc : Thread nD τ).loc Cert.Reference5Ideal.main_arg3)))) (m ((c.tc : Thread nD τ).loc Cert.Reference5Ideal.main_arg4)) (m ((c.tc : Thread nD τ).loc Cert.Reference5Ideal.main_arg5)) := rfl

variable (m : (ℓ : Loc nD τ sig) → Buf (Elt Ideal) ℓ)

/-- Where each window stands at a point: the rows move with the point, the weights do not. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0])

/-- The sum of a block is the sum at the block's rows. -/
theorem sum_at (c : Dev nD) (t : Fin cfg0.N) (y) : blockSum (iblk m c 0 t) (iblk m c 2 t) (iblk m c 1 t) (iblk m c 3 t) (iblk m c 4 t) y
    = sum (m ((c : Thread nD τ).loc main_arg0)) (m ((c : Thread nD τ).loc main_arg1)) (m ((c : Thread nD τ).loc main_arg2))
        (m ((c : Thread nD τ).loc main_arg3)) (((cfg0.win 7).blk t).view.emb y) := by
  pointwise [blockSum, sum]
  blk_point [iblk, V, idx t]

/-- The centred rows of a block are the centred rows at its place. -/
theorem centred_at (c : Dev nD) (t : Fin cfg0.N) (y) : blockCentred (blockSum (iblk m c 0 t) (iblk m c 2 t) (iblk m c 1 t) (iblk m c 3 t) (iblk m c 4 t)) y
    = centred (sum (m ((c : Thread nD τ).loc main_arg0)) (m ((c : Thread nD τ).loc main_arg1)) (m ((c : Thread nD τ).loc main_arg2))
        (m ((c : Thread nD τ).loc main_arg3))) (((cfg0.win 7).blk t).view.emb y) := by
  pointwise [blockCentred, centred]
  simp only [sum_at]
  blk_point [iblk, V, idx t]

/-- What a point writes is the layer norm at the rows the point holds. -/
theorem point (c : Dev nD) (t : Fin cfg0.N) (y) : k0_pay1 (iblk m c 0 t) (iblk m c 2 t) (iblk m c 1 t) (iblk m c 3 t) (iblk m c 4 t) (iblk m c 5 t) (iblk m c 6 t) y
    = norm (centred (sum (m ((c : Thread nD τ).loc main_arg0)) (m ((c : Thread nD τ).loc main_arg1)) (m ((c : Thread nD τ).loc main_arg2))
        (m ((c : Thread nD τ).loc main_arg3)))) (m ((c : Thread nD τ).loc main_arg4)) (m ((c : Thread nD τ).loc main_arg5)) (((cfg0.win 7).blk t).view.emb y) := by
  rw [pay_eq]
  pointwise [blockNorm, norm]
  simp only [centred_at]
  blk_point [iblk, V, idx t]

/-- The array after the run is the layer norm of the sum. -/
theorem final (c : Dev nD) : (dats m 0 c).arrAt 7 (cfgs 0).N
    = norm (centred (sum (m ((c : Thread nD τ).loc main_arg0)) (m ((c : Thread nD τ).loc main_arg1)) (m ((c : Thread nD τ).loc main_arg2))
        (m ((c : Thread nD τ).loc main_arg3)))) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point m c t y

/-- The projection with its residual and layer norm, row block by row block, is that of the plain program. -/
theorem algebraic : Cert.algebraic_Kernel5Ideal_Reference5Ideal := by
  intro m g m' g' _ hag
  refine ⟨_, (θ_run defs _ _).mono (fun r h c => ⟨(h c).1.trans (final m c), (h c).2⟩) (Value.run_blocks m g), ?_⟩
  refine (θ_run _ _ _).mono (fun r h c => ⟨(h c).1.trans ?_, (h c).2⟩) (Cert.Reference5Ideal.Value.run m' g')
  obtain ⟨h0, h1, h2, h3, h4, h5⟩ := hag c
  rw [res_eq, h0, h1, h2, h3, h4, h5]

end Cert.Out5

end
-- ==== Proof.Glu.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Glu

open Cert.Kernel6Ideal Cert.Kernel6Ideal.Gen Idealize.ShloMosaic Idealize.ShloMosaic.TcCoe Idealize.SL.Sem
open Idealize.ShloMosaic.Pipeline (Dat)

/-- The gated unit of the rows `g` under the weights `w`: each row times the logistic function of its product with the weights. -/
abbrev gated (g : FVec Ideal S65536x512 .f32) (w : FVec Ideal S512x512 .f32) : FVec Ideal S65536x512 .bf16 :=
  truncf .bf16 (mulf g (Host.divf (broadcastInDim S65536x512 ![] Cert.Reference6Ideal.Gen.bcast_S_S65536x512 (constant Cert.Reference6Ideal.S_ .f32 0x3F800000#32)) (addf (broadcastInDim S65536x512 ![] Cert.Reference6Ideal.Gen.bcast_S_S65536x512 (constant Cert.Reference6Ideal.S_ .f32 0x3F800000#32)) (Host.exp (Host.negf (Host.dotGeneral Cert.Reference6Ideal.dot_S65536x512_S512x512_S65536x512_1_0_0_1_n_n none g w)))))) Cert.Reference6Ideal.Gen.bitsLt_bf16_f32

variable (m : (ℓ : Loc nD τ sig) → Buf (Elt Ideal) ℓ)

/-- Where each window stands at a point: the rows move with the point, the weights do not. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The staged weights are the weights. -/
theorem weights (c : Dev nD) : V m c main_v0 = m ((c : Thread nD τ).loc main_arg1) := by
  entry_read
  rfl

/-- What a point writes is the gated unit at the rows the point holds. -/
theorem point (c : Dev nD) (t : Fin cfg0.N) (y) : k0_pay1 (iblk m c 0 t) (iblk m c 1 t) (iblk m c 0 t) y
    = gated (m ((c : Thread nD τ).loc main_arg0)) (m ((c : Thread nD τ).loc main_arg1)) (((cfg0.win 2).blk t).view.emb y) := by
  pointwise [k0_pay1, gated]
  rw [zero_sub]
  blk_point [iblk, V, idx t]

/-- The array after the run is the gated unit. -/
theorem final (c : Dev nD) : (dats m 0 c).arrAt 2 (cfgs 0).N
    = gated (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The gated unit computed block by block is the gated unit of the plain program. -/
theorem algebraic : Cert.algebraic_Kernel6Ideal_Reference6Ideal := by
  intro m g m' g' _ hag
  refine ⟨fun c => gated (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run _ _ _).mono (fun r h c => ⟨(h c).1.trans ?_, (h c).2⟩) (Cert.Reference6Ideal.Value.run m' g')
    rw [(hag c).1, (hag c).2]

end Cert.Glu

end
-- ==== Proof.ExpertsBlock.lean ====
module

public import proofs.«01_k».proof.Proof.InRange
public import Idealize.ShloMosaic.Lib.Pipeline.ValueKit
public import Idealize.ShloMosaic.Lib.Pipeline.ReadBack
public import Idealize.ShloMosaic.Lib.Claim

@[expose] public section

set_option maxRecDepth 16384
set_option maxHeartbeats 1000000

noncomputable section

namespace Cert.Experts

open Cert.Kernel7Ideal Cert.Kernel7Ideal.Gen Cert.Moe Idealize.ShloMosaic Idealize.ShloMosaic.TcCoe Idealize.SL.Sem
open Idealize.ShloMosaic.Pipeline (Dat)

variable (m : (ℓ : Loc nD τ sig) → Buf (Elt Ideal) ℓ) (hr : InRange m)

/-- What expert `e` makes of row `r`, in column `d`. -/
def expert (X : FVec Ideal S94208x1024 .f32) (Wg Wu : FVec Ideal S32x1024x256 .f32) (Wd : FVec Ideal S32x256x1024 .f32)
    (e : Fin 32) (r : Fin 94208) (d : Fin 1024) : EReal :=
  ∑ f : Fin 256, ((∑ k : Fin 1024, X (ix2 r k) * Wg (ix3 e k f)) *
      Ideal.div 1 (1 + Ideal.exp (- ∑ k : Fin 1024, X (ix2 r k) * Wg (ix3 e k f))) *
      ∑ k : Fin 1024, X (ix2 r k) * Wu (ix3 e k f)) * Wd (ix3 e f d)

/-- The left half's payload at an index. -/
theorem left_at (x0 : Vec Ideal S256x1024 .f32) (x1 x2 : Vec Ideal S1x1024x256 .bf16) (x3 : Vec Ideal S1x256x1024 .bf16)
    (X : FVec Ideal S94208x1024 .f32) (Wg Wu : FVec Ideal S32x1024x256 .f32) (Wd : FVec Ideal S32x256x1024 .f32) (e : Fin 32) (r : Fin 94208)
    (p : Fin 256) (d : Fin 1024) (h0 : ∀ k, x0 (ix2 p k) = X (ix2 r k)) (h1 : ∀ k f, x1 (ix3 0 k f) = Wg (ix3 e k f))
    (h2 : ∀ k f, x2 (ix3 0 k f) = Wu (ix3 e k f)) (h3 : ∀ f d, x3 (ix3 0 f d) = Wd (ix3 e f d)) :
    k0_pay4 (F := Ideal) x0 x1 x2 x3 (ix2 p d) = expert X Wg Wu Wd e r d := by
  pointwise [k0_pay4, k0_pay3]
  unfold expert
  simp only [zero_sub, h0, h1, h2, h3]

/-- The right half's payload at an index. -/
theorem right_at (x0 : Vec Ideal S256x1024 .f32) (x1 x2 : Vec Ideal S1x1024x256 .bf16) (x3 : Vec Ideal S1x256x1024 .bf16)
    (X : FVec Ideal S94208x1024 .f32) (Wg Wu : FVec Ideal S32x1024x256 .f32) (Wd : FVec Ideal S32x256x1024 .f32) (e : Fin 32) (r : Fin 94208)
    (p : Fin 256) (d : Fin 1024) (h0 : ∀ k, x0 (ix2 p k) = X (ix2 r k)) (h1 : ∀ k f, x1 (ix3 0 k f) = Wg (ix3 e k f))
    (h2 : ∀ k f, x2 (ix3 0 k f) = Wu (ix3 e k f)) (h3 : ∀ f d, x3 (ix3 0 f d) = Wd (ix3 e f d)) :
    k0_pay1 (F := Ideal) (k0_pay3 x0) (k0_pay5 x0 x1) x2 x3 (ix2 p d) = expert X Wg Wu Wd e r d := by
  pointwise [k0_pay1, k0_pay3, k0_pay5]
  unfold expert
  simp only [zero_sub, h0, h1, h2, h3]

/-- The expert a table names for a block. -/
def chosen (T : IVec S368 32) (n : Fin 368) : Fin 32 := ⟨(T (ix1 n)).toNat % 32, Nat.mod_lt _ (by decide)⟩

/-- A row's block. -/
def blockOf (r : Fin 94208) : Fin 368 := ⟨r.val / 256, by have := r.isLt; omega⟩

/-- The result: rows of the blocks in use through the block's two experts side by side, zero past them. -/
def out (ta tb : IVec S368 32) (n : BitVec 32) (X : FVec Ideal S94208x1024 .f32) (Wg Wu : FVec Ideal S32x1024x256 .f32)
    (Wd : FVec Ideal S32x256x1024 .f32) : FVec Ideal S94208x2048 .f32 := fun j =>
  if (BitVec.ofNat 32 (blockOf (j 0)).val).toInt < n.toInt then
    if h : (j 1).val < 1024 then expert X Wg Wu Wd (chosen ta (blockOf (j 0))) (j 0) ⟨(j 1).val, h⟩
    else expert X Wg Wu Wd (chosen tb (blockOf (j 0))) (j 0) ⟨(j 1).val - 1024, by have : (j 1).val < 2048 := (j 1).isLt; omega⟩
  else 0

/-- The point's coordinate is its number. -/
theorem coord : ∀ t : Fin grid0.N, (grid0.coords t 0).val = t.val := by decide +kernel

/-- A point's number as a word. -/
theorem num (t : Fin grid0.N) : (BitVec.ofNat 32 (grid0.coords t 0).val).toNat = t.val := by
  have h : t.val < 368 := t.isLt
  rw [coord, BitVec.toNat_ofNat]
  omega

/-- The block of a point. -/
def pt (t : Fin grid0.N) : Fin 368 := ⟨t.val, t.isLt⟩

/-- Where the row block stands. -/
theorem idx0 (t : Fin (pipe m hr).N) : ((pipe m hr).win 0).index t = ![t.val, 0] := by
  show cc0_transform_0 (grid0.coords t) = _
  unfold cc0_transform_0
  dsimp only
  rw [num]; rfl

/-- Where the output block stands. -/
theorem idx7 (t : Fin (pipe m hr).N) : ((pipe m hr).win 7).index t = ![t.val, 0] := by
  show cc0_transform_7 (grid0.coords t) = _
  unfold cc0_transform_7
  dsimp only
  rw [num]; rfl

/-- A table read at the point's place is its entry for the point's block. -/
theorem entry (T : IVec S368 32) (t : Fin grid0.N) (off : Fin 1 → ℕ) (inb) (j) (h : off 0 = t.val) :
    T ((Rect.unit (s := S368) off ![1] inb).emb j) = T (ix1 (pt t)) := by
  refine congrArg T (funext fun a => Fin.ext ?_)
  have hj : (j 0).val < 1 := (j 0).isLt
  match a with
  | ⟨0, _⟩ =>
    rw [Rect.emb_apply]
    show off 0 + 1 * (j 0).val = t.val
    omega

/-- A table's word for a point's block, and the expert it chooses, where the table is in range. -/
theorem chosen_val (T : IVec S368 32) (h : ∀ j, (T j).toNat < 32) (n : Fin 368) : (chosen T n).val = (T (ix1 n)).toNat :=
  Nat.mod_eq_of_lt (h _)

/-- Where window 1, a block of an expert's weights, stands. -/
theorem idx1 (t : Fin (pipe m hr).N) : ((pipe m hr).win 1).index t = ![(chosen (tables m 0) (pt t)).val, 0, 0] := by
  show cc0_transform_1 _ _ (tables m) (grid0.coords t) = _
  unfold cc0_transform_1
  dsimp only
  unfold Pipeline.Prefetch.Contents.at
  rw [chosen_val (tables m 0) hr.1]
  refine congrArg (fun v : BitVec 32 => (![v.toNat, 0, 0] : Fin 3 → ℕ)) (entry (tables m 0) t _ _ _ (num t))

/-- Where window 2, a block of an expert's weights, stands. -/
theorem idx2 (t : Fin (pipe m hr).N) : ((pipe m hr).win 2).index t = ![(chosen (tables m 0) (pt t)).val, 0, 0] := by
  show cc0_transform_2 _ _ (tables m) (grid0.coords t) = _
  unfold cc0_transform_2
  dsimp only
  unfold Pipeline.Prefetch.Contents.at
  rw [chosen_val (tables m 0) hr.1]
  refine congrArg (fun v : BitVec 32 => (![v.toNat, 0, 0] : Fin 3 → ℕ)) (entry (tables m 0) t _ _ _ (num t))

/-- Where window 3, a block of an expert's weights, stands. -/
theorem idx3 (t : Fin (pipe m hr).N) : ((pipe m hr).win 3).index t = ![(chosen (tables m 0) (pt t)).val, 0, 0] := by
  show cc0_transform_3 _ _ (tables m) (grid0.coords t) = _
  unfold cc0_transform_3
  dsimp only
  unfold Pipeline.Prefetch.Contents.at
  rw [chosen_val (tables m 0) hr.1]
  refine congrArg (fun v : BitVec 32 => (![v.toNat, 0, 0] : Fin 3 → ℕ)) (entry (tables m 0) t _ _ _ (num t))

/-- Where window 4, a block of an expert's weights, stands. -/
theorem idx4 (t : Fin (pipe m hr).N) : ((pipe m hr).win 4).index t = ![(chosen (tables m 1) (pt t)).val, 0, 0] := by
  show cc0_transform_4 _ _ (tables m) (grid0.coords t) = _
  unfold cc0_transform_4
  dsimp only
  unfold Pipeline.Prefetch.Contents.at
  rw [chosen_val (tables m 1) hr.2]
  refine congrArg (fun v : BitVec 32 => (![v.toNat, 0, 0] : Fin 3 → ℕ)) (entry (tables m 1) t _ _ _ (num t))

/-- Where window 5, a block of an expert's weights, stands. -/
theorem idx5 (t : Fin (pipe m hr).N) : ((pipe m hr).win 5).index t = ![(chosen (tables m 1) (pt t)).val, 0, 0] := by
  show cc0_transform_5 _ _ (tables m) (grid0.coords t) = _
  unfold cc0_transform_5
  dsimp only
  unfold Pipeline.Prefetch.Contents.at
  rw [chosen_val (tables m 1) hr.2]
  refine congrArg (fun v : BitVec 32 => (![v.toNat, 0, 0] : Fin 3 → ℕ)) (entry (tables m 1) t _ _ _ (num t))

/-- Where window 6, a block of an expert's weights, stands. -/
theorem idx6 (t : Fin (pipe m hr).N) : ((pipe m hr).win 6).index t = ![(chosen (tables m 1) (pt t)).val, 0, 0] := by
  show cc0_transform_6 _ _ (tables m) (grid0.coords t) = _
  unfold cc0_transform_6
  dsimp only
  unfold Pipeline.Prefetch.Contents.at
  rw [chosen_val (tables m 1) hr.2]
  refine congrArg (fun v : BitVec 32 => (![v.toNat, 0, 0] : Fin 3 → ℕ)) (entry (tables m 1) t _ _ _ (num t))

/-- The staged weights of argument 4 are the argument. -/
theorem V_v0 (c : Dev nD) : V m c main_v0 = m ((c : Thread nD τ).loc main_arg4) := by
  unfold V hostOps0
  after_results
  rfl

/-- The staged weights of argument 5 are the argument. -/
theorem V_v1 (c : Dev nD) : V m c main_v1 = m ((c : Thread nD τ).loc main_arg5) := by
  unfold V hostOps0
  after_results
  rfl

/-- The staged weights of argument 6 are the argument. -/
theorem V_v2 (c : Dev nD) : V m c main_v2 = m ((c : Thread nD τ).loc main_arg6) := by
  unfold V hostOps0
  after_results
  rfl

/-- The staged rows. -/
theorem rows_at (c : Dev nD) (t : Fin (pipe m hr).N) (p : Fin 256) (k : Fin 1024) (r : Fin 94208) (h : r.val = t.val * 256 + p.val) :
    iblk m hr c 0 t (ix2 p k) = m ((c : Thread nD τ).loc main_arg3) (ix2 r k) := by
  have e : V m c main_arg3 = m ((c : Thread nD τ).loc main_arg3) := V_arg3 m c
  rw [← e]
  blk_ext [iblk, idx0 m hr t]

/-- The weights in window 1 are those of the expert the table names. -/
theorem w1_at (c : Dev nD) (t : Fin (pipe m hr).N) (k : Fin 1024) (f : Fin 256) :
    iblk m hr c 1 t (ix3 0 k f) = m ((c : Thread nD τ).loc main_arg4) (ix3 (chosen (tables m 0) (pt t)) k f) := by
  rw [← V_v0 m c]
  blk_ext [iblk, idx1 m hr t]

/-- The weights in window 2 are those of the expert the table names. -/
theorem w2_at (c : Dev nD) (t : Fin (pipe m hr).N) (k : Fin 1024) (f : Fin 256) :
    iblk m hr c 2 t (ix3 0 k f) = m ((c : Thread nD τ).loc main_arg5) (ix3 (chosen (tables m 0) (pt t)) k f) := by
  rw [← V_v1 m c]
  blk_ext [iblk, idx2 m hr t]

/-- The weights in window 3 are those of the expert the table names. -/
theorem w3_at (c : Dev nD) (t : Fin (pipe m hr).N) (k : Fin 256) (f : Fin 1024) :
    iblk m hr c 3 t (ix3 0 k f) = m ((c : Thread nD τ).loc main_arg6) (ix3 (chosen (tables m 0) (pt t)) k f) := by
  rw [← V_v2 m c]
  blk_ext [iblk, idx3 m hr t]

/-- The weights in window 4 are those of the expert the table names. -/
theorem w4_at (c : Dev nD) (t : Fin (pipe m hr).N) (k : Fin 1024) (f : Fin 256) :
    iblk m hr c 4 t (ix3 0 k f) = m ((c : Thread nD τ).loc main_arg4) (ix3 (chosen (tables m 1) (pt t)) k f) := by
  rw [← V_v0 m c]
  blk_ext [iblk, idx4 m hr t]

/-- The weights in window 5 are those of the expert the table names. -/
theorem w5_at (c : Dev nD) (t : Fin (pipe m hr).N) (k : Fin 1024) (f : Fin 256) :
    iblk m hr c 5 t (ix3 0 k f) = m ((c : Thread nD τ).loc main_arg5) (ix3 (chosen (tables m 1) (pt t)) k f) := by
  rw [← V_v1 m c]
  blk_ext [iblk, idx5 m hr t]

/-- The weights in window 6 are those of the expert the table names. -/
theorem w6_at (c : Dev nD) (t : Fin (pipe m hr).N) (k : Fin 256) (f : Fin 1024) :
    iblk m hr c 6 t (ix3 0 k f) = m ((c : Thread nD τ).loc main_arg6) (ix3 (chosen (tables m 1) (pt t)) k f) := by
  rw [← V_v2 m c]
  blk_ext [iblk, idx6 m hr t]

end Cert.Experts

end
-- ==== Proof.ExpertsOut.lean ====
module

public import proofs.«01_k».proof.Proof.ExpertsBlock
public import Idealize.ShloMosaic.Lib.Pipeline.ValueKit
public import Idealize.ShloMosaic.Lib.Pipeline.ReadBack
public import Idealize.ShloMosaic.Lib.Pipeline.Covers
public import Idealize.ShloMosaic.Lib.Claim

@[expose] public section

set_option maxRecDepth 16384
set_option maxHeartbeats 1000000

noncomputable section

namespace Cert.Experts

open Cert.Kernel7Ideal Cert.Kernel7Ideal.Gen Cert.Moe Idealize.ShloMosaic Idealize.ShloMosaic.TcCoe Idealize.SL.Sem
open Idealize.ShloMosaic.Pipeline (Dat)

variable (m : (ℓ : Loc nD τ sig) → Buf (Elt Ideal) ℓ) (hr : InRange m)

/-- The two halves at an index of the left one. -/
theorem at_left (p1 p0 : Vec Ideal S256x1024 .f32) (y : S256x2048.Idx) (x : S256x1024.Idx) (h0 : (y 0).val = (x 0).val)
    (h1 : (y 1).val = (x 1).val) : View.canon (Val := Elt Ideal) [⟨right, p1⟩, ⟨left, p0⟩] y = p0 x := by
  have hn : y ∉ (right : Rect S256x2048).set := by
    intro hm
    obtain ⟨z, hz⟩ := (right : Rect S256x2048).exists_idx_of_mem hm
    have e : (y 1).val = 1024 + 1 * (z 1).val := by rw [← hz]; rfl
    have := (x 1).isLt
    have hb : (x 1).val < 1024 := this
    omega
  refine (View.canon_cons_of_not_mem (Val := Elt Ideal) ⟨right, p1⟩ [⟨left, p0⟩] hn).trans ?_
  have e : y = (left : Rect S256x2048).emb x := by
    funext a
    apply Fin.ext
    match a with
    | ⟨0, _⟩ =>
      rw [Rect.emb_apply]
      show (y 0).val = 0 + 1 * (x 0).val
      omega
    | ⟨1, _⟩ =>
      rw [Rect.emb_apply]
      show (y 1).val = 0 + 1 * (x 1).val
      omega
  rw [e]
  exact View.canon_cons_emb (Val := Elt Ideal) left p0 [] x

/-- The two halves at an index of the right one. -/
theorem at_right (p1 p0 : Vec Ideal S256x1024 .f32) (y : S256x2048.Idx) (x : S256x1024.Idx) (h0 : (y 0).val = (x 0).val)
    (h1 : (y 1).val = 1024 + (x 1).val) : View.canon (Val := Elt Ideal) [⟨right, p1⟩, ⟨left, p0⟩] y = p1 x := by
  have e : y = (right : Rect S256x2048).emb x := by
    funext a
    apply Fin.ext
    match a with
    | ⟨0, _⟩ =>
      rw [Rect.emb_apply]
      show (y 0).val = 0 + 1 * (x 0).val
      omega
    | ⟨1, _⟩ =>
      rw [Rect.emb_apply]
      show (y 1).val = 1024 + 1 * (x 1).val
      omega
  rw [e]
  exact View.canon_cons_emb (Val := Elt Ideal) right p1 [⟨left, p0⟩] x

/-- The block at an index is the result there. -/
theorem point (c : Dev nD) (t : Fin (pipe m hr).N) (y : S256x2048.Idx) (j : S94208x2048.Idx) (h0 : (j 0).val = t.val * 256 + (y 0).val)
    (h1 : (j 1).val = (y 1).val) : oblk m hr c t y
      = out (tables m 0) (tables m 1) (used m) (m ((c : Thread nD τ).loc main_arg3)) (m ((c : Thread nD τ).loc main_arg4))
          (m ((c : Thread nD τ).loc main_arg5)) (m ((c : Thread nD τ).loc main_arg6)) j := by
  have hy0 : (y 0).val < 256 := (y 0).isLt
  have hy1 : (y 1).val < 2048 := (y 1).isLt
  have hb : blockOf (j 0) = pt t := Fin.ext (by show (j 0).val / 256 = t.val; omega)
  unfold oblk blkOut out
  rw [hb]
  by_cases hc : k0_cond1 (grid0.coords t) (used m) = 1#1
  · have hc' := (cond1_iff _ _).mp hc
    rw [coord] at hc'
    rw [if_pos hc, if_pos (show (BitVec.ofNat 32 (pt t).val).toInt < (used m).toInt from hc')]
    by_cases hl : (j 1).val < 1024
    · rw [dif_pos hl]
      refine (at_left _ _ y (ix2 ⟨(y 0).val, hy0⟩ ⟨(j 1).val, hl⟩) rfl h1.symm).trans ?_
      exact left_at _ _ _ _ _ _ _ _ _ _ _ _ (fun k => rows_at m hr c t _ k _ h0) (w1_at m hr c t) (w2_at m hr c t) (w3_at m hr c t)
    · rw [dif_neg hl]
      refine (at_right _ _ y (ix2 ⟨(y 0).val, hy0⟩ ⟨(j 1).val - 1024, by omega⟩) rfl (by show (y 1).val = 1024 + ((j 1).val - 1024); omega)).trans ?_
      exact right_at _ _ _ _ _ _ _ _ _ _ _ _ (fun k => rows_at m hr c t _ k _ h0) (w4_at m hr c t) (w5_at m hr c t) (w6_at m hr c t)
  · have hc' := fun h => hc ((cond1_iff _ _).mpr h)
    rw [coord] at hc'
    rw [if_neg hc, if_neg (show ¬ (BitVec.ofNat 32 (pt t).val).toInt < (used m).toInt from hc')]
    pointwise [k0_pay2]

/-- The blocks of the output cover it: block `n` of rows is point `n`'s. -/
theorem covers : ((pipe m hr).win 7).Covers := by
  refine ((pipe m hr).win 7).covers_of_indexMap_surj rfl ?_ fun β => ?_
  · intro a
    match a with
    | ⟨0, _⟩ => exact (by decide : 0 < 256)
    | ⟨1, _⟩ => exact (by decide : 0 < 2048)
  · have h0 : (β (0 : Fin 2)).val < 368 := lt_of_lt_of_eq (β (0 : Fin 2)).isLt (by decide : (94208 + 256 - 1) / 256 = 368)
    have h1 : (β (1 : Fin 2)).val < 1 := lt_of_lt_of_eq (β (1 : Fin 2)).isLt (by decide : (2048 + 2048 - 1) / 2048 = 1)
    have e := idx7 m hr ⟨(β (0 : Fin 2)).val, h0⟩
    refine ⟨(pipe m hr).grid.coords ⟨(β (0 : Fin 2)).val, h0⟩, fun a => (congrFun e a).trans ?_⟩
    match a with
    | ⟨0, _⟩ => rfl
    | ⟨1, _⟩ => show 0 = (β (1 : Fin 2)).val; omega

/-- The array after the run. -/
theorem final (c : Dev nD) : (dats m hr 0 c).arrAt 7 (pipe m hr).N
    = out (tables m 0) (tables m 1) (used m) (m ((c : Thread nD τ).loc main_arg3)) (m ((c : Thread nD τ).loc main_arg4))
          (m ((c : Thread nD τ).loc main_arg5)) (m ((c : Thread nD τ).loc main_arg6)) := by
  refine (dats m hr 0 c).arrAt_eq_of_covers 7 _ (covers m hr) fun t _ y => ?_
  blk_simp
  rw [after_7]
  refine point m hr c t y _ ?_ ?_
  · blk_simp [idx7 m hr t]
  · blk_simp [idx7 m hr t]

end Cert.Experts

end
-- ==== Proof.ExpertsRef.lean ====
module

public import proofs.«01_k».proof.Proof.ExpertsBlock
public import proofs.«01_k».proof.Proof.Gen.Reference7Ideal.Run
public import Idealize.ShloMosaic.Lib.Pipeline.ValueKit
public import Idealize.ShloMosaic.Lib.Claim

@[expose] public section

set_option maxRecDepth 16384
set_option maxHeartbeats 1000000

noncomputable section

namespace Cert.Experts

open Cert.Reference7Ideal Cert.Reference7Ideal.Gen Idealize.ShloMosaic Idealize.ShloMosaic.TcCoe Idealize.SL.Sem

/-- Whole matrices of a stack of 32 taken at a column of numbers: the dimension numbers. -/
abbrev matrixDims (R Q : ℕ) (wf : GatherDims.WF ⟨3, ![32, R, Q]⟩ S368x1 ⟨3, ![368, R, Q]⟩ [1, 2] [0] [] [0] [] 1 ![1, R, Q]) :
    GatherDims ⟨3, ![32, R, Q]⟩ S368x1 ⟨3, ![368, R, Q]⟩ where
  offsetDims := [1, 2]
  collapsedSliceDims := [0]
  operandBatchingDims := []
  startIndicesBatchingDims := []
  startIndexMap := [0]
  indexVectorDim := 1
  sliceSizes := ![1, R, Q]
  wf := wf

/-- Taken at a number below 32, a matrix is the one of that number. -/
theorem matrix_at {R Q : ℕ} (wf) (x : (⟨3, ![32, R, Q]⟩ : Shape).Idx → EReal) (idx : IVec S368x1 32) (n : Fin 368) (a : Fin R) (b : Fin Q)
    (e : Fin 32) (h : (idx (ix2 n (0 : Fin 1))).toInt.toNat = e.val) : Host.gather (matrixDims R Q wf) x idx (ix3 n a b) = x (ix3 e a b) := by
  unfold Host.gather
  refine congrArg x (funext fun i => Fin.ext ?_)
  show (matrixDims R Q wf).start (ix3 n a b) idx i + (matrixDims R Q wf).batchCoord (ix3 n a b) i + (matrixDims R Q wf).offCoord (ix3 n a b) i = (ix3 e a b i).val
  rw [(matrixDims R Q wf).batchCoord_eq_zero _ _ List.not_mem_nil, Nat.add_zero]
  match i with
  | ⟨0, _⟩ =>
    have hs : (matrixDims R Q wf).siIdx (ix3 n a b) ⟨0, Nat.one_pos⟩ = ix2 n (0 : Fin 1) := by
      funext k
      match k with
      | ⟨0, _⟩ => rfl
      | ⟨1, _⟩ => rfl
    show min (idx ((matrixDims R Q wf).siIdx (ix3 n a b) ⟨0, Nat.one_pos⟩)).toInt.toNat (32 - 1) + 0 = e.val
    rw [hs, h]
    have := e.isLt
    omega
  | ⟨1, _⟩ => exact Nat.zero_add a.val
  | ⟨2, _⟩ => exact Nat.zero_add b.val

/-- The numbers the plain program takes its matrices at. -/
def place (T : IVec S368 32) : IVec S368x1 32 :=
  broadcastInDim S368x1 ![0] bcast_S368_S368x1_0 (select (cmpi .slt T (broadcastInDim S368 ![] bcast_S_S368 (constantI S_ 32 0#32))) (addi T (broadcastInDim S368 ![] bcast_S_S368 (constantI S_ 32 32#32))) T)

/-- A word below 32 is not negative. -/
theorem not_neg (v : BitVec 32) (h : v.toNat < 32) : v.toInt = v.toNat ∧ IntOp.cmpi .slt v 0#32 = 0#1 := by
  have e : v.toInt = v.toNat := by
    rw [BitVec.toInt_eq_toNat_cond, if_pos (by omega)]
  refine ⟨e, (congrArg BitVec.ofBool (decide_eq_false ?_)).trans rfl⟩
  show ¬ v.toInt < (0#32).toInt
  rw [e]
  show ¬ ((v.toNat : Int) < 0)
  omega

/-- A table in range is taken at the experts it names. -/
theorem place_at (T : IVec S368 32) (h : ∀ j, (T j).toNat < 32) (n : Fin 368) : (place T (ix2 n (0 : Fin 1))).toInt.toNat = (chosen T n).val := by
  obtain ⟨h1, h2⟩ := not_neg (T (ix1 n)) (h _)
  have e : place T (ix2 n (0 : Fin 1)) = T (ix1 n) := by
    pointwise [place]
    rw [h2]
    rfl
  rw [e, h1, chosen_val T h]
  rfl

/-- The gate of the plain program's experts. -/
def pre (X : FVec Ideal S368x256x1024 .f32) (W : FVec Ideal S368x1024x256 .f32) : FVec Ideal S368x256x256 .f32 :=
  Host.dotGeneral dot_S368x256x1024_S368x1024x256_S368x256x256_2_1_1_2_0_0 none X W

/-- What the plain program's experts make of the blocks. -/
def mlp (X : FVec Ideal S368x256x1024 .f32) (G U : FVec Ideal S368x1024x256 .f32) (D : FVec Ideal S368x256x1024 .f32) : FVec Ideal S368x256x1024 .f32 :=
  Host.dotGeneral dot_S368x256x256_S368x256x1024_S368x256x1024_2_1_1_2_0_0 none
    (mulf (mulf (pre X G) (Host.divf (broadcastInDim S368x256x256 ![] bcast_S_S368x256x256 (constant S_ .f32 0x3F800000#32))
        (addf (broadcastInDim S368x256x256 ![] bcast_S_S368x256x256 (constant S_ .f32 0x3F800000#32)) (Host.exp (Host.negf (pre X G)))))) (pre X U)) D

/-- The gate at an index. -/
theorem pre_at (X : FVec Ideal S368x256x1024 .f32) (W : FVec Ideal S368x1024x256 .f32) (n : Fin 368) (p f : Fin 256) :
    pre X W (ix3 n p f) = ∑ k : Fin 1024, X (ix3 n p k) * W (ix3 n k f) := by
  pointwise [pre]

/-- An expert's rows at an index. -/
theorem mlp_at (X : FVec Ideal S368x256x1024 .f32) (G U : FVec Ideal S368x1024x256 .f32) (D : FVec Ideal S368x256x1024 .f32)
    (X' : FVec Ideal S94208x1024 .f32) (Wg Wu : FVec Ideal S32x1024x256 .f32) (Wd : FVec Ideal S32x256x1024 .f32) (e : Fin 32) (r : Fin 94208)
    (n : Fin 368) (p : Fin 256) (d : Fin 1024) (h0 : ∀ k, X (ix3 n p k) = X' (ix2 r k)) (h1 : ∀ k f, G (ix3 n k f) = Wg (ix3 e k f))
    (h2 : ∀ k f, U (ix3 n k f) = Wu (ix3 e k f)) (h3 : ∀ f d, D (ix3 n f d) = Wd (ix3 e f d)) :
    mlp X G U D (ix3 n p d) = expert X' Wg Wu Wd e r d := by
  pointwise [mlp]
  unfold expert
  simp only [pre_at, h0, h1, h2, h3]

/-- The matrices of the experts a table names, wide and tall. -/
def takeW (W : FVec Ideal S32x1024x256 .f32) (T : IVec S368 32) : FVec Ideal S368x1024x256 .f32 :=
  Host.gather gather_S32x1024x256_S368x1_S368x1024x256_12_0_n_n_0_1_11024256 W (place T)

/-- The last matrices of the experts a table names. -/
def takeD (W : FVec Ideal S32x256x1024 .f32) (T : IVec S368 32) : FVec Ideal S368x256x1024 .f32 :=
  Host.gather gather_S32x256x1024_S368x1_S368x256x1024_12_0_n_n_0_1_12561024 W (place T)

/-- Entry by entry, they are the named experts' matrices. -/
theorem takeW_at (W : FVec Ideal S32x1024x256 .f32) (T : IVec S368 32) (h : ∀ j, (T j).toNat < 32) (n : Fin 368) (k : Fin 1024) (f : Fin 256) :
    takeW W T (ix3 n k f) = W (ix3 (chosen T n) k f) :=
  matrix_at (R := 1024) (Q := 256) _ W (place T) n k f (chosen T n) (place_at T h n)

/-- Entry by entry, they are the named experts' last matrices. -/
theorem takeD_at (W : FVec Ideal S32x256x1024 .f32) (T : IVec S368 32) (h : ∀ j, (T j).toNat < 32) (n : Fin 368) (f : Fin 256) (d : Fin 1024) :
    takeD W T (ix3 n f d) = W (ix3 (chosen T n) f d) :=
  matrix_at (R := 256) (Q := 1024) _ W (place T) n f d (chosen T n) (place_at T h n)

/-- The rows in blocks. -/
def blocks (X : FVec Ideal S94208x1024 .f32) : FVec Ideal S368x256x1024 .f32 := shapeCast _ X shapeCasts_S94208x1024_S368x256x1024

/-- A row of a block is the row of the whole. -/
theorem blocks_at (X : FVec Ideal S94208x1024 .f32) (n : Fin 368) (p : Fin 256) (k : Fin 1024) (r : Fin 94208) (h : r.val = n.val * 256 + p.val) :
    blocks X (ix3 n p k) = X (ix2 r k) := by
  have e : r = ⟨n.val * 256 + p.val, by omega⟩ := Fin.ext h
  rw [e]
  pointwise [blocks]

/-- A table's experts on all blocks. -/
def through (T : IVec S368 32) (X : FVec Ideal S94208x1024 .f32) (Wg Wu : FVec Ideal S32x1024x256 .f32) (Wd : FVec Ideal S32x256x1024 .f32) :
    FVec Ideal S368x256x1024 .f32 := mlp (blocks X) (takeW Wg T) (takeW Wu T) (takeD Wd T)

/-- At an index, the table's experts on all blocks are the named expert on the row. -/
theorem through_at (T : IVec S368 32) (h : ∀ j, (T j).toNat < 32) (X : FVec Ideal S94208x1024 .f32) (Wg Wu : FVec Ideal S32x1024x256 .f32)
    (Wd : FVec Ideal S32x256x1024 .f32) (n : Fin 368) (p : Fin 256) (d : Fin 1024) (r : Fin 94208) (hr : r.val = n.val * 256 + p.val) :
    through T X Wg Wu Wd (ix3 n p d) = expert X Wg Wu Wd (chosen T n) r d :=
  mlp_at _ _ _ _ X Wg Wu Wd (chosen T n) r n p d (fun k => blocks_at X n p k r hr) (takeW_at Wg T h n) (takeW_at Wu T h n) (takeD_at Wd T h n)

/-- The blocks in use. -/
def live (N : IVec S1 32) : IVec S368 1 := cmpi .slt (iotaInDim S368 32 0) (broadcastInDim S368 ![] bcast_S_S368 (shapeCast _ N shapeCasts_S1_S_))

/-- The plain program's result of its arguments. -/
def plain (ta tb : IVec S368 32) (N : IVec S1 32) (X : FVec Ideal S94208x1024 .f32) (Wg Wu : FVec Ideal S32x1024x256 .f32)
    (Wd : FVec Ideal S32x256x1024 .f32) : FVec Ideal S94208x2048 .f32 :=
  shapeCast _ (select (broadcastInDim S368x256x2048 ![0, 1, 2] bcast_S368x1x1_S368x256x2048_0_1_2 (broadcastInDim S368x1x1 ![0] bcast_S368_S368x1x1_0 (live N)))
    (concatenate S368x256x2048 2 [⟨S368x256x1024, through ta X Wg Wu Wd⟩, ⟨S368x256x1024, through tb X Wg Wu Wd⟩] concatenates_S368x256x1024_S368x256x1024_S368x256x2048_d2)
    (broadcastInDim S368x256x2048 ![] bcast_S_S368x256x2048 (id (constant S_ .f32 0x00000000#32)))) shapeCasts_S368x256x2048_S94208x2048

/-- The plain program's run leaves that result. -/
theorem res_eq (m : (ℓ : Loc nD τ sig) → Buf (Elt Ideal) ℓ) (c : Dev nD) : Value.res_main_v60 m c
    = plain (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := rfl

/-- A block is in use where its number is below the count. -/
theorem live_iff (N : IVec S1 32) (n : Fin 368) : live N (ix1 n) = 1#1 ↔ (BitVec.ofNat 32 n.val).toInt < (N (ix1 0)).toInt := by
  have e : live N (ix1 n) = IntOp.cmpi .slt (BitVec.ofNat 32 n.val) (N (ix1 0)) := by
    pointwise [live]
  rw [e]
  by_cases h : (BitVec.ofNat 32 n.val).toInt < (N (ix1 0)).toInt
  · have e' : IntOp.cmpi .slt (BitVec.ofNat 32 n.val) (N (ix1 0)) = 1#1 := (congrArg BitVec.ofBool (decide_eq_true h)).trans rfl
    exact ⟨fun _ => h, fun _ => e'⟩
  · have e' : IntOp.cmpi .slt (BitVec.ofNat 32 n.val) (N (ix1 0)) = 0#1 := (congrArg BitVec.ofBool (decide_eq_false h)).trans rfl
    rw [e']
    exact ⟨fun a => absurd a (by decide), fun a => absurd a h⟩

/-- The plain program's result is the kernel's. -/
theorem plain_eq (ta tb : IVec S368 32) (N : IVec S1 32) (X : FVec Ideal S94208x1024 .f32) (Wg Wu : FVec Ideal S32x1024x256 .f32)
    (Wd : FVec Ideal S32x256x1024 .f32) (ha : ∀ j, (ta j).toNat < 32) (hb : ∀ j, (tb j).toNat < 32) :
    plain ta tb N X Wg Wu Wd = out ta tb (N (ix1 0)) X Wg Wu Wd := by
  funext j
  have e : j = ix2 (j 0) (j 1) := by
    funext a
    match a with
    | ⟨0, _⟩ => rfl
    | ⟨1, _⟩ => rfl
  have h1 : (j 1).val < 2048 := (j 1).isLt
  unfold plain out
  generalize hA : through ta X Wg Wu Wd = A
  generalize hB : through tb X Wg Wu Wd = B
  generalize hL : live N = L
  have hAt : ∀ (n : Fin 368) (p : Fin 256) (d : Fin 1024) (r : Fin 94208), r.val = n.val * 256 + p.val → A (ix3 n p d) = expert X Wg Wu Wd (chosen ta n) r d :=
    fun n p d r h => hA ▸ through_at ta ha X Wg Wu Wd n p d r h
  have hBt : ∀ (n : Fin 368) (p : Fin 256) (d : Fin 1024) (r : Fin 94208), r.val = n.val * 256 + p.val → B (ix3 n p d) = expert X Wg Wu Wd (chosen tb n) r d :=
    fun n p d r h => hB ▸ through_at tb hb X Wg Wu Wd n p d r h
  have hLt : ∀ n : Fin 368, L (ix1 n) = 1#1 ↔ (BitVec.ofNat 32 n.val).toInt < (N (ix1 0)).toInt := fun n => hL ▸ live_iff N n
  pointwise
  have hj : (j 0).val < 94208 := (j 0).isLt
  have hm : (j 0).val = (j 0).val / 256 * 256 + (j 0).val % 256 := by omega
  have hp : (j 0).val % 256 < 256 := Nat.mod_lt _ (by decide)
  by_cases hc : (BitVec.ofNat 32 (blockOf (j 0)).val).toInt < (N (ix1 0)).toInt
  · have hl : L (ix1 (blockOf (j 0))) = 1#1 := (hLt _).mpr hc
    rw [if_pos hc]
    refine (congrArg (fun v => Scalar.select v _ _) hl).trans ?_
    refine Eq.trans (show Scalar.select (1#1) _ _ = _ from rfl) ?_
    by_cases hd : (j 1).val < 1024
    · rw [dif_pos hd, dif_pos hd]
      exact hAt (blockOf (j 0)) ⟨(j 0).val % 256, hp⟩ _ (j 0) hm
    · rw [dif_neg hd, dif_neg hd]
      exact hBt (blockOf (j 0)) ⟨(j 0).val % 256, hp⟩ _ (j 0) hm
  · have hl : L (ix1 (blockOf (j 0))) = 0#1 := (by decide : ∀ v : BitVec 1, v ≠ 1#1 → v = 0#1) _ fun h => hc ((hLt _).mp h)
    rw [if_neg hc]
    refine (congrArg (fun v => Scalar.select v _ _) hl).trans ?_
    refine Eq.trans (show Scalar.select (0#1) _ _ = _ from rfl) ?_
    show constant (F := Ideal) S_ .f32 0x00000000#32 ix0 = 0
    pointwise

end Cert.Experts

end
-- ==== Proof.Experts.lean ====
module

public import proofs.«01_k».proof.Proof.ExpertsOut
public import proofs.«01_k».proof.Proof.ExpertsRef

@[expose] public section

set_option maxRecDepth 16384
set_option maxHeartbeats 1000000

noncomputable section

namespace Cert.Experts

open Cert.Kernel7Ideal Cert.Kernel7Ideal.Gen Cert.Moe Idealize.ShloMosaic Idealize.ShloMosaic.TcCoe Idealize.SL.Sem

/-- The prompt's experts, block by block, give the plain program's result where the tables name experts there are. -/
theorem algebraic : Cert.algebraic_Kernel7Ideal_Reference7Ideal := by
  intro m g m' g' hp hag
  have hr : InRange m := inRange hp
  refine ⟨_, (θ_run defs _ _).mono (fun r h c => ⟨
    ((h.1 c).1 7).trans (final m hr c),
    ((h.1 c).2 main_arg0 (Pipeline.mem_restRefs_of (win := spec0) main_arg0 (by decide) (by decide))).trans (V_arg0 m c),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).1 (0 : Fin 8)).trans (((dats m hr 0 c).arrAt_in (0 : Fin 8) rfl _).trans ((A_eq m hr c 0).trans (V_arg3 m c))),
      ((h.1 c).2 main_arg4 (Pipeline.mem_restRefs_of (win := spec0) main_arg4 (by decide) (by decide))).trans (V_arg4 m c),
      ((h.1 c).2 main_arg5 (Pipeline.mem_restRefs_of (win := spec0) main_arg5 (by decide) (by decide))).trans (V_arg5 m c),
      ((h.1 c).2 main_arg6 (Pipeline.mem_restRefs_of (win := spec0) main_arg6 (by decide) (by decide))).trans (V_arg6 m c)⟩) (run_quiescent m g hr), ?_⟩
  refine (θ_run _ _ _).mono (fun r h c => ⟨(h c).1.trans ?_, (h c).2⟩) (Cert.Reference7Ideal.Value.run m' g')
  obtain ⟨h0, h1, h2, h3, h4, h5, h6⟩ := hag c
  rw [res_eq, h0, h1, h2, h3, h4, h5, h6]
  rw [dev_eq c]
  refine (plain_eq _ _ _ _ _ _ _ hr.1 hr.2).trans ?_
  have e : used m = m (((0 : Dev nD) : Thread nD τ).loc main_arg2) (ix1 0) := (word_at (tables m 2) (ix1 0)).symm
  rw [e]

end Cert.Experts

end
-- ==== Proof.Dense.lean ====
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.ReadBack
public import Idealize.ShloMosaic.Lib.Claim

@[expose] public section

set_option maxRecDepth 16384
set_option maxHeartbeats 1000000

noncomputable section

namespace Cert.Dense

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The point's coordinate is its number. -/
theorem coord : ∀ t : Fin cfg0.N, (grid0.coords t 0).val = t.val := (by decide +kernel : ∀ t : Fin grid0.N, (grid0.coords t 0).val = t.val)

/-- The accumulator starts at zero. -/
theorem hzero (j) : k0_pay3 (F := Ideal) j = 0 := by pointwise [k0_pay3]

/-- The gate a point reads: the one of its expert. -/
theorem hgate (i : grid0.Coords) (g : Vec Ideal S128x128 .f32) (j : S128x1.Idx) :
    k0_pay5 i g j = g (ix2 (j 0) ⟨(i 0).val, Nat.lt_trans (i 0).isLt (by decide)⟩) := by
  pointwise [k0_pay5]
  have hi : (i 0).val < 32 := (i 0).isLt
  rw [Finset.sum_eq_single (⟨(i 0).val, Nat.lt_trans (i 0).isLt (by decide)⟩ : Fin 128)]
  · simp [Scalar.select, IntOp.cmpi]
  · intro b _ hb
    have hb' : b.val ≠ (i 0).val := fun h => hb (Fin.ext h)
    have hn : ¬ BitVec.ofNat 32 b.val = BitVec.ofNat 32 (i 0).val := by
      intro h
      have := congrArg BitVec.toNat h
      simp only [BitVec.toNat_ofNat] at this
      have hb2 := b.isLt
      omega
    have hf : (BitVec.ofNat 32 b.val == BitVec.ofNat 32 (i 0).val) = false := beq_eq_false_iff_ne.mpr hn
    exact if_neg (by show ¬ BitVec.ofBool (BitVec.ofNat 32 b.val == BitVec.ofNat 32 (i 0).val) = 1#1; rw [hf]; decide)
  · intro h; exact absurd (Finset.mem_univ _) h

/-- What a point adds to the accumulator: its gate times its expert's output. -/
theorem hpay (x wg wu wd i g acc) (j : S128x1024.Idx) : k0_pay1 (F := Ideal) (k0_pay4 x wg wu wd) acc (k0_pay5 i g) j
    = acc j + g (ix2 (j 0) ⟨(i 0).val, Nat.lt_trans (i 0).isLt (by decide)⟩) * k0_pay4 x wg wu wd j := by
  pointwise [k0_pay1]
  rw [hgate]
  rfl

/-- What an expert makes of the rows. -/
def expert (X : FVec Ideal S128x1024 .f32) (Wg Wu : FVec Ideal S32x1024x256 .f32) (Wd : FVec Ideal S32x256x1024 .f32) (e : Fin 32) (j : S128x1024.Idx) : EReal :=
  ∑ f : Fin 256, ((∑ k : Fin 1024, X (ix2 (j 0) k) * Wg (ix3 e k f)) *
      Ideal.div 1 (1 + Ideal.exp (- ∑ k : Fin 1024, X (ix2 (j 0) k) * Wg (ix3 e k f))) *
      ∑ k : Fin 1024, X (ix2 (j 0) k) * Wu (ix3 e k f)) * Wd (ix3 e f (j 1))

/-- Where each window stands at a point. -/
theorem idx : ∀ t : Fin cfg0.N, win0_0.index t = ![0, 0] ∧ win0_1.index t = ![0, 0] ∧ win0_2.index t = ![t.val, 0, 0] ∧ win0_3.index t = ![t.val, 0, 0]
    ∧ win0_4.index t = ![t.val, 0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![t.val, 0, 0] ∧ win0_3.index t = ![t.val, 0, 0]
    ∧ win0_4.index t = ![t.val, 0, 0] ∧ win0_5.index t = ![0, 0] ∧ win0_6.index t = ![0, 0] ∧ win0_7.index t = ![0, 0])

/-- The output a point computes is its expert's. -/
theorem expert_at (c : Dev nD) (t : Fin cfg0.N) (j : S128x1024.Idx) :
    k0_pay4 (F := Ideal) (iblk m c 0 t) (iblk m c 2 t) (iblk m c 3 t) (iblk m c 4 t) j
      = expert (m ((c : Thread nD τ).loc main_arg0)) (m ((c : Thread nD τ).loc main_arg2)) (m ((c : Thread nD τ).loc main_arg3))
          (m ((c : Thread nD τ).loc main_arg4)) t j := by
  pointwise [k0_pay4]
  unfold expert
  simp only [zero_sub]
  blk_point [iblk, V, idx t]

/-- The gates are staged whole. -/
theorem gate_at (c : Dev nD) (t : Fin cfg0.N) (j : S128x128.Idx) :
    iblk m c 1 t j = m ((c : Thread nD τ).loc main_arg1) j := by
  blk_point [iblk, V, idx t]

/-- What a point adds to the accumulator. -/
def term (X : FVec Ideal S128x1024 .f32) (G : FVec Ideal S128x128 .f32) (Wg Wu : FVec Ideal S32x1024x256 .f32) (Wd : FVec Ideal S32x256x1024 .f32)
    (e : Fin 32) (j : S128x1024.Idx) : EReal :=
  G (ix2 (j 0) ⟨e.val, Nat.lt_trans e.isLt (by decide)⟩) * expert X Wg Wu Wd e j

/-- The accumulator after a point: what it held and the point's term. -/
theorem acc_at (c : Dev nD) (t : Fin cfg0.N) (acc : FVec Ideal S128x1024 .f32) (j : S128x1024.Idx) :
    k0_pay1 (F := Ideal) (k0_pay4 (iblk m c 0 t) (iblk m c 2 t) (iblk m c 3 t) (iblk m c 4 t)) acc (k0_pay5 (grid0.coords t) (iblk m c 1 t)) j
      = acc j + term (m ((c : Thread nD τ).loc main_arg0)) (m ((c : Thread nD τ).loc main_arg1)) (m ((c : Thread nD τ).loc main_arg2)) (m ((c : Thread nD τ).loc main_arg3)) (m ((c : Thread nD τ).loc main_arg4)) t j := by
  rw [hpay, expert_at, gate_at]
  unfold term
  have e : (⟨(grid0.coords t 0).val, Nat.lt_trans (grid0.coords t 0).isLt (by decide)⟩ : Fin 128) = ⟨t.val, Nat.lt_trans t.isLt (by decide)⟩ := Fin.ext (coord t)
  rw [e]

/-- The accumulator after a point past the first: what the point before left, and the point's term. -/
theorem step (c : Dev nD) (t : Fin cfg0.N) (h0 : ¬ t.val % 32 = 0) (j : S128x1024.Idx) :
    (outsAt0 m c t.val t.isLt).2 j = (outsAt0 m c (t.val - 1) (Nat.lt_of_le_of_lt (Nat.sub_le _ _) t.isLt)).2 j + term (m ((c : Thread nD τ).loc main_arg0)) (m ((c : Thread nD τ).loc main_arg1)) (m ((c : Thread nD τ).loc main_arg2)) (m ((c : Thread nD τ).loc main_arg3)) (m ((c : Thread nD τ).loc main_arg4)) t j := by
  by_cases h1 : t.val % 32 = 31
  · rw [outsAt0_C m c t h0 h1]; frame_out
    rw [read_unread_whole]
    exact acc_at m c t _ j
  · rw [outsAt0_B m c t h0 h1]; frame_out
    rw [read_unread_whole]
    exact acc_at m c t _ j

/-- The accumulator after the first point: its term. -/
theorem start (c : Dev nD) (t : Fin cfg0.N) (h0 : t.val % 32 = 0) (j : S128x1024.Idx) :
    (outsAt0 m c t.val t.isLt).2 j = 0 + term (m ((c : Thread nD τ).loc main_arg0)) (m ((c : Thread nD τ).loc main_arg1)) (m ((c : Thread nD τ).loc main_arg2)) (m ((c : Thread nD τ).loc main_arg3)) (m ((c : Thread nD τ).loc main_arg4)) t j := by
  rw [outsAt0_A m c t h0 (by omega)]; frame_out
  refine (acc_at m c t _ j).trans ?_
  rw [hzero]

/-- After the last point the accumulator holds the terms of all points. -/
theorem total (c : Dev nD) (t : Fin cfg0.N) (h : t.val % 32 = 31) (j : S128x1024.Idx) :
    (outsAt0 m c t.val t.isLt).2 j = ∑ e : Fin 32, term (m ((c : Thread nD τ).loc main_arg0)) (m ((c : Thread nD τ).loc main_arg1)) (m ((c : Thread nD τ).loc main_arg2)) (m ((c : Thread nD τ).loc main_arg3)) (m ((c : Thread nD τ).loc main_arg4)) e j := by
  rw [Pipeline.eq_sum_fin_of_reset_step_apply_of_flush (fun n h => (outsAt0 m c n h).2) 32 (fun _ => (0 : EReal))
    (fun t j => term (m ((c : Thread nD τ).loc main_arg0)) (m ((c : Thread nD τ).loc main_arg1)) (m ((c : Thread nD τ).loc main_arg2)) (m ((c : Thread nD τ).loc main_arg3)) (m ((c : Thread nD τ).loc main_arg4)) t j) (fun t h j => start m c t h j) (fun t h j => step m c t h j) t h j, zero_add]
  have hN : t.val < 32 := t.isLt
  refine Fin.sum_fin_congr fun s => ?_
  refine congrArg (fun e : Fin 32 => term (m ((c : Thread nD τ).loc main_arg0)) (m ((c : Thread nD τ).loc main_arg1)) (m ((c : Thread nD τ).loc main_arg2)) (m ((c : Thread nD τ).loc main_arg3)) (m ((c : Thread nD τ).loc main_arg4)) e j) (Fin.ext ?_)
  show 32 * (t.val / 32) + s.val = s.val
  omega

/-! ## The layer norm -/

/-- What the kernel normalises at its last point. -/
def blockSum (x acc : FVec Ideal S128x1024 .f32) : FVec Ideal S128x1024 .f32 :=
  addf (mulf (broadcast S128x1024 (Scalar.ofBits .f32 0x3FD744FD#32)) x) acc

/-- Its rows less their means. -/
def blockCentred (v : FVec Ideal S128x1024 .f32) : FVec Ideal S128x1024 .f32 :=
  subf v (broadcastTo S128x1024 (divf (shapeCast S128x1 (multiReduction .add [1] S128 v 0x00000000#32 reduces_S128x1024_S128 (.inl rfl) rfl) shapeCasts_S128_S128x1)
    (broadcast S128x1 (Scalar.ofBits .f32 0x44800000#32))) broadcasts_S128x1_S128x1024)

/-- The layer norm from the centred rows. -/
def blockNorm (d : FVec Ideal S128x1024 .f32) (g b : FVec Ideal S1x1024 .f32) : FVec Ideal S128x1024 .f32 :=
  addf (mulf (mulf d (broadcastTo S128x1024 (rsqrt (addf (divf (shapeCast S128x1 (multiReduction .add [1] S128 (mulf d d) 0x00000000#32 reduces_S128x1024_S128 (.inl rfl) rfl) shapeCasts_S128_S128x1)
    (broadcast S128x1 (Scalar.ofBits .f32 0x44800000#32))) (broadcast S128x1 (Scalar.ofBits .f32 0x3727C5AC#32)))) broadcasts_S128x1_S128x1024))
    (broadcastTo S128x1024 (shapeCast S1x1024 g shapeCasts_S1x1024_S1x1024) broadcasts_S1x1024_S128x1024))
    (broadcastTo S128x1024 (shapeCast S1x1024 b shapeCasts_S1x1024_S1x1024) broadcasts_S1x1024_S128x1024)

/-- What the last point writes is the layer norm of its sum. -/
theorem pay_eq (x acc g b) : k0_pay2 (F := Ideal) x acc g b = blockNorm (blockCentred (blockSum x acc)) g b := rfl

/-- What the plain program normalises. -/
def sum (X : FVec Ideal S128x1024 .f32) (G : FVec Ideal S128x128 .f32) (Wg Wu : FVec Ideal S32x1024x256 .f32) (Wd : FVec Ideal S32x256x1024 .f32) : FVec Ideal S128x1024 .f32 :=
  addf (mulf (broadcastInDim S128x1024 ![] Cert.Reference8Ideal.Gen.bcast_S_S128x1024 (constant Cert.Reference8Ideal.S_ .f32 0x3FD744FD#32)) X)
    (Host.dotGeneral Cert.Reference8Ideal.dot_S32x128x1024_S128x32_S128x1024_0_1_2_n_1_0 none (Host.dotGeneral Cert.Reference8Ideal.dot_S32x128x256_S32x256x1024_S32x128x1024_2_1_1_2_0_0 none
      (mulf (mulf (transpose Cert.Reference8Ideal.S32x128x256 [0, 2, 1] (Host.dotGeneral Cert.Reference8Ideal.dot_S32x1024x256_S128x1024_S32x256x128_1_1_02_0_n_n none Wg X) Cert.Reference8Ideal.Gen.transposes_S32x256x128_S32x128x256_0_2_1) (Host.divf (broadcastInDim Cert.Reference8Ideal.S32x128x256 ![] Cert.Reference8Ideal.Gen.bcast_S_S32x128x256 (constant Cert.Reference8Ideal.S_ .f32 0x3F800000#32)) (addf (broadcastInDim Cert.Reference8Ideal.S32x128x256 ![] Cert.Reference8Ideal.Gen.bcast_S_S32x128x256 (constant Cert.Reference8Ideal.S_ .f32 0x3F800000#32)) (Host.exp (Host.negf (transpose Cert.Reference8Ideal.S32x128x256 [0, 2, 1] (Host.dotGeneral Cert.Reference8Ideal.dot_S32x1024x256_S128x1024_S32x256x128_1_1_02_0_n_n none Wg X) Cert.Reference8Ideal.Gen.transposes_S32x256x128_S32x128x256_0_2_1))))))
        (transpose Cert.Reference8Ideal.S32x128x256 [0, 2, 1] (Host.dotGeneral Cert.Reference8Ideal.dot_S32x1024x256_S128x1024_S32x256x128_1_1_02_0_n_n none Wu X) Cert.Reference8Ideal.Gen.transposes_S32x256x128_S32x128x256_0_2_1)) Wd)
      (extractStridedSlice Cert.Reference8Ideal.S128x32 ![0, 0] G Cert.Reference8Ideal.Gen.slices_S128x128_S128x32_0_0))

/-- The rows less their means. -/
def centred (s : FVec Ideal S128x1024 .f32) : FVec Ideal S128x1024 .f32 :=
  subf s (broadcastInDim S128x1024 ![0, 1] Cert.Reference8Ideal.Gen.bcast_S128x1_S128x1024_0_1 (Host.divf (broadcastInDim Cert.Reference8Ideal.S128x1 ![0] Cert.Reference8Ideal.Gen.bcast_S128_S128x1_0 (Host.reduceAdd s (constant Cert.Reference8Ideal.S_ .f32 0x00000000#32) Cert.Reference8Ideal.Gen.reducesTo_S128x1024_S128_d1 Cert.Reference8Ideal.Gen.h_S_)) (broadcastInDim Cert.Reference8Ideal.S128x1 ![] Cert.Reference8Ideal.Gen.bcast_S_S128x1 (constant Cert.Reference8Ideal.S_ .f32 0x44800000#32))))

/-- The layer norm from the centred rows. -/
def norm (d : FVec Ideal S128x1024 .f32) (g b : FVec Ideal S1024 .f32) : FVec Ideal S128x1024 .f32 :=
  addf (mulf (mulf d (broadcastInDim S128x1024 ![0, 1] Cert.Reference8Ideal.Gen.bcast_S128x1_S128x1024_0_1 (Host.rsqrt (addf (Host.divf (broadcastInDim Cert.Reference8Ideal.S128x1 ![0] Cert.Reference8Ideal.Gen.bcast_S128_S128x1_0 (Host.reduceAdd (mulf d d) (constant Cert.Reference8Ideal.S_ .f32 0x00000000#32) Cert.Reference8Ideal.Gen.reducesTo_S128x1024_S128_d1 Cert.Reference8Ideal.Gen.h_S_)) (broadcastInDim Cert.Reference8Ideal.S128x1 ![] Cert.Reference8Ideal.Gen.bcast_S_S128x1 (constant Cert.Reference8Ideal.S_ .f32 0x44800000#32))) (broadcastInDim Cert.Reference8Ideal.S128x1 ![] Cert.Reference8Ideal.Gen.bcast_S_S128x1 (constant Cert.Reference8Ideal.S_ .f32 0x3727C5AC#32))))))
    (broadcastInDim S128x1024 ![0, 1] Cert.Reference8Ideal.Gen.bcast_S1x1024_S128x1024_0_1 (broadcastInDim S1x1024 ![1] Cert.Reference8Ideal.Gen.bcast_S1024_S1x1024_1 g))) (broadcastInDim S128x1024 ![0, 1] Cert.Reference8Ideal.Gen.bcast_S1x1024_S128x1024_0_1 (broadcastInDim S1x1024 ![1] Cert.Reference8Ideal.Gen.bcast_S1024_S1x1024_1 b))

/-- The plain program's result. -/
theorem res_eq (m : (ℓ : Loc Cert.Reference8Ideal.nD Cert.Reference8Ideal.τ Cert.Reference8Ideal.sig) → Buf (Elt Ideal) ℓ) (c : Dev nD) :
    Cert.Reference8Ideal.Value.res_main_v37 m c = transpose Cert.Reference8Ideal.S8x16x1024 [1, 0, 2] (shapeCast Cert.Reference8Ideal.S16x8x1024 (norm (centred (sum (m ((c : Thread Cert.Reference8Ideal.nD Cert.Reference8Ideal.τ).loc Cert.Reference8Ideal.main_arg0)) (m ((c : Thread Cert.Reference8Ideal.nD Cert.Reference8Ideal.τ).loc Cert.Reference8Ideal.main_arg1)) (m ((c : Thread Cert.Reference8Ideal.nD Cert.Reference8Ideal.τ).loc Cert.Reference8Ideal.main_arg2)) (m ((c : Thread Cert.Reference8Ideal.nD Cert.Reference8Ideal.τ).loc Cert.Reference8Ideal.main_arg3)) (m ((c : Thread Cert.Reference8Ideal.nD Cert.Reference8Ideal.τ).loc Cert.Reference8Ideal.main_arg4))))
      (m ((c : Thread Cert.Reference8Ideal.nD Cert.Reference8Ideal.τ).loc Cert.Reference8Ideal.main_arg5)) (m ((c : Thread Cert.Reference8Ideal.nD Cert.Reference8Ideal.τ).loc Cert.Reference8Ideal.main_arg6))) Cert.Reference8Ideal.Gen.shapeCasts_S128x1024_S16x8x1024) Cert.Reference8Ideal.Gen.transposes_S16x8x1024_S8x16x1024_1_0_2 := rfl

/-- The plain program sums the experts' outputs times their gates. -/
theorem sum_eq (X : FVec Ideal S128x1024 .f32) (G : FVec Ideal S128x128 .f32) (Wg Wu : FVec Ideal S32x1024x256 .f32) (Wd : FVec Ideal S32x256x1024 .f32)
    (acc : FVec Ideal S128x1024 .f32) (h : ∀ j, acc j = ∑ e : Fin 32, term X G Wg Wu Wd e j) : blockSum X acc = sum X G Wg Wu Wd := by
  funext j
  pointwise [blockSum, sum]
  rw [h]
  unfold term expert
  refine congrArg (_ + ·) (Finset.sum_congr rfl fun e _ => ?_)
  rw [mul_comm]
  simp only [mul_comm (X _)]

/-- What the last point writes: the layer norm of the scaled rows and the accumulator. -/
theorem out_at (c : Dev nD) (t : Fin cfg0.N) (h : t.val % 32 = 31) :
    (outsAt0 m c t.val t.isLt).1 = k0_pay2 (F := Ideal) (iblk m c 0 t) (outsAt0 m c t.val t.isLt).2 (iblk m c 5 t) (iblk m c 6 t) := by
  rw [outsAt0_C m c t (by omega) h]; frame_out

/-- The rows are staged whole. -/
theorem rows_at (c : Dev nD) (t : Fin cfg0.N) : iblk m c 0 t = m ((c : Thread nD τ).loc main_arg0) := by
  funext j
  blk_point [iblk, V, idx t]

/-- The scale is staged as one row. -/
theorem scale_at (c : Dev nD) (t : Fin cfg0.N) (k : Fin 1024) : iblk m c 5 t (ix2 0 k) = m ((c : Thread nD τ).loc main_arg5) (ix1 k) := by
  have e : V m c main_v3 = shapeCast S1x1024 (m ((c : Thread nD τ).loc main_arg5)) shapeCasts_S1024_S1x1024 := by
    entry_read
    rfl
  have h : iblk m c 5 t (ix2 0 k) = V m c main_v3 (ix2 0 k) := by
    blk_ext [iblk, idx t]
  rw [h, e]
  pointwise

/-- The offset is staged as one row. -/
theorem offset_at (c : Dev nD) (t : Fin cfg0.N) (k : Fin 1024) : iblk m c 6 t (ix2 0 k) = m ((c : Thread nD τ).loc main_arg6) (ix1 k) := by
  have e : V m c main_v4 = shapeCast S1x1024 (m ((c : Thread nD τ).loc main_arg6)) shapeCasts_S1024_S1x1024 := by
    entry_read
    rfl
  have h : iblk m c 6 t (ix2 0 k) = V m c main_v4 (ix2 0 k) := by
    blk_ext [iblk, idx t]
  rw [h, e]
  pointwise

/-- The centred rows are the plain program's. -/
theorem centred_eq (s : FVec Ideal S128x1024 .f32) : blockCentred s = centred s := by
  funext j
  pointwise [blockCentred, centred]

/-- The array after the run: the layer norm of the plain program's sum. -/
def normed (c : Dev nD) : FVec Ideal S128x1024 .f32 :=
  norm (centred (sum (m ((c : Thread nD τ).loc main_arg0)) (m ((c : Thread nD τ).loc main_arg1)) (m ((c : Thread nD τ).loc main_arg2)) (m ((c : Thread nD τ).loc main_arg3)) (m ((c : Thread nD τ).loc main_arg4)))) (m ((c : Thread nD τ).loc main_arg5)) (m ((c : Thread nD τ).loc main_arg6))

/-- What the last point writes, at an index, is the plain program's layer norm there. -/
theorem point (c : Dev nD) (t : Fin cfg0.N) (h : t.val % 32 = 31) (y) : (outsAt0 m c t.val t.isLt).1 y
    = normed m c (((cfg0.win 7).blk t).view.emb y) := by
  rw [out_at m c t h, pay_eq, rows_at, sum_eq _ _ _ _ _ _ (total m c t h), centred_eq]
  unfold normed
  generalize centred _ = d
  have hy : ((cfg0.win 7).blk t).view.emb y = y := by
    blk_ext [idx t]
  rw [hy]
  pointwise [blockNorm, norm]
  exact congrArg₂ (· + ·) (congrArg (_ * ·) (scale_at m c t (y 1))) (offset_at m c t (y 1))

/-- The array after the run is the plain program's layer norm. -/
theorem final (c : Dev nD) : (dats m 0 c).arrAt 7 (cfgs 0).N = normed m c := by
  refine (dats m 0 c).arrAt_eq_of_covers 7 _ (by decide +kernel) fun t hf y => ?_
  blk_simp
  rw [after0_7]
  exact point m c t ((flush0_7 t).mp hf) y

/-- What a buffer the last lines write holds after the run. -/
theorem tail (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := rfl

/-- The last lines find the output's array as the run left it. -/
theorem arr (c : Dev nD) : (Pipeline.withArrays (cfgs 0).spec c (V0 m c) fun w => (dats m 0 c).arrAt w (cfgs 0).N) (Proc.devRef .tc main_v5)
    = (dats m 0 c).arrAt 7 (cfgs 0).N :=
  Pipeline.withArrays_arr (cfgs 0).spec launch0.win.arr_inj c _ _ 7

/-- The result, sequence by sequence, as the last lines lay it out. -/
theorem result (c : Dev nD) : Pipeline.afterTail₀ cfgs (dats m) 0 (V0 m) [hostOps1] c main_v7
    = transpose S8x16x1024 [1, 0, 2] (shapeCast S16x8x1024 (normed m c) shapeCasts_S128x1024_S16x8x1024) transposes_S16x8x1024_S8x16x1024_1_0_2 := by
  rw [tail]
  after_results
  rw [arr m c, final m c]
  rfl

/-- The sample's experts, one point per expert, give the plain program's result. -/
theorem algebraic : Cert.algebraic_Kernel8Ideal_Reference8Ideal := by
  intro m g m' g' _ hag
  refine ⟨_, (θ_run defs _ _).mono (fun r h c => ⟨
    ((h c).2 main_v7 (Pipeline.mem_restRefs_of main_v7 (by decide) (by decide))).trans (result m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩) (run_main m g), ?_⟩
  refine (θ_run _ _ _).mono (fun r h c => ⟨(h c).1.trans ?_, (h c).2⟩) (Cert.Reference8Ideal.Value.run m' g')
  obtain ⟨h0, h1, h2, h3, h4, h5, h6⟩ := hag c
  rw [res_eq, h0, h1, h2, h3, h4, h5, h6]
  rfl

end Cert.Dense

end
-- ==== Proof.In9.lean ====
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Claim

@[expose] public section

set_option maxRecDepth 16384
set_option maxHeartbeats 1000000

noncomputable section

namespace Cert.In9

open Cert.Kernel9Ideal Cert.Kernel9Ideal.Gen Idealize.ShloMosaic Idealize.ShloMosaic.TcCoe Idealize.SL.Sem
open Idealize.ShloMosaic.Pipeline (Dat)

/-- Row `r` of the product, time by time and sequence by sequence within a time, at column `j`. -/
def prod (x : FVec Ideal S8x16x1024 .f32) (w : FVec Ideal S1024x1280 .f32) (r : Fin 128) (j : Fin 1280) : EReal :=
  ∑ k : Fin 1024, x (ix3 ⟨r.val % 8, by omega⟩ ⟨r.val / 8, by omega⟩ k) * w (ix2 k j)

variable (m : (ℓ : Loc nD τ sig) → Buf (Elt Ideal) ℓ)

/-- Where each window stands at a point: there is one point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0])

/-- The staged rows, as the host lays them out. -/
theorem staged (c : Dev nD) : V m c main_v1 = shapeCast S128x1024 (transpose S16x8x1024 [1, 0, 2] (m ((c : Thread nD τ).loc main_arg0)) transposes_S8x16x1024_S16x8x1024_1_0_2) shapeCasts_S16x8x1024_S128x1024 := by
  entry_read
  rfl

/-- The staged rows: row `r` is the input at time `r / 8` of sequence `r % 8`. -/
theorem rows_at (c : Dev nD) (r : Fin 128) (k : Fin 1024) :
    V m c main_v1 (ix2 r k) = m ((c : Thread nD τ).loc main_arg0) (ix3 ⟨r.val % 8, by omega⟩ ⟨r.val / 8, by omega⟩ k) := by
  rw [staged]
  pointwise
  blk_ext

/-- The staged weights are the weights. -/
theorem weights (c : Dev nD) : V m c main_v2 = m ((c : Thread nD τ).loc main_arg3) := by
  entry_read
  rfl

/-- A block of the product, at an index of the block, is the product at the block's place. -/
theorem prod_at (c : Dev nD) (t : Fin cfg0.N) (y : S128x1280.Idx) :
    k0_pay1 (iblk m c 0 t) (iblk m c 1 t) y
      = prod (m ((c : Thread nD τ).loc main_arg0)) (m ((c : Thread nD τ).loc main_arg3)) (y 0) (y 1) := by
  have e0 : ∀ k : Fin 1024, iblk m c 0 t (ix2 (y 0) k) = V m c main_v1 (ix2 (y 0) k) := by
    intro k
    blk_ext [iblk, idx t]
  have e1 : ∀ k : Fin 1024, iblk m c 1 t (ix2 k (y 1)) = V m c main_v2 (ix2 k (y 1)) := by
    intro k
    blk_ext [iblk, idx t]
  pointwise [k0_pay1]
  unfold prod
  refine Finset.sum_congr rfl fun k _ => ?_
  exact congrArg₂ (· * ·) ((e0 k).trans (rows_at m c _ k)) ((e1 k).trans (congrFun (weights m c) _))

/-- Columns 0 to 512 of the product. -/
def cols2 (x : FVec Ideal S8x16x1024 .f32) (w : FVec Ideal S1024x1280 .f32) : FVec Ideal S128x512 .f32 :=
  fun i => prod x w (i 0) ⟨0 + (i 1).val, Nat.lt_of_lt_of_le (Nat.add_lt_add_left (i 1).isLt 0) (by decide)⟩

/-- What a point writes through window 2. -/
theorem point2 (c : Dev nD) (t : Fin cfg0.N) (y) : k0_pay2 (iblk m c 0 t) (iblk m c 1 t) y
    = cols2 (m ((c : Thread nD τ).loc main_arg0)) (m ((c : Thread nD τ).loc main_arg3)) (((cfg0.win 2).blk t).view.emb y) := by
  pointwise [k0_pay2]
  refine (prod_at m c t _).trans ?_
  unfold cols2
  refine congrArg₂ (prod _ _) (Fin.ext ?_) (Fin.ext ?_)
  · blk_simp [idx t]
    try omega
  · blk_simp [idx t]
    try omega

/-- The array of window 2 after the run: columns 0 to 512 of the product. -/
theorem final2 (c : Dev nD) : (dats m 0 c).arrAt 2 (cfgs 0).N
    = cols2 (m ((c : Thread nD τ).loc main_arg0)) (m ((c : Thread nD τ).loc main_arg3)) := by
  refine (dats m 0 c).arrAt_eq_of_covers 2 _ (by decide +kernel) fun t _ y => ?_
  blk_simp
  rw [after0_2]; frame_out
  exact point2 m c t y

/-- Columns 512 to 1024 of the product. -/
def cols3 (x : FVec Ideal S8x16x1024 .f32) (w : FVec Ideal S1024x1280 .f32) : FVec Ideal S128x512 .f32 :=
  fun i => prod x w (i 0) ⟨512 + (i 1).val, Nat.lt_of_lt_of_le (Nat.add_lt_add_left (i 1).isLt 512) (by decide)⟩

/-- What a point writes through window 3. -/
theorem point3 (c : Dev nD) (t : Fin cfg0.N) (y) : k0_pay3 (iblk m c 0 t) (iblk m c 1 t) y
    = cols3 (m ((c : Thread nD τ).loc main_arg0)) (m ((c : Thread nD τ).loc main_arg3)) (((cfg0.win 3).blk t).view.emb y) := by
  pointwise [k0_pay3]
  refine (prod_at m c t _).trans ?_
  unfold cols3
  refine congrArg₂ (prod _ _) (Fin.ext ?_) (Fin.ext ?_)
  · blk_simp [idx t]
    try omega
  · blk_simp [idx t]
    try omega

/-- The array of window 3 after the run: columns 512 to 1024 of the product. -/
theorem final3 (c : Dev nD) : (dats m 0 c).arrAt 3 (cfgs 0).N
    = cols3 (m ((c : Thread nD τ).loc main_arg0)) (m ((c : Thread nD τ).loc main_arg3)) := by
  refine (dats m 0 c).arrAt_eq_of_covers 3 _ (by decide +kernel) fun t _ y => ?_
  blk_simp
  rw [after0_3]; frame_out
  exact point3 m c t y

/-- Columns 1024 to 1152 of the product. -/
def cols4 (x : FVec Ideal S8x16x1024 .f32) (w : FVec Ideal S1024x1280 .f32) : FVec Ideal S128x128 .f32 :=
  fun i => prod x w (i 0) ⟨1024 + (i 1).val, Nat.lt_of_lt_of_le (Nat.add_lt_add_left (i 1).isLt 1024) (by decide)⟩

/-- What a point writes through window 4. -/
theorem point4 (c : Dev nD) (t : Fin cfg0.N) (y) : k0_pay4 (iblk m c 0 t) (iblk m c 1 t) y
    = cols4 (m ((c : Thread nD τ).loc main_arg0)) (m ((c : Thread nD τ).loc main_arg3)) (((cfg0.win 4).blk t).view.emb y) := by
  pointwise [k0_pay4]
  refine (prod_at m c t _).trans ?_
  unfold cols4
  refine congrArg₂ (prod _ _) (Fin.ext ?_) (Fin.ext ?_)
  · blk_simp [idx t]
    try omega
  · blk_simp [idx t]
    try omega

/-- The array of window 4 after the run: columns 1024 to 1152 of the product. -/
theorem final4 (c : Dev nD) : (dats m 0 c).arrAt 4 (cfgs 0).N
    = cols4 (m ((c : Thread nD τ).loc main_arg0)) (m ((c : Thread nD τ).loc main_arg3)) := by
  refine (dats m 0 c).arrAt_eq_of_covers 4 _ (by decide +kernel) fun t _ y => ?_
  blk_simp
  rw [after0_4]; frame_out
  exact point4 m c t y

/-- Columns 1152 to 1280 of the product. -/
def cols5 (x : FVec Ideal S8x16x1024 .f32) (w : FVec Ideal S1024x1280 .f32) : FVec Ideal S128x128 .f32 :=
  fun i => prod x w (i 0) ⟨1152 + (i 1).val, Nat.lt_of_lt_of_le (Nat.add_lt_add_left (i 1).isLt 1152) (by decide)⟩

/-- What a point writes through window 5. -/
theorem point5 (c : Dev nD) (t : Fin cfg0.N) (y) : k0_pay5 (iblk m c 0 t) (iblk m c 1 t) y
    = cols5 (m ((c : Thread nD τ).loc main_arg0)) (m ((c : Thread nD τ).loc main_arg3)) (((cfg0.win 5).blk t).view.emb y) := by
  pointwise [k0_pay5]
  refine (prod_at m c t _).trans ?_
  unfold cols5
  refine congrArg₂ (prod _ _) (Fin.ext ?_) (Fin.ext ?_)
  · blk_simp [idx t]
    try omega
  · blk_simp [idx t]
    try omega

/-- The array of window 5 after the run: columns 1152 to 1280 of the product. -/
theorem final5 (c : Dev nD) : (dats m 0 c).arrAt 5 (cfgs 0).N
    = cols5 (m ((c : Thread nD τ).loc main_arg0)) (m ((c : Thread nD τ).loc main_arg3)) := by
  refine (dats m 0 c).arrAt_eq_of_covers 5 _ (by decide +kernel) fun t _ y => ?_
  blk_simp
  rw [after0_5]; frame_out
  exact point5 m c t y

/-- What a buffer the last lines write holds after the run. -/
theorem tail (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := rfl

/-- What the last lines make of the kept rows and the new ones: the last 128 times of the two together. -/
def kept (old : FVec Ideal S8x128x2x64 .f32) (new : FVec Ideal S128x128 .f32) : FVec Ideal S8x128x2x64 .f32 :=
  shapeCast S8x128x2x64 (transpose S8x128x128 [1, 0, 2] (shapeCast S128x8x128 (extractStridedSlice S1024x128 ![128, 0] (concatenate S1152x128 0 [⟨S1024x128, shapeCast S1024x128 (transpose S128x8x128 [1, 0, 2] (shapeCast S8x128x128 old shapeCasts_S8x128x2x64_S8x128x128) transposes_S8x128x128_S128x8x128_1_0_2) shapeCasts_S128x8x128_S1024x128⟩, ⟨S128x128, new⟩] concatenates_S1024x128_S128x128_S1152x128_d0) slices_S1152x128_S1024x128_128_0) shapeCasts_S1024x128_S128x8x128) transposes_S128x8x128_S8x128x128_1_0_2) shapeCasts_S8x128x128_S8x128x2x64

/-- The last lines find window 4's array as the run left it. -/
theorem arr4 (c : Dev nD) : (Pipeline.withArrays (cfgs 0).spec c (V0 m c) fun w => (dats m 0 c).arrAt w (cfgs 0).N) (Proc.devRef .tc main_v3_2)
    = (dats m 0 c).arrAt 4 (cfgs 0).N :=
  Pipeline.withArrays_arr (cfgs 0).spec launch0.win.arr_inj c _ _ 4

/-- The last lines find the kept keys as they were given. -/
theorem keys_given (c : Dev nD) : (Pipeline.withArrays (cfgs 0).spec c (V0 m c) fun w => (dats m 0 c).arrAt w (cfgs 0).N) (Proc.devRef .tc main_arg1)
    = (m ((c : Thread nD τ).loc main_arg1)) :=
  (Pipeline.withArrays_of_ne _ c (V0 m c) _ main_arg1 (by exact (by decide : ∀ w, Pipeline.arrRef spec0 w ≠ main_arg1))).trans (V_main_arg1 m c)

/-- The keys of the last times, as the last lines lay them out. -/
theorem keys_of (c : Dev nD) : Pipeline.afterTail₀ cfgs (dats m) 0 (V0 m) [hostOps1] c main_v15
    = kept (m ((c : Thread nD τ).loc main_arg1)) ((dats m 0 c).arrAt 4 (cfgs 0).N) := by
  rw [tail, ← arr4 m c, ← keys_given m c]
  generalize (Pipeline.withArrays (cfgs 0).spec c (V0 m c) fun w => (dats m 0 c).arrAt w (cfgs 0).N) = W
  rfl

/-- They are the plain program's. -/
theorem keys_eq (x : FVec Ideal S8x16x1024 .f32) (w : FVec Ideal S1024x1280 .f32) (old : FVec Ideal S8x128x2x64 .f32) :
    kept old (cols4 x w) = extractStridedSlice Cert.Reference9Ideal.S8x128x2x64 ![0, 16, 0, 0] (concatenate Cert.Reference9Ideal.S8x144x2x64 1 [⟨Cert.Reference9Ideal.S8x128x2x64, old⟩, ⟨Cert.Reference9Ideal.S8x16x2x64, (shapeCast _ (extractStridedSlice Cert.Reference9Ideal.S8x16x128 ![0, 0, 1024] (Host.dotGeneral (F := Ideal) (φ₁ := .f32) (φ₂ := .f32) Cert.Reference9Ideal.dot_S8x16x1024_S1024x1280_S8x16x1280_2_0_01_1_n_n none x w) Cert.Reference9Ideal.Gen.slices_S8x16x1280_S8x16x128_0_0_1024) Cert.Reference9Ideal.Gen.shapeCasts_S8x16x128_S8x16x2x64)⟩] Cert.Reference9Ideal.Gen.concatenates_S8x128x2x64_S8x16x2x64_S8x144x2x64_d1) Cert.Reference9Ideal.Gen.slices_S8x144x2x64_S8x128x2x64_0_16_0_0 := by
  funext j
  unfold kept
  pointwise
  by_cases h : (j 1).val < 112
  · rw [dif_pos (by idx_bounds; omega), dif_pos (by idx_bounds; omega)]
    blk_ext
  · rw [dif_neg (by idx_bounds; omega), dif_neg (by idx_bounds; omega)]
    unfold cols4 prod
    refine Finset.sum_congr rfl fun k _ => congrArg₂ (· * ·) ?_ ?_
    · blk_ext
    · blk_ext

/-- After the run, the keys of the last times are the plain program's. -/
theorem keys_run (c : Dev nD) : Pipeline.afterTail₀ cfgs (dats m) 0 (V0 m) [hostOps1] c main_v15
    = extractStridedSlice Cert.Reference9Ideal.S8x128x2x64 ![0, 16, 0, 0] (concatenate Cert.Reference9Ideal.S8x144x2x64 1 [⟨Cert.Reference9Ideal.S8x128x2x64, (m ((c : Thread nD τ).loc main_arg1))⟩, ⟨Cert.Reference9Ideal.S8x16x2x64, (shapeCast _ (extractStridedSlice Cert.Reference9Ideal.S8x16x128 ![0, 0, 1024] (Host.dotGeneral (F := Ideal) (φ₁ := .f32) (φ₂ := .f32) Cert.Reference9Ideal.dot_S8x16x1024_S1024x1280_S8x16x1280_2_0_01_1_n_n none (m ((c : Thread nD τ).loc main_arg0)) (m ((c : Thread nD τ).loc main_arg3))) Cert.Reference9Ideal.Gen.slices_S8x16x1280_S8x16x128_0_0_1024) Cert.Reference9Ideal.Gen.shapeCasts_S8x16x128_S8x16x2x64)⟩] Cert.Reference9Ideal.Gen.concatenates_S8x128x2x64_S8x16x2x64_S8x144x2x64_d1) Cert.Reference9Ideal.Gen.slices_S8x144x2x64_S8x128x2x64_0_16_0_0 := by
  rw [keys_of m c, final4 m c]; exact keys_eq _ _ _

/-- The last lines find window 5's array as the run left it. -/
theorem arr5 (c : Dev nD) : (Pipeline.withArrays (cfgs 0).spec c (V0 m c) fun w => (dats m 0 c).arrAt w (cfgs 0).N) (Proc.devRef .tc main_v3_3)
    = (dats m 0 c).arrAt 5 (cfgs 0).N :=
  Pipeline.withArrays_arr (cfgs 0).spec launch0.win.arr_inj c _ _ 5

/-- The last lines find the kept values as they were given. -/
theorem values_given (c : Dev nD) : (Pipeline.withArrays (cfgs 0).spec c (V0 m c) fun w => (dats m 0 c).arrAt w (cfgs 0).N) (Proc.devRef .tc main_arg2)
    = (m ((c : Thread nD τ).loc main_arg2)) :=
  (Pipeline.withArrays_of_ne _ c (V0 m c) _ main_arg2 (by exact (by decide : ∀ w, Pipeline.arrRef spec0 w ≠ main_arg2))).trans (V_main_arg2 m c)

/-- The values of the last times, as the last lines lay them out. -/
theorem values_of (c : Dev nD) : Pipeline.afterTail₀ cfgs (dats m) 0 (V0 m) [hostOps1] c main_v19
    = kept (m ((c : Thread nD τ).loc main_arg2)) ((dats m 0 c).arrAt 5 (cfgs 0).N) := by
  rw [tail, ← arr5 m c, ← values_given m c]
  generalize (Pipeline.withArrays (cfgs 0).spec c (V0 m c) fun w => (dats m 0 c).arrAt w (cfgs 0).N) = W
  rfl

/-- They are the plain program's. -/
theorem values_eq (x : FVec Ideal S8x16x1024 .f32) (w : FVec Ideal S1024x1280 .f32) (old : FVec Ideal S8x128x2x64 .f32) :
    kept old (cols5 x w) = extractStridedSlice Cert.Reference9Ideal.S8x128x2x64 ![0, 16, 0, 0] (concatenate Cert.Reference9Ideal.S8x144x2x64 1 [⟨Cert.Reference9Ideal.S8x128x2x64, old⟩, ⟨Cert.Reference9Ideal.S8x16x2x64, (shapeCast _ (extractStridedSlice Cert.Reference9Ideal.S8x16x128 ![0, 0, 1152] (Host.dotGeneral (F := Ideal) (φ₁ := .f32) (φ₂ := .f32) Cert.Reference9Ideal.dot_S8x16x1024_S1024x1280_S8x16x1280_2_0_01_1_n_n none x w) Cert.Reference9Ideal.Gen.slices_S8x16x1280_S8x16x128_0_0_1152) Cert.Reference9Ideal.Gen.shapeCasts_S8x16x128_S8x16x2x64)⟩] Cert.Reference9Ideal.Gen.concatenates_S8x128x2x64_S8x16x2x64_S8x144x2x64_d1) Cert.Reference9Ideal.Gen.slices_S8x144x2x64_S8x128x2x64_0_16_0_0 := by
  funext j
  unfold kept
  pointwise
  by_cases h : (j 1).val < 112
  · rw [dif_pos (by idx_bounds; omega), dif_pos (by idx_bounds; omega)]
    blk_ext
  · rw [dif_neg (by idx_bounds; omega), dif_neg (by idx_bounds; omega)]
    unfold cols5 prod
    refine Finset.sum_congr rfl fun k _ => congrArg₂ (· * ·) ?_ ?_
    · blk_ext
    · blk_ext

/-- After the run, the values of the last times are the plain program's. -/
theorem values_run (c : Dev nD) : Pipeline.afterTail₀ cfgs (dats m) 0 (V0 m) [hostOps1] c main_v19
    = extractStridedSlice Cert.Reference9Ideal.S8x128x2x64 ![0, 16, 0, 0] (concatenate Cert.Reference9Ideal.S8x144x2x64 1 [⟨Cert.Reference9Ideal.S8x128x2x64, (m ((c : Thread nD τ).loc main_arg2))⟩, ⟨Cert.Reference9Ideal.S8x16x2x64, (shapeCast _ (extractStridedSlice Cert.Reference9Ideal.S8x16x128 ![0, 0, 1152] (Host.dotGeneral (F := Ideal) (φ₁ := .f32) (φ₂ := .f32) Cert.Reference9Ideal.dot_S8x16x1024_S1024x1280_S8x16x1280_2_0_01_1_n_n none (m ((c : Thread nD τ).loc main_arg0)) (m ((c : Thread nD τ).loc main_arg3))) Cert.Reference9Ideal.Gen.slices_S8x16x1280_S8x16x128_0_0_1152) Cert.Reference9Ideal.Gen.shapeCasts_S8x16x128_S8x16x2x64)⟩] Cert.Reference9Ideal.Gen.concatenates_S8x128x2x64_S8x16x2x64_S8x144x2x64_d1) Cert.Reference9Ideal.Gen.slices_S8x144x2x64_S8x128x2x64_0_16_0_0 := by
  rw [values_of m c, final5 m c]; exact values_eq _ _ _

/-- The columns of window 2 are the plain program's. -/
theorem cols2_eq (x : FVec Ideal S8x16x1024 .f32) (w : FVec Ideal S1024x1280 .f32) :
    cols2 x w = shapeCast _ (transpose Cert.Reference9Ideal.S16x8x512 [1, 0, 2] (extractStridedSlice Cert.Reference9Ideal.S8x16x512 ![0, 0, 0] (Host.dotGeneral Cert.Reference9Ideal.dot_S8x16x1024_S1024x1280_S8x16x1280_2_0_01_1_n_n none x w) Cert.Reference9Ideal.Gen.slices_S8x16x1280_S8x16x512_0_0_0) Cert.Reference9Ideal.Gen.transposes_S8x16x512_S16x8x512_1_0_2) Cert.Reference9Ideal.Gen.shapeCasts_S16x8x512_S128x512 := by
  funext j
  pointwise
  unfold cols2 prod
  refine Finset.sum_congr rfl fun k _ => congrArg₂ (· * ·) ?_ ?_
  · blk_ext
  · blk_ext

/-- The columns of window 3 are the plain program's. -/
theorem cols3_eq (x : FVec Ideal S8x16x1024 .f32) (w : FVec Ideal S1024x1280 .f32) :
    cols3 x w = shapeCast _ (transpose Cert.Reference9Ideal.S16x8x512 [1, 0, 2] (extractStridedSlice Cert.Reference9Ideal.S8x16x512 ![0, 0, 512] (Host.dotGeneral Cert.Reference9Ideal.dot_S8x16x1024_S1024x1280_S8x16x1280_2_0_01_1_n_n none x w) Cert.Reference9Ideal.Gen.slices_S8x16x1280_S8x16x512_0_0_512) Cert.Reference9Ideal.Gen.transposes_S8x16x512_S16x8x512_1_0_2) Cert.Reference9Ideal.Gen.shapeCasts_S16x8x512_S128x512 := by
  funext j
  pointwise
  unfold cols3 prod
  refine Finset.sum_congr rfl fun k _ => congrArg₂ (· * ·) ?_ ?_
  · blk_ext
  · blk_ext

/-- The projection is that of the plain program, and so are the keys and values kept. -/
theorem algebraic : Cert.algebraic_Kernel9Ideal_Reference9Ideal := by
  intro m g m' g' _ hag
  refine ⟨_, _, _, _, (θ_run defs _ _).mono (fun r h c => ⟨((h c).1 2).trans ((final2 m c).trans (cols2_eq _ _)), ((h c).1 3).trans ((final3 m c).trans (cols3_eq _ _)),
    ((h c).2 main_v15 (Pipeline.mem_restRefs_of main_v15 (by decide) (by decide))).trans (keys_run m c),
    ((h c).2 main_v19 (Pipeline.mem_restRefs_of main_v19 (by decide) (by decide))).trans (values_run m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m g), ?_⟩
  · refine (θ_run _ _ _).mono (fun r h c => ?_) (Cert.Reference9Ideal.Value.run m' g')
    have h' := h c
    rw [(hag c).1, (hag c).2.1, (hag c).2.2.1, (hag c).2.2.2] at h'
    rw [(hag c).1, (hag c).2.1, (hag c).2.2.1, (hag c).2.2.2]
    exact h'

end Cert.In9

end
-- ==== Proof.In10.lean ====
module

public import proofs.«01_k».proof.Defs
public import proofs.«01_k».proof.Proof.Gen.Kernel10Ideal.Frame
public import proofs.«01_k».proof.Proof.Gen.Reference10Ideal.Run
public import Idealize.ShloMosaic.Lib.Pipeline.ValueKit
public import Idealize.ShloMosaic.Lib.Claim

@[expose] public section

set_option maxRecDepth 16384
set_option maxHeartbeats 1000000

noncomputable section

namespace Cert.In10

open Cert.Kernel10Ideal Cert.Kernel10Ideal.Gen Idealize.ShloMosaic Idealize.ShloMosaic.TcCoe Idealize.SL.Sem
open Idealize.ShloMosaic.Pipeline (Dat)

/-- Row `r` of the product, time by time and sequence by sequence within a time, at column `j`. -/
def prod (x : FVec Ideal S8x16x1024 .f32) (w : FVec Ideal S1024x2816 .f32) (r : Fin 128) (j : Fin 2816) : EReal :=
  ∑ k : Fin 1024, x (ix3 ⟨r.val % 8, by omega⟩ ⟨r.val / 8, by omega⟩ k) * w (ix2 k j)

variable (m : (ℓ : Loc nD τ sig) → Buf (Elt Ideal) ℓ)

/-- Where each window stands at a point: there is one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

/-- The staged rows, as the host lays them out. -/
theorem staged (c : Dev nD) : V m c main_v1 = shapeCast S128x1024 (transpose S16x8x1024 [1, 0, 2] (m ((c : Thread nD τ).loc main_arg0)) transposes_S8x16x1024_S16x8x1024_1_0_2) shapeCasts_S16x8x1024_S128x1024 := by
  entry_read
  rfl

/-- The staged rows: row `r` is the input at time `r / 8` of sequence `r % 8`. -/
theorem rows_at (c : Dev nD) (r : Fin 128) (k : Fin 1024) :
    V m c main_v1 (ix2 r k) = m ((c : Thread nD τ).loc main_arg0) (ix3 ⟨r.val % 8, by omega⟩ ⟨r.val / 8, by omega⟩ k) := by
  rw [staged]
  pointwise
  blk_ext

/-- The staged weights are the weights. -/
theorem weights (c : Dev nD) : V m c main_v2 = m ((c : Thread nD τ).loc main_arg2) := by
  entry_read
  rfl

/-- A block of the product, at an index of the block, is the product at the block's place. -/
theorem prod_at (c : Dev nD) (t : Fin cfg0.N) (y : S128x2816.Idx) :
    k0_pay1 (iblk m c 0 t) (iblk m c 1 t) y
      = prod (m ((c : Thread nD τ).loc main_arg0)) (m ((c : Thread nD τ).loc main_arg2)) (y 0) (y 1) := by
  have e0 : ∀ k : Fin 1024, iblk m c 0 t (ix2 (y 0) k) = V m c main_v1 (ix2 (y 0) k) := by
    intro k
    blk_ext [iblk, idx t]
  have e1 : ∀ k : Fin 1024, iblk m c 1 t (ix2 k (y 1)) = V m c main_v2 (ix2 k (y 1)) := by
    intro k
    blk_ext [iblk, idx t]
  pointwise [k0_pay1]
  unfold prod
  refine Finset.sum_congr rfl fun k _ => ?_
  exact congrArg₂ (· * ·) ((e0 k).trans (rows_at m c _ k)) ((e1 k).trans (congrFun (weights m c) _))

/-- Columns 0 to 2560 of the product. -/
def cols2 (x : FVec Ideal S8x16x1024 .f32) (w : FVec Ideal S1024x2816 .f32) : FVec Ideal S128x2560 .f32 :=
  fun i => prod x w (i 0) ⟨0 + (i 1).val, Nat.lt_of_lt_of_le (Nat.add_lt_add_left (i 1).isLt 0) (by decide)⟩

/-- What a point writes through window 2. -/
theorem point2 (c : Dev nD) (t : Fin cfg0.N) (y) : k0_pay2 (iblk m c 0 t) (iblk m c 1 t) y
    = cols2 (m ((c : Thread nD τ).loc main_arg0)) (m ((c : Thread nD τ).loc main_arg2)) (((cfg0.win 2).blk t).view.emb y) := by
  pointwise [k0_pay2]
  refine (prod_at m c t _).trans ?_
  unfold cols2
  refine congrArg₂ (prod _ _) (Fin.ext ?_) (Fin.ext ?_)
  · blk_simp [idx t]
    try omega
  · blk_simp [idx t]
    try omega

/-- The array of window 2 after the run: columns 0 to 2560 of the product. -/
theorem final2 (c : Dev nD) : (dats m 0 c).arrAt 2 (cfgs 0).N
    = cols2 (m ((c : Thread nD τ).loc main_arg0)) (m ((c : Thread nD τ).loc main_arg2)) := by
  refine (dats m 0 c).arrAt_eq_of_covers 2 _ (by decide +kernel) fun t _ y => ?_
  blk_simp
  rw [after0_2]; frame_out
  exact point2 m c t y

/-- Columns 2560 to 2816 of the product. -/
def cols3 (x : FVec Ideal S8x16x1024 .f32) (w : FVec Ideal S1024x2816 .f32) : FVec Ideal S128x256 .f32 :=
  fun i => prod x w (i 0) ⟨2560 + (i 1).val, Nat.lt_of_lt_of_le (Nat.add_lt_add_left (i 1).isLt 2560) (by decide)⟩

/-- What a point writes through window 3. -/
theorem point3 (c : Dev nD) (t : Fin cfg0.N) (y) : k0_pay3 (iblk m c 0 t) (iblk m c 1 t) y
    = cols3 (m ((c : Thread nD τ).loc main_arg0)) (m ((c : Thread nD τ).loc main_arg2)) (((cfg0.win 3).blk t).view.emb y) := by
  pointwise [k0_pay3]
  refine (prod_at m c t _).trans ?_
  unfold cols3
  refine congrArg₂ (prod _ _) (Fin.ext ?_) (Fin.ext ?_)
  · blk_simp [idx t]
    try omega
  · blk_simp [idx t]
    try omega

/-- The array of window 3 after the run: columns 2560 to 2816 of the product. -/
theorem final3 (c : Dev nD) : (dats m 0 c).arrAt 3 (cfgs 0).N
    = cols3 (m ((c : Thread nD τ).loc main_arg0)) (m ((c : Thread nD τ).loc main_arg2)) := by
  refine (dats m 0 c).arrAt_eq_of_covers 3 _ (by decide +kernel) fun t _ y => ?_
  blk_simp
  rw [after0_3]; frame_out
  exact point3 m c t y

/-- What a buffer the last lines write holds after the run. -/
theorem tail (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := rfl

/-- The last lines find window 2's array as the run left it. -/
theorem arr2 (c : Dev nD) : (Pipeline.withArrays (cfgs 0).spec c (V0 m c) fun w => (dats m 0 c).arrAt w (cfgs 0).N) (Proc.devRef .tc main_v3_0)
    = (dats m 0 c).arrAt 2 (cfgs 0).N :=
  Pipeline.withArrays_arr (cfgs 0).spec launch0.win.arr_inj c _ _ 2

/-- The last lines find window 3's array as the run left it. -/
theorem arr3 (c : Dev nD) : (Pipeline.withArrays (cfgs 0).spec c (V0 m c) fun w => (dats m 0 c).arrAt w (cfgs 0).N) (Proc.devRef .tc main_v3_1)
    = (dats m 0 c).arrAt 3 (cfgs 0).N :=
  Pipeline.withArrays_arr (cfgs 0).spec launch0.win.arr_inj c _ _ 3

/-- The rows of the last time, as the last lines cut them out. -/
theorem last_of (c : Dev nD) : Pipeline.afterTail₀ cfgs (dats m) 0 (V0 m) [hostOps1] c main_v11
    = extractStridedSlice S8x2560 ![120, 0] ((dats m 0 c).arrAt 2 (cfgs 0).N) slices_S128x2560_S8x2560_120_0 := by
  rw [tail]
  after_results
  rw [arr2 m c]

/-- They are the plain program's. -/
theorem last_eq (x : FVec Ideal S8x16x1024 .f32) (w : FVec Ideal S1024x2816 .f32) :
    extractStridedSlice S8x2560 ![120, 0] (cols2 x w) slices_S128x2560_S8x2560_120_0 = shapeCast _ (extractStridedSlice Cert.Reference10Ideal.S8x1x2560 ![0, 15, 0] (extractStridedSlice Cert.Reference10Ideal.S8x16x2560 ![0, 0, 0] (Host.dotGeneral (F := Ideal) (φ₁ := .f32) (φ₂ := .f32) Cert.Reference10Ideal.dot_S8x16x1024_S1024x2816_S8x16x2816_2_0_01_1_n_n none x w) Cert.Reference10Ideal.Gen.slices_S8x16x2816_S8x16x2560_0_0_0) Cert.Reference10Ideal.Gen.slices_S8x16x2560_S8x1x2560_0_15_0) Cert.Reference10Ideal.Gen.shapeCasts_S8x1x2560_S8x2560 := by
  funext j
  pointwise
  unfold cols2 prod
  refine Finset.sum_congr rfl fun k _ => congrArg₂ (· * ·) ?_ ?_
  · blk_ext
  · blk_ext

/-- What the last lines make of the rows given and the new ones: the last fifteen times of the two together. -/
def kept (old : FVec Ideal S8x15x256 .f32) (new : FVec Ideal S128x256 .f32) : FVec Ideal S8x15x256 .f32 :=
  transpose S8x15x256 [1, 0, 2] (shapeCast S15x8x256 (extractStridedSlice S120x256 ![136, 0] (concatenate S256x256 0 [⟨S8x256, broadcastInDim S8x256 ![] bcast_S_S8x256 (constant (F := Ideal) S_ .f32 0x00000000#32)⟩, ⟨S120x256, shapeCast S120x256 (transpose S15x8x256 [1, 0, 2] old transposes_S8x15x256_S15x8x256_1_0_2) shapeCasts_S15x8x256_S120x256⟩, ⟨S128x256, new⟩] concatenates_S8x256_S120x256_S128x256_S256x256_d0) slices_S256x256_S120x256_136_0) shapeCasts_S120x256_S15x8x256) transposes_S15x8x256_S8x15x256_1_0_2

/-- The last lines find the rows given as they were. -/
theorem given (c : Dev nD) : (Pipeline.withArrays (cfgs 0).spec c (V0 m c) fun w => (dats m 0 c).arrAt w (cfgs 0).N) (Proc.devRef .tc main_arg1)
    = (m ((c : Thread nD τ).loc main_arg1)) :=
  (Pipeline.withArrays_of_ne _ c (V0 m c) _ main_arg1 (by exact (by decide : ∀ w, Pipeline.arrRef spec0 w ≠ main_arg1))).trans (V_main_arg1 m c)

/-- The rows kept for the next step, as the last lines lay them out. -/
theorem kept_of (c : Dev nD) : Pipeline.afterTail₀ cfgs (dats m) 0 (V0 m) [hostOps1] c main_v10
    = kept (m ((c : Thread nD τ).loc main_arg1)) ((dats m 0 c).arrAt 3 (cfgs 0).N) := by
  rw [tail, ← arr3 m c, ← given m c]
  generalize (Pipeline.withArrays (cfgs 0).spec c (V0 m c) fun w => (dats m 0 c).arrAt w (cfgs 0).N) = W
  rfl

/-- They are the plain program's. -/
theorem kept_eq (x : FVec Ideal S8x16x1024 .f32) (w : FVec Ideal S1024x2816 .f32) (old : FVec Ideal S8x15x256 .f32) :
    kept old (cols3 x w) = extractStridedSlice Cert.Reference10Ideal.S8x15x256 ![0, 16, 0] (concatenate Cert.Reference10Ideal.S8x31x256 1 [⟨Cert.Reference10Ideal.S8x15x256, old⟩, ⟨Cert.Reference10Ideal.S8x16x256, (extractStridedSlice Cert.Reference10Ideal.S8x16x256 ![0, 0, 2560] (Host.dotGeneral (F := Ideal) (φ₁ := .f32) (φ₂ := .f32) Cert.Reference10Ideal.dot_S8x16x1024_S1024x2816_S8x16x2816_2_0_01_1_n_n none x w) Cert.Reference10Ideal.Gen.slices_S8x16x2816_S8x16x256_0_0_2560)⟩] Cert.Reference10Ideal.Gen.concatenates_S8x15x256_S8x16x256_S8x31x256_d1) Cert.Reference10Ideal.Gen.slices_S8x31x256_S8x15x256_0_16_0 := by
  funext j
  unfold kept
  pointwise
  rw [dif_neg (by idx_bounds; omega), dif_neg (by idx_bounds; omega), dif_neg (by idx_bounds; omega)]
  unfold cols3 prod
  refine Finset.sum_congr rfl fun k _ => congrArg₂ (· * ·) ?_ ?_
  · blk_ext
  · blk_ext

/-- The columns of window 2 are the plain program's. -/
theorem cols2_eq (x : FVec Ideal S8x16x1024 .f32) (w : FVec Ideal S1024x2816 .f32) :
    cols2 x w = shapeCast _ (transpose Cert.Reference10Ideal.S16x8x2560 [1, 0, 2] (extractStridedSlice Cert.Reference10Ideal.S8x16x2560 ![0, 0, 0] (Host.dotGeneral Cert.Reference10Ideal.dot_S8x16x1024_S1024x2816_S8x16x2816_2_0_01_1_n_n none x w) Cert.Reference10Ideal.Gen.slices_S8x16x2816_S8x16x2560_0_0_0) Cert.Reference10Ideal.Gen.transposes_S8x16x2560_S16x8x2560_1_0_2) Cert.Reference10Ideal.Gen.shapeCasts_S16x8x2560_S128x2560 := by
  funext j
  pointwise
  unfold cols2 prod
  refine Finset.sum_congr rfl fun k _ => congrArg₂ (· * ·) ?_ ?_
  · blk_ext
  · blk_ext

/-- After the run the rows of the last time are the plain program's. -/
theorem last_run (c : Dev nD) : Pipeline.afterTail₀ cfgs (dats m) 0 (V0 m) [hostOps1] c main_v11
    = shapeCast _ (extractStridedSlice Cert.Reference10Ideal.S8x1x2560 ![0, 15, 0] (extractStridedSlice Cert.Reference10Ideal.S8x16x2560 ![0, 0, 0] (Host.dotGeneral (F := Ideal) (φ₁ := .f32) (φ₂ := .f32) Cert.Reference10Ideal.dot_S8x16x1024_S1024x2816_S8x16x2816_2_0_01_1_n_n none (m ((c : Thread nD τ).loc main_arg0)) (m ((c : Thread nD τ).loc main_arg2))) Cert.Reference10Ideal.Gen.slices_S8x16x2816_S8x16x2560_0_0_0) Cert.Reference10Ideal.Gen.slices_S8x16x2560_S8x1x2560_0_15_0) Cert.Reference10Ideal.Gen.shapeCasts_S8x1x2560_S8x2560 := by
  rw [last_of m c, final2 m c]; exact last_eq _ _

/-- After the run the rows kept are the plain program's. -/
theorem kept_run (c : Dev nD) : Pipeline.afterTail₀ cfgs (dats m) 0 (V0 m) [hostOps1] c main_v10
    = extractStridedSlice Cert.Reference10Ideal.S8x15x256 ![0, 16, 0] (concatenate Cert.Reference10Ideal.S8x31x256 1 [⟨Cert.Reference10Ideal.S8x15x256, (m ((c : Thread nD τ).loc main_arg1))⟩, ⟨Cert.Reference10Ideal.S8x16x256, (extractStridedSlice Cert.Reference10Ideal.S8x16x256 ![0, 0, 2560] (Host.dotGeneral (F := Ideal) (φ₁ := .f32) (φ₂ := .f32) Cert.Reference10Ideal.dot_S8x16x1024_S1024x2816_S8x16x2816_2_0_01_1_n_n none (m ((c : Thread nD τ).loc main_arg0)) (m ((c : Thread nD τ).loc main_arg2))) Cert.Reference10Ideal.Gen.slices_S8x16x2816_S8x16x256_0_0_2560)⟩] Cert.Reference10Ideal.Gen.concatenates_S8x15x256_S8x16x256_S8x31x256_d1) Cert.Reference10Ideal.Gen.slices_S8x31x256_S8x15x256_0_16_0 := by
  rw [kept_of m c, final3 m c]; exact kept_eq _ _ _

/-- The projection is that of the plain program, and so are the rows kept. -/
theorem algebraic : Cert.algebraic_Kernel10Ideal_Reference10Ideal := by
  intro m g m' g' _ hag
  refine ⟨_, _, _, (θ_run defs _ _).mono (fun r h c => ⟨((h c).1 2).trans ((final2 m c).trans (cols2_eq _ _)),
    ((h c).2 main_v11 (Pipeline.mem_restRefs_of main_v11 (by decide) (by decide))).trans (last_run m c),
    ((h c).2 main_v10 (Pipeline.mem_restRefs_of main_v10 (by decide) (by decide))).trans (kept_run m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m g), ?_⟩
  · refine (θ_run _ _ _).mono (fun r h c => ?_) (Cert.Reference10Ideal.Value.run m' g')
    have h' := h c
    rw [(hag c).1, (hag c).2.1, (hag c).2.2] at h'
    rw [(hag c).1, (hag c).2.1, (hag c).2.2]
    exact h'

end Cert.In10

end
-- ==== Proof.lean ====
module

public import proofs.«01_k».proof.Proof.Frames
public import proofs.«01_k».proof.Proof.InRange
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Attention
public import proofs.«01_k».proof.Proof.In2
public import proofs.«01_k».proof.Proof.In3
public import proofs.«01_k».proof.Proof.Out4
public import proofs.«01_k».proof.Proof.Out5
public import proofs.«01_k».proof.Proof.Glu
public import proofs.«01_k».proof.Proof.Experts
public import proofs.«01_k».proof.Proof.Dense
public import proofs.«01_k».proof.Proof.In9
public import proofs.«01_k».proof.Proof.In10

@[expose] public section

namespace Cert.Proof

/-- Every claim: the frames of every program, the kernels being their own idealizations, and each kernel's results
    equal to its reference's in exact arithmetic. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_experts_exist.Gen.facts,
    Cert.Frames.kernel, Cert.Frames.kernelIdeal, Cert.Frames.reference,
    Cert.Frames.kernel2, Cert.Frames.kernel2Ideal, Cert.Frames.reference2,
    Cert.Frames.kernel3, Cert.Frames.kernel3Ideal, Cert.Frames.reference3,
    Cert.Frames.kernel4, Cert.Frames.kernel4Ideal, Cert.Frames.reference4,
    Cert.Frames.kernel5, Cert.Frames.kernel5Ideal, Cert.Frames.reference5,
    Cert.Frames.kernel6, Cert.Frames.kernel6Ideal, Cert.Frames.reference6,
    Cert.Frames.kernel7, Cert.Frames.kernel7Ideal, Cert.Frames.reference7, Cert.Frames.reference7InRange,
    Cert.Frames.kernel8, Cert.Frames.kernel8Ideal, Cert.Frames.reference8,
    Cert.Frames.kernel9, Cert.Frames.kernel9Ideal, Cert.Frames.reference9,
    Cert.Frames.kernel10, Cert.Frames.kernel10Ideal, Cert.Frames.reference10,
    trivial, Cert.Attention.algebraic, trivial, Cert.In2.algebraic, trivial, Cert.In3.algebraic, trivial, Cert.Out4.algebraic, trivial, Cert.Out5.algebraic, trivial, Cert.Glu.algebraic, trivial, Cert.Experts.algebraic, trivial, Cert.Dense.algebraic, trivial, Cert.In9.algebraic, trivial, Cert.In10.algebraic⟩

end Cert.Proof

end
